-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite [hPre_finite : Cert.Pre_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4)) (m ((c.tc : Thread Cert.FwdKernelIdeal.nD Cert.FwdKernelIdeal.τ).loc Cert.FwdKernelIdeal.main_arg5)) (m ((c.tc : Thread Cert.FwdKernelIdeal.nD Cert.FwdKernelIdeal.τ).loc Cert.FwdKernelIdeal.main_arg6)) (m ((c.tc : Thread Cert.FwdKernelIdeal.nD Cert.FwdKernelIdeal.τ).loc Cert.FwdKernelIdeal.main_arg7))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4)) (m ((c.tc : Thread Cert.FwdReferenceIdeal.nD Cert.FwdReferenceIdeal.τ).loc Cert.FwdReferenceIdeal.main_arg5)) (m ((c.tc : Thread Cert.FwdReferenceIdeal.nD Cert.FwdReferenceIdeal.τ).loc Cert.FwdReferenceIdeal.main_arg6)) (m ((c.tc : Thread Cert.FwdReferenceIdeal.nD Cert.FwdReferenceIdeal.τ).loc Cert.FwdReferenceIdeal.main_arg7))) = (fun _ => 1#1)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite [hFfnKernelIdeal : Cert.FfnKernelIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6)
      ∧ r.2.mem ((c.tc : Thread Cert.FwdKernel.nD Cert.FwdKernel.τ).loc Cert.FwdKernel.main_arg7) = m ((c.tc : Thread Cert.FwdKernel.nD Cert.FwdKernel.τ).loc Cert.FwdKernel.main_arg7))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7))
      ∧ r.2.sem = fun _ => 0)

def preserves_FfnKernel_FfnKernelIdeal : Prop :=
  True

def algebraic_FfnKernelIdeal_FfnReferenceIdeal_pre_finite [hFfnKernelIdeal : Cert.FfnKernelIdeal.Facts] [hFfnReferenceIdeal : Cert.FfnReferenceIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v20_0)) (v1 : (c : Dev Cert.FfnKernelIdeal.nD) → Buf (Elt Ideal) ((c.tc : Thread Cert.FfnKernelIdeal.nD Cert.FfnKernelIdeal.τ).loc Cert.FfnKernelIdeal.main_v20_1)) (v2 : (c : Dev Cert.FfnKernelIdeal.nD) → Buf (Elt Ideal) ((c.tc : Thread Cert.FfnKernelIdeal.nD Cert.FfnKernelIdeal.τ).loc Cert.FfnKernelIdeal.main_v20_2)) (v3 : (c : Dev Cert.FfnKernelIdeal.nD) → Buf (Elt Ideal) ((c.tc : Thread Cert.FfnKernelIdeal.nD Cert.FfnKernelIdeal.τ).loc Cert.FfnKernelIdeal.main_v20_3)) (v4 : (c : Dev Cert.FfnKernelIdeal.nD) → Buf (Elt Ideal) ((c.tc : Thread Cert.FfnKernelIdeal.nD Cert.FfnKernelIdeal.τ).loc Cert.FfnKernelIdeal.main_v20_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v20_0) = v0 c
          ∧ r.2.mem ((c.tc : Thread Cert.FfnKernelIdeal.nD Cert.FfnKernelIdeal.τ).loc Cert.FfnKernelIdeal.main_v20_1) = v1 c
          ∧ r.2.mem ((c.tc : Thread Cert.FfnKernelIdeal.nD Cert.FfnKernelIdeal.τ).loc Cert.FfnKernelIdeal.main_v20_2) = v2 c
          ∧ r.2.mem ((c.tc : Thread Cert.FfnKernelIdeal.nD Cert.FfnKernelIdeal.τ).loc Cert.FfnKernelIdeal.main_v20_3) = v3 c
          ∧ r.2.mem ((c.tc : Thread Cert.FfnKernelIdeal.nD Cert.FfnKernelIdeal.τ).loc Cert.FfnKernelIdeal.main_v20_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v54) = v0 c
          ∧ r.2.mem ((c.tc : Thread Cert.FfnReferenceIdeal.nD Cert.FfnReferenceIdeal.τ).loc Cert.FfnReferenceIdeal.main_v50) = v1 c
          ∧ r.2.mem ((c.tc : Thread Cert.FfnReferenceIdeal.nD Cert.FfnReferenceIdeal.τ).loc Cert.FfnReferenceIdeal.main_v55) = v2 c
          ∧ r.2.mem ((c.tc : Thread Cert.FfnReferenceIdeal.nD Cert.FfnReferenceIdeal.τ).loc Cert.FfnReferenceIdeal.main_v53) = v3 c
          ∧ r.2.mem ((c.tc : Thread Cert.FfnReferenceIdeal.nD Cert.FfnReferenceIdeal.τ).loc Cert.FfnReferenceIdeal.main_v33) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v6_0)) (v1 : (c : Dev Cert.DownKernelIdeal.nD) → Buf (Elt Ideal) ((c.tc : Thread Cert.DownKernelIdeal.nD Cert.DownKernelIdeal.τ).loc Cert.DownKernelIdeal.main_v6_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6_0) = v0 c
          ∧ r.2.mem ((c.tc : Thread Cert.DownKernelIdeal.nD Cert.DownKernelIdeal.τ).loc Cert.DownKernelIdeal.main_v6_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_v8) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v4) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_FwdKernel_FwdKernelIdeal : Prop :=
  True

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)
      ∧ m' ((c.tc : Thread Cert.FwdReferenceIdeal.nD Cert.FwdReferenceIdeal.τ).loc Cert.FwdReferenceIdeal.main_arg7) = m ((c.tc : Thread Cert.FwdKernelIdeal.nD Cert.FwdKernelIdeal.τ).loc Cert.FwdKernelIdeal.main_arg7)) →
    ∃ (v0 : (c : Dev Cert.FwdKernelIdeal.nD) → Buf (Elt Ideal) ((c.tc : Thread Cert.FwdKernelIdeal.nD Cert.FwdKernelIdeal.τ).loc Cert.FwdKernelIdeal.main_v7_0)) (v1 : (c : Dev Cert.FwdKernelIdeal.nD) → Buf (Elt Ideal) ((c.tc : Thread Cert.FwdKernelIdeal.nD Cert.FwdKernelIdeal.τ).loc Cert.FwdKernelIdeal.main_v7_1)) (v2 : (c : Dev Cert.FwdKernelIdeal.nD) → Buf (Elt Ideal) ((c.tc : Thread Cert.FwdKernelIdeal.nD Cert.FwdKernelIdeal.τ).loc Cert.FwdKernelIdeal.main_v7_2)) (v3 : (c : Dev Cert.FwdKernelIdeal.nD) → Buf (Elt Ideal) ((c.tc : Thread Cert.FwdKernelIdeal.nD Cert.FwdKernelIdeal.τ).loc Cert.FwdKernelIdeal.main_v7_3)) (v4 : (c : Dev Cert.FwdKernelIdeal.nD) → Buf (Elt Ideal) ((c.tc : Thread Cert.FwdKernelIdeal.nD Cert.FwdKernelIdeal.τ).loc Cert.FwdKernelIdeal.main_v7_4)) (v5 : (c : Dev Cert.FwdKernelIdeal.nD) → Buf (Elt Ideal) ((c.tc : Thread Cert.FwdKernelIdeal.nD Cert.FwdKernelIdeal.τ).loc Cert.FwdKernelIdeal.main_v7_5)) (v6 : (c : Dev Cert.FwdKernelIdeal.nD) → Buf (Elt Ideal) ((c.tc : Thread Cert.FwdKernelIdeal.nD Cert.FwdKernelIdeal.τ).loc Cert.FwdKernelIdeal.main_v7_6)) (v7 : (c : Dev Cert.FwdKernelIdeal.nD) → Buf (Elt Ideal) ((c.tc : Thread Cert.FwdKernelIdeal.nD Cert.FwdKernelIdeal.τ).loc Cert.FwdKernelIdeal.main_v7_7)) (v8 : (c : Dev Cert.FwdKernelIdeal.nD) → Buf (Elt Ideal) ((c.tc : Thread Cert.FwdKernelIdeal.nD Cert.FwdKernelIdeal.τ).loc Cert.FwdKernelIdeal.main_v7_8)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v7_0) = v0 c
          ∧ r.2.mem ((c.tc : Thread Cert.FwdKernelIdeal.nD Cert.FwdKernelIdeal.τ).loc Cert.FwdKernelIdeal.main_v7_1) = v1 c
          ∧ r.2.mem ((c.tc : Thread Cert.FwdKernelIdeal.nD Cert.FwdKernelIdeal.τ).loc Cert.FwdKernelIdeal.main_v7_2) = v2 c
          ∧ r.2.mem ((c.tc : Thread Cert.FwdKernelIdeal.nD Cert.FwdKernelIdeal.τ).loc Cert.FwdKernelIdeal.main_v7_3) = v3 c
          ∧ r.2.mem ((c.tc : Thread Cert.FwdKernelIdeal.nD Cert.FwdKernelIdeal.τ).loc Cert.FwdKernelIdeal.main_v7_4) = v4 c
          ∧ r.2.mem ((c.tc : Thread Cert.FwdKernelIdeal.nD Cert.FwdKernelIdeal.τ).loc Cert.FwdKernelIdeal.main_v7_5) = v5 c
          ∧ r.2.mem ((c.tc : Thread Cert.FwdKernelIdeal.nD Cert.FwdKernelIdeal.τ).loc Cert.FwdKernelIdeal.main_v7_6) = v6 c
          ∧ r.2.mem ((c.tc : Thread Cert.FwdKernelIdeal.nD Cert.FwdKernelIdeal.τ).loc Cert.FwdKernelIdeal.main_v7_7) = v7 c
          ∧ r.2.mem ((c.tc : Thread Cert.FwdKernelIdeal.nD Cert.FwdKernelIdeal.τ).loc Cert.FwdKernelIdeal.main_v7_8) = v8 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
          ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v1) = v0 c
          ∧ r.2.mem ((c.tc : Thread Cert.FwdReferenceIdeal.nD Cert.FwdReferenceIdeal.τ).loc Cert.FwdReferenceIdeal.main_v72) = v1 c
          ∧ r.2.mem ((c.tc : Thread Cert.FwdReferenceIdeal.nD Cert.FwdReferenceIdeal.τ).loc Cert.FwdReferenceIdeal.main_v73) = v2 c
          ∧ r.2.mem ((c.tc : Thread Cert.FwdReferenceIdeal.nD Cert.FwdReferenceIdeal.τ).loc Cert.FwdReferenceIdeal.main_v74) = v3 c
          ∧ r.2.mem ((c.tc : Thread Cert.FwdReferenceIdeal.nD Cert.FwdReferenceIdeal.τ).loc Cert.FwdReferenceIdeal.main_v75) = v4 c
          ∧ r.2.mem ((c.tc : Thread Cert.FwdReferenceIdeal.nD Cert.FwdReferenceIdeal.τ).loc Cert.FwdReferenceIdeal.main_v71) = v5 c
          ∧ r.2.mem ((c.tc : Thread Cert.FwdReferenceIdeal.nD Cert.FwdReferenceIdeal.τ).loc Cert.FwdReferenceIdeal.main_v76) = v6 c
          ∧ r.2.mem ((c.tc : Thread Cert.FwdReferenceIdeal.nD Cert.FwdReferenceIdeal.τ).loc Cert.FwdReferenceIdeal.main_v77) = v7 c
          ∧ r.2.mem ((c.tc : Thread Cert.FwdReferenceIdeal.nD Cert.FwdReferenceIdeal.τ).loc Cert.FwdReferenceIdeal.main_v55) = v8 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7))

def Claim : Prop :=
  ∃ (hFfnKernel : Cert.FfnKernel.Facts) (hFfnKernelIdeal : Cert.FfnKernelIdeal.Facts) (hFfnReferenceIdeal : Cert.FfnReferenceIdeal.Facts) (hKernel : Cert.Kernel.Facts) (hKernelIdeal : Cert.KernelIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hFwdKernel : Cert.FwdKernel.Facts) (hFwdKernelIdeal : Cert.FwdKernelIdeal.Facts) (hFwdReferenceIdeal : Cert.FwdReferenceIdeal.Facts) (hPre_finite : Cert.Pre_finite.Facts) (hPre_finite_fwd : Cert.Pre_finite_fwd.Facts),
    quiescent_FfnKernel (hFfnKernel := hFfnKernel)
    ∧ quiescent_FfnKernelIdeal (hFfnKernelIdeal := hFfnKernelIdeal)
    ∧ quiescent_FfnKernelIdeal_pre_finite (hFfnKernelIdeal := hFfnKernelIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_Kernel (hKernel := hKernel)
    ∧ quiescent_KernelIdeal (hKernelIdeal := hKernelIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ preserves_FfnKernel_FfnKernelIdeal
    ∧ algebraic_FfnKernelIdeal_FfnReferenceIdeal_pre_finite (hFfnKernelIdeal := hFfnKernelIdeal) (hFfnReferenceIdeal := hFfnReferenceIdeal) (hPre_finite := hPre_finite)
    ∧ preserves_Kernel_KernelIdeal
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
-- ==== Pre_finite.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩

class Facts : Prop where
  bcast_S_S4160x1024 : S_.BroadcastsInDim S4160x1024 (![] : Fin 0 → Fin S4160x1024.rank)
  reducesTo_S4160x1024_S_d0_1 : S4160x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S4160x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4160x1024 .f32 := Host.absf main_arg5
  let main_cst_8 : FVec F S_ .f32 := constant S_ .f32 0x7F800000#32
  let main_v25 : FVec F S4160x1024 .f32 := broadcastInDim S4160x1024 ![] bcast_S_S4160x1024 main_cst_8
  let main_v26 : IVec S4160x1024 1 := cmpf .olt main_v24 main_v25
  let main_c_9 : IVec S_ 1 := constantI S_ 1 1#1
  let main_v27 : IVec S_ 1 := (fun x v => Host.reduce IntOp.andi x v reducesTo_S4160x1024_S_d0_1 h_S_) main_v26 main_c_9
  let main_v28 : IVec S_ 1 := andi main_v23 main_v27
  main_v28

def fn {F : FTy → Type} [FloatOps F] (main_arg0 : FVec F S4160x1024 .f32) (main_arg1 : FVec F S1x1024 .f32) (main_arg2 : FVec F S1024x5632 .f32) (main_arg3 : FVec F S2816x1024 .f32) (main_arg4 : FVec F S1024x1024 .f32) (main_arg5 : FVec F S4160x1024 .f32) : IVec S_ 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_c : IVec S_ 1 := constantI S_ 1 1#1
  let main_v3 : IVec S_ 1 := (fun x v => Host.reduce IntOp.andi x v reducesTo_S4160x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite_fwd.lean ====
abbrev S4160x1024 : Shape := ⟨2, ![4160, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4096x1024 : Shape := ⟨2, ![4096, 1024]⟩
abbrev S_ : Shape := ⟨0, ![]⟩

class Facts : Prop where
  bcast_S_S4160x1024 : S_.BroadcastsInDim S4160x1024 (![] : Fin 0 → Fin S4160x1024.rank)
  reducesTo_S4160x1024_S_d0_1 : S4160x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S1024x5632 .f32) (main_arg5 : FVec F S2816x1024 .f32) (main_arg6 : FVec F S1x1024 .f32) (main_arg7 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S4160x1024 .f32) (main_arg1 : FVec F S4160x1024 .f32) (main_arg2 : FVec F S1024x1024 .f32) (main_arg3 : FVec F S1x1024 .f32) (main_arg4 : FVec F S1024x5632 .f32) (main_arg5 : FVec F S2816x1024 .f32) (main_arg6 : FVec F S1x1024 .f32) (main_arg7 : FVec F S4096x1024 .f32) : IVec S_ 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_c : IVec S_ 1 := constantI S_ 1 1#1
  let main_v3 : IVec S_ 1 := (fun x v => Host.reduce IntOp.andi x v reducesTo_S4160x1024_S_d0_1 h_S_) main_v2 main_c
  let main_v4 : FVec F S4160x1024 .f32 := Host.absf main_arg1
  let main_cst_0 : FVec F S_ .f32 := constant S_ .f32 0x7F800000#32
  let main_v5 : FVec F S4160x1024 .f32 := broadcastInDim S4160x1024 ![] bcast_S_S4160x1024 main_cst_0
  let main_v6 : IVec S4160x1024 1 := cmpf .olt main_v4 main_v5
  let main_c_1 : IVec S_ 1 := constantI S_ 1 1#1
  let main_v7 : IVec S_ 1 := (fun x v => Host.reduce IntOp.andi x v reducesTo_S4160x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== FfnKernel.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S320x1024 : Shape := ⟨2, ![320, 1024]⟩
abbrev S320x5632 : Shape := ⟨2, ![320, 5632]⟩
abbrev S320x2816 : Shape := ⟨2, ![320, 2816]⟩
abbrev S320 : Shape := ⟨1, ![320]⟩
abbrev S320x1 : Shape := ⟨2, ![320, 1]⟩
abbrev S1024 : Shape := ⟨1, ![1024]⟩

abbrev nBuf : Space → Nat
  | .hbm => 34
  | .vmem => 21
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x1024, .bf16⟩
  | .hbm, ⟨22, _⟩ => ⟨S1024x5632, .bf16⟩
  | .hbm, ⟨23, _⟩ => ⟨S4160x5632, .f32⟩
  | .hbm, ⟨24, _⟩ => ⟨S4160x5632, .bf16⟩
  | .hbm, ⟨25, _⟩ => ⟨S4160x1024, .bf16⟩
  | .hbm, ⟨26, _⟩ => ⟨S2816x1024, .bf16⟩
  | .hbm, ⟨27, _⟩ => ⟨S1024x5632, .bf16⟩
  | .hbm, ⟨28, _⟩ => ⟨S1024x1024, .bf16⟩
  | .hbm, ⟨29, _⟩ => ⟨S4160x5632, .bf16⟩
  | .hbm, ⟨30, _⟩ => ⟨S4160x1024, .f32⟩
  | .hbm, ⟨31, _⟩ => ⟨S4160x1024, .bf16⟩
  | .hbm, ⟨32, _⟩ => ⟨S4160x1024, .f32⟩
  | .hbm, ⟨33, _⟩ => ⟨S1x1024, .f32⟩
  | .local _ .vmem, ⟨0, _⟩ => ⟨S320x1024, .bf16⟩
  | .local _ .vmem, ⟨1, _⟩ => ⟨S320x1024, .bf16⟩
  | .local _ .vmem, ⟨2, _⟩ => ⟨S320x5632, .bf16⟩
  | .local _ .vmem, ⟨3, _⟩ => ⟨S320x5632, .bf16⟩
  | .local _ .vmem, ⟨4, _⟩ => ⟨S2816x1024, .bf16⟩
  | .local _ .vmem, ⟨5, _⟩ => ⟨S1024x5632, .bf16⟩
  | .local _ .vmem, ⟨6, _⟩ => ⟨S320x1024, .f32⟩
  | .local _ .vmem, ⟨7, _⟩ => ⟨S320x1024, .f32⟩
  | .local _ .vmem, ⟨8, _⟩ => ⟨S1x1024, .f32⟩
  | .local _ .vmem, ⟨9, _⟩ => ⟨S320x1024, .f32⟩
  | .local _ .vmem, ⟨10, _⟩ => ⟨S320x1024, .f32⟩
  | .local _ .vmem, ⟨11, _⟩ => ⟨S1024x1024, .bf16⟩
  | .local _ .vmem, ⟨12, _⟩ => ⟨S320x5632, .bf16⟩
  | .local _ .vmem, ⟨13, _⟩ => ⟨S320x5632, .bf16⟩
  | .local _ .vmem, ⟨14, _⟩ => ⟨S320x1024, .f32⟩
  | .local _ .vmem, ⟨15, _⟩ => ⟨S320x1024, .f32⟩
  | .local _ .vmem, ⟨16, _⟩ => ⟨S320x1024, .bf16⟩
  | .local _ .vmem, ⟨17, _⟩ => ⟨S320x1024, .bf16⟩
  | .local _ .vmem, ⟨18, _⟩ => ⟨S320x1024, .f32⟩
  | .local _ .vmem, ⟨19, _⟩ => ⟨S320x1024, .f32⟩
  | .local _ .vmem, ⟨20, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnReferenceIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S_, .f32⟩
  | .hbm, ⟨19, _⟩ => ⟨S4160x1, .f32⟩
  | .hbm, ⟨20, _⟩ => ⟨S4160x1, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S4160x1024, .f32⟩
  | .hbm, ⟨25, _⟩ => ⟨S4160x5632, .f32⟩
  | .hbm, ⟨26, _⟩ => ⟨S4160x2816, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x1024, .f32⟩
  | .hbm, ⟨43, _⟩ => ⟨S4160x1024, .f32⟩
  | .hbm, ⟨44, _⟩ => ⟨S4160x1024, .f32⟩
  | .hbm, ⟨45, _⟩ => ⟨S4160x2816, .f32⟩
  | .hbm, ⟨46, _⟩ => ⟨S4160x2816, .f32⟩
  | .hbm, ⟨47, _⟩ => ⟨S4160x2816, .f32⟩
  | .hbm, ⟨48, _⟩ => ⟨S4160x2816, .f32⟩
  | .hbm, ⟨49, _⟩ => ⟨S4160x2816, .f32⟩
  | .hbm, ⟨50, _⟩ => ⟨S4160x2816, .f32⟩
  | .hbm, ⟨51, _⟩ => ⟨S4160x2816, .f32⟩
  | .hbm, ⟨52, _⟩ => ⟨S_, .f32⟩
  | .hbm, ⟨53, _⟩ => ⟨S4160x5632, .f32⟩
  | .hbm, ⟨54, _⟩ => ⟨S_, .f32⟩
  | .hbm, ⟨55, _⟩ => ⟨S4160x5632, .f32⟩
  | .hbm, ⟨56, _⟩ => ⟨S4160x5632, .f32⟩
  | .hbm, ⟨57, _⟩ => ⟨S4160x1024, .f32⟩
  | .hbm, ⟨58, _⟩ => ⟨S4160x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4160x1024, .f32⟩
  | .hbm, ⟨63, _⟩ => ⟨S4160x1024, .f32⟩
  | .hbm, ⟨64, _⟩ => ⟨S4160x1024, .f32⟩
  | .hbm, ⟨65, _⟩ => ⟨S_, .f32⟩
  | .hbm, ⟨66, _⟩ => ⟨S4160, .f32⟩
  | .hbm, ⟨67, _⟩ => ⟨S4160x1, .f32⟩
  | .hbm, ⟨68, _⟩ => ⟨S4160x1024, .f32⟩
  | .hbm, ⟨69, _⟩ => ⟨S4160x1024, .f32⟩
  | .hbm, ⟨70, _⟩ => ⟨S4160x1, .f32⟩
  | .hbm, ⟨71, _⟩ => ⟨S_, .f32⟩
  | .hbm, ⟨72, _⟩ => ⟨S4160x1, .f32⟩
  | .hbm, ⟨73, _⟩ => ⟨S4160x1, .f32⟩
  | .hbm, ⟨74, _⟩ => ⟨S_, .f32⟩
  | .hbm, ⟨75, _⟩ => ⟨S4160, .f32⟩
  | .hbm, ⟨76, _⟩ => ⟨S4160x1024, .f32⟩
  | .hbm, ⟨77, _⟩ => ⟨S4160x1024, .f32⟩
  | .hbm, ⟨78, _⟩ => ⟨S4160x1024, .f32⟩
  | .hbm, ⟨79, _⟩ => ⟨S4160x1024, .f32⟩
  | .hbm, ⟨80, _⟩ => ⟨S4160x1024, .f32⟩
  | .hbm, ⟨81, _⟩ => ⟨S4160x1024, .f32⟩
  | .hbm, ⟨82, _⟩ => ⟨S_, .f32⟩
  | .hbm, ⟨83, _⟩ => ⟨S4160x1024, .f32⟩
  | .hbm, ⟨84, _⟩ => ⟨S4160x1024, .f32⟩
  | .hbm, ⟨85, _⟩ => ⟨S4160x1024, .f32⟩
  | .hbm, ⟨86, _⟩ => ⟨S4160x5632, .bf16⟩
  | .hbm, ⟨87, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== Kernel.lean ====
abbrev S4160x3072 : Shape := ⟨2, ![4160, 3072]⟩
abbrev S4112x512 : Shape := ⟨2, ![4112, 512]⟩
abbrev S4160x1024 : Shape := ⟨2, ![4160, 1024]⟩
abbrev S4x512 : Shape := ⟨2, ![4, 512]⟩
abbrev S1x512 : Shape := ⟨2, ![1, 512]⟩
abbrev S512x64 : Shape := ⟨2, ![512, 64]⟩
abbrev S_ : Shape := ⟨0, ![]⟩
abbrev S3x512 : Shape := ⟨2, ![3, 512]⟩
abbrev S4160x512 : Shape := ⟨2, ![4160, 512]⟩
abbrev S4163x512 : Shape := ⟨2, ![4163, 512]⟩
abbrev S512 : Shape := ⟨1, ![512]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S1x1024 : Shape := ⟨2, ![1, 1024]⟩
abbrev S1024x64 : Shape := ⟨2, ![1024, 64]⟩
abbrev S832x1024 : Shape := ⟨2, ![832, 1024]⟩
abbrev S832x512 : Shape := ⟨2, ![832, 512]⟩
abbrev S8x512 : Shape := ⟨2, ![8, 512]⟩
abbrev S840x512 : Shape := ⟨2, ![840, 512]⟩
abbrev S832x1 : Shape := ⟨2, ![832, 1]⟩
abbrev S832 : Shape := ⟨1, ![832]⟩
abbrev S1024 : Shape := ⟨1, ![1024]⟩

abbrev nBuf : Space → Nat
  | .hbm => 84
  | .vmem => 31
  | .smem => 0
  | _ => 0

abbrev bufTy : (tb : Table) → Fin (tcTables nBuf tb) → BufTy
  | .hbm, ⟨0, _⟩ => ⟨S4160x3072, .f32⟩
  | .hbm, ⟨1, _⟩ => ⟨S4112x512, .f32⟩
  | .hbm, ⟨2, _⟩ => ⟨S4160x1024, .f32⟩
  | .hbm, ⟨3, _⟩ => ⟨S4160x3072, .bf16⟩
  | .hbm, ⟨4, _⟩ => ⟨S4x512, .f32⟩
  | .hbm, ⟨5, _⟩ => ⟨S1x512, .f32⟩
  | .hbm, ⟨6, _⟩ => ⟨S512x64, .f32⟩
  | .hbm, ⟨7, _⟩ => ⟨S1x512, .f32⟩
  | .hbm, ⟨8, _⟩ => ⟨S512x64, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S3x512, .f32⟩
  | .hbm, ⟨14, _⟩ => ⟨S4160x512, .f32⟩
  | .hbm, ⟨15, _⟩ => ⟨S4163x512, .f32⟩
  | .hbm, ⟨16, _⟩ => ⟨S4160x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S4160x512, .f32⟩
  | .hbm, ⟨21, _⟩ => ⟨S4160x512, .f32⟩
  | .hbm, ⟨22, _⟩ => ⟨S_, .f32⟩
  | .hbm, ⟨23, _⟩ => ⟨S4160x512, .f32⟩
  | .hbm, ⟨24, _⟩ => ⟨S4160x512, .f32⟩
  | .hbm, ⟨25, _⟩ => ⟨S4160x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S4160x512, .f32⟩
  | .hbm, ⟨30, _⟩ => ⟨S4160x512, .f32⟩
  | .hbm, ⟨31, _⟩ => ⟨S4160x512, .f32⟩
  | .hbm, ⟨32, _⟩ => ⟨S4160x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S4160x512, .f32⟩
  | .hbm, ⟨37, _⟩ => ⟨S4160x512, .f32⟩
  | .hbm, ⟨38, _⟩ => ⟨S4160x512, .f32⟩
  | .hbm, ⟨39, _⟩ => ⟨S4160x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S4160x512, .f32⟩
  | .hbm, ⟨44, _⟩ => ⟨S4160x512, .f32⟩
  | .hbm, ⟨45, _⟩ => ⟨S4160x512, .f32⟩
  | .hbm, ⟨46, _⟩ => ⟨S4160x512, .f32⟩
  | .hbm, ⟨47, _⟩ => ⟨S4160x512, .f32⟩
  | .hbm, ⟨48, _⟩ => ⟨S_, .i32⟩
  | .hbm, ⟨49, _⟩ => ⟨S_, .f32⟩
  | .hbm, ⟨50, _⟩ => ⟨S4160x512, .f32⟩
  | .hbm, ⟨51, _⟩ => ⟨S8x8, .i32⟩
  | .hbm, ⟨52, _⟩ => ⟨S8x8, .i32⟩
  | .hbm, ⟨53, _⟩ => ⟨S_, .i32⟩
  | .hbm, ⟨54, _⟩ => ⟨S8x8, .i32⟩
  | .hbm, ⟨55, _⟩ => ⟨S8x8, .i32⟩
  | .hbm, ⟨56, _⟩ => ⟨S8x8, .i1⟩
  | .hbm, ⟨57, _⟩ => ⟨S8x1x8x1, .i1⟩
  | .hbm, ⟨58, _⟩ => ⟨S8x64x1x64, .f32⟩
  | .hbm, ⟨59, _⟩ => ⟨S_, .f32⟩
  | .hbm, ⟨60, _⟩ => ⟨S_, .f32⟩
  | .hbm, ⟨61, _⟩ => ⟨S8x64x8x64, .i1⟩
  | .hbm, ⟨62, _⟩ => ⟨S8x64x8x64, .f32⟩
  | .hbm, ⟨63, _⟩ => ⟨S8x64x8x64, .f32⟩
  | .hbm, ⟨64, _⟩ => ⟨S8x64x8x64, .f32⟩
  | .hbm, ⟨65, _⟩ => ⟨S512x512, .f32⟩
  | .hbm, ⟨66, _⟩ => ⟨S8x64x1x64, .f32⟩
  | .hbm, ⟨67, _⟩ => ⟨S_, .f32⟩
  | .hbm, ⟨68, _⟩ => ⟨S_, .f32⟩
  | .hbm, ⟨69, _⟩ => ⟨S8x64x8x64, .i1⟩
  | .hbm, ⟨70, _⟩ => ⟨S8x64x8x64, .f32⟩
  | .hbm, ⟨71, _⟩ => ⟨S8x64x8x64, .f32⟩
  | .hbm, ⟨72, _⟩ => ⟨S8x64x8x64, .f32⟩
  | .hbm, ⟨73, _⟩ => ⟨S512x512, .f32⟩
  | .hbm, ⟨74, _⟩ => ⟨S512x1024, .f32⟩
  | .hbm, ⟨75, _⟩ => ⟨S512x1024, .bf16⟩
  | .hbm, ⟨76, _⟩ => ⟨S1x1024, .f32⟩
  | .hbm, ⟨77, _⟩ => ⟨S4160x3072, .bf16⟩
  | .hbm, ⟨78, _⟩ => ⟨S4x512, .f32⟩
  | .hbm, ⟨79, _⟩ => ⟨S1x512, .f32⟩
  | .hbm, ⟨80, _⟩ => ⟨S1024x64, .f32⟩
  | .hbm, ⟨81, _⟩ => ⟨S1x1024, .f32⟩
  | .hbm, ⟨82, _⟩ => ⟨S1x512, .f32⟩
  | .hbm, ⟨83, _⟩ => ⟨S1x512, .f32⟩
  | .local _ .vmem, ⟨0, _⟩ => ⟨S832x1024, .f32⟩
  | .local _ .vmem, ⟨1, _⟩ => ⟨S832x1024, .f32⟩
  | .local _ .vmem, ⟨2, _⟩ => ⟨S832x512, .f32⟩
  | .local _ .vmem, ⟨3, _⟩ => ⟨S832x512, .f32⟩
  | .local _ .vmem, ⟨4, _⟩ => ⟨S832x512, .f32⟩
  | .local _ .vmem, ⟨5, _⟩ => ⟨S832x512, .f32⟩
  | .local _ .vmem, ⟨6, _⟩ => ⟨S8x512, .f32⟩
  | .local _ .vmem, ⟨7, _⟩ => ⟨S8x512, .f32⟩
  | .local _ .vmem, ⟨8, _⟩ => ⟨S832x512, .f32⟩
  | .local _ .vmem, ⟨9, _⟩ => ⟨S832x512, .f32⟩
  | .local _ .vmem, ⟨10, _⟩ => ⟨S4x512, .f32⟩
  | .local _ .vmem, ⟨11, _⟩ => ⟨S1x512, .f32⟩
  | .local _ .vmem, ⟨12, _⟩ => ⟨S512x1024, .bf16⟩
  | .local _ .vmem, ⟨13, _⟩ => ⟨S1x1024, .f32⟩
  | .local _ .vmem, ⟨14, _⟩ => ⟨S1x512, .f32⟩
  | .local _ .vmem, ⟨15, _⟩ => ⟨S1x512, .f32⟩
  | .local _ .vmem, ⟨16, _⟩ => ⟨S832x1024, .bf16⟩
  | .local _ .vmem, ⟨17, _⟩ => ⟨S832x1024, .bf16⟩
  | .local _ .vmem, ⟨18, _⟩ => ⟨S4x512, .f32⟩
  | .local _ .vmem, ⟨19, _⟩ => ⟨S1x512, .f32⟩
  | .local _ .vmem, ⟨20, _⟩ => ⟨S1024x64, .f32⟩
  | .local _ .vmem, ⟨21, _⟩ => ⟨S1x1024, .f32⟩
  | .local _ .vmem, ⟨22, _⟩ => ⟨S1x512, .f32⟩
  | .local _ .vmem, ⟨23, _⟩ => ⟨S1x512, .f32⟩
  | .local _ .vmem, ⟨24, _⟩ => ⟨S840x512, .f32⟩
  | .local _ .vmem, ⟨25, _⟩ => ⟨S832x512, .f32⟩
  | .local _ .vmem, ⟨26, _⟩ => ⟨S832x512, .f32⟩
  | .local _ .vmem, ⟨27, _⟩ => ⟨S832x512, .f32⟩
  | .local _ .vmem, ⟨28, _⟩ => ⟨S512x1024, .f32⟩
  | .local _ .vmem, ⟨29, _⟩ => ⟨S1x512, .f32⟩
  | .local _ .vmem, ⟨30, _⟩ => ⟨S1x512, .f32⟩
  | _, _ => ⟨S4160x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50_0 : Ref sig .tc := ⟨.hbm, 77, rfl⟩
abbrev main_v50_1 : Ref sig .tc := ⟨.hbm, 78, rfl⟩
abbrev main_v50_2 : Ref sig .tc := ⟨.hbm, 79, rfl⟩
abbrev main_v50_3 : Ref sig .tc := ⟨.hbm, 80, rfl⟩
abbrev main_v50_4 : Ref sig .tc := ⟨.hbm, 81, rfl⟩
abbrev main_v50_5 : Ref sig .tc := ⟨.hbm, 82, rfl⟩
abbrev main_v50_6 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_65 : BitVec 32 := 0#32
  let c26_i32 : BitVec 32 := 26#32
  let v162 : BitVec 32 := Scalar.addi c0_i32_65 c26_i32
  let c1_i32 : BitVec 32 := 1#32
  ⟨c0_i32_65, v162, c1_i32⟩
def k0_mult1 (k0_t1 : Fin k0_t1_loop.trips) : BitVec 32 :=
  let c103_i32 : BitVec 32 := 103#32
  let c0_i32_65 : BitVec 32 := 0#32
  let c1_i32 : BitVec 32 := 1#32
  let arg27 : BitVec 32 := Scf.iv c0_i32_65 c1_i32 k0_t1
  let c4_i32_151 : BitVec 32 := 4#32
  let v313 : BitVec 32 := Scalar.muli arg27 c4_i32_151
  let c0_i32_152 : BitVec 32 := 0#32
  let v314 : BitVec 32 := Scalar.addi v313 c0_i32_152
  let v315 : BitVec 32 := Scalar.subi c103_i32 v314
  let c8_i32 : BitVec 32 := 8#32
  let v316 : BitVec 32 := Scalar.muli v315 c8_i32
  v316
def k0_off1 (k0_t1 : Fin k0_t1_loop.trips) (c0_i32_152 : BitVec 32) : Fin 2 → Nat :=
  let c103_i32 : BitVec 32 := 103#32
  let c0_i32_65 : BitVec 32 := 0#32
  let c1_i32 : BitVec 32 := 1#32
  let arg27 : BitVec 32 := Scf.iv c0_i32_65 c1_i32 k0_t1
  let c4_i32_151 : BitVec 32 := 4#32
  let v313 : BitVec 32 := Scalar.muli arg27 c4_i32_151
  let v314 : BitVec 32 := Scalar.addi v313 c0_i32_152
  let v315 : BitVec 32 := Scalar.subi c103_i32 v314
  let c8_i32 : BitVec 32 := 8#32
  let v316 : BitVec 32 := Scalar.muli v315 c8_i32
  let v317 : BitVec 32 := v316
  let v318 : Index := Scalar.indexCast v317
  let c0_153 : Index := 0#32
  ![v318.toNat, 0]
def k0_mult2 (k0_t1 : Fin k0_t1_loop.trips) : BitVec 32 :=
  let c103_i32_167 : BitVec 32 := 103#32
  let c0_i32_65 : BitVec 32 := 0#32
  let c1_i32 : BitVec 32 := 1#32
  let arg27 : BitVec 32 := Scf.iv c0_i32_65 c1_i32 k0_t1
  let c4_i32_165 : BitVec 32 := 4#32
  let v364 : BitVec 32 := Scalar.muli arg27 c4_i32_165
  let c1_i32_166 : BitVec 32 := 1#32
  let v365 : BitVec 32 := Scalar.addi v364 c1_i32_166
  let v366 : BitVec 32 := Scalar.subi c103_i32_167 v365
  let c8_i32_168 : BitVec 32 := 8#32
  let v367 : BitVec 32 := Scalar.muli v366 c8_i32_168
  v367
def k0_mult3 (k0_t1 : Fin k0_t1_loop.trips) : BitVec 32 :=
  let c103_i32_184 : BitVec 32 := 103#32
  let c0_i32_65 : BitVec 32 := 0#32
  let c1_i32 : BitVec 32 := 1#32
  let arg27 : BitVec 32 := Scf.iv c0_i32_65 c1_i32 k0_t1
  let c4_i32_183 : BitVec 32 := 4#32
  let v415 : BitVec 32 := Scalar.muli arg27 c4_i32_183
  let c2_i32 : BitVec 32 := 2#32
  let v416 : BitVec 32 := Scalar.addi v415 c2_i32
  let v417 : BitVec 32 := Scalar.subi c103_i32_184 v416
  let c8_i32_185 : BitVec 32 := 8#32
  let v418 : BitVec 32 := Scalar.muli v417 c8_i32_185
  v418
def k0_mult4 (k0_t1 : Fin k0_t1_loop.trips) : BitVec 32 :=
  let c103_i32_201 : BitVec 32 := 103#32
  let c0_i32_65 : BitVec 32 := 0#32
  let c1_i32 : BitVec 32 := 1#32
  let arg27 : BitVec 32 := Scf.iv c0_i32_65 c1_i32 k0_t1
  let c4_i32_200 : BitVec 32 := 4#32
  let v466 : BitVec 32 := Scalar.muli arg27 c4_i32_200
  let c3_i32 : BitVec 32 := 3#32
  let v467 : BitVec 32 := Scalar.addi v466 c3_i32
  let v468 : BitVec 32 := Scalar.subi c103_i32_201 v467
  let c8_i32_202 : BitVec 32 := 8#32
  let v469 : BitVec 32 := Scalar.muli v468 c8_i32_202
  v469
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c4_i32_149 : BitVec 32 := 4#32
  let v310 : BitVec 1 := Scalar.cmpi .eq arg0 c4_i32_149
  let v311 : BitVec 32 := Scalar.extui v310
  let c0_i32_150 : BitVec 32 := 0#32
  let v312 : BitVec 1 := Scalar.cmpi .ne v311 c0_i32_150
  v312

def cc0_transform_0 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.subi c4_i32 arg0
  let c104_i32 : BitVec 32 := 104#32
  let v1 : BitVec 32 := Scalar.muli v0 c104_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S832x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== DownKernel.lean ====
abbrev S4160x5632 : Shape := ⟨2, ![4160, 5632]⟩
abbrev S4160x1024 : Shape := ⟨2, ![4160, 1024]⟩
abbrev S4160x2816 : Shape := ⟨2, ![4160, 2816]⟩
abbrev S_ : Shape := ⟨0, ![]⟩
abbrev S2816x1024 : Shape := ⟨2, ![2816, 1024]⟩
abbrev S4160x1408 : Shape := ⟨2, ![4160, 1408]⟩
abbrev S4160x512 : Shape := ⟨2, ![4160, 512]⟩
abbrev S1408x512 : Shape := ⟨2, ![1408, 512]⟩

abbrev nBuf : Space → Nat
  | .hbm => 18
  | .vmem => 8
  | .smem => 0
  | _ => 0

abbrev bufTy : (tb : Table) → Fin (tcTables nBuf tb) → BufTy
  | .hbm, ⟨0, _⟩ => ⟨S4160x5632, .f32⟩
  | .hbm, ⟨1, _⟩ => ⟨S4160x1024, .f32⟩
  | .hbm, ⟨2, _⟩ => ⟨S4160x2816, .f32⟩
  | .hbm, ⟨3, _⟩ => ⟨S4160x2816, .f32⟩
  | .hbm, ⟨4, _⟩ => ⟨S4160x2816, .f32⟩
  | .hbm, ⟨5, _⟩ => ⟨S_, .f32⟩
  | .hbm, ⟨6, _⟩ => ⟨S4160x2816, .f32⟩
  | .hbm, ⟨7, _⟩ => ⟨S4160x2816, .f32⟩
  | .hbm, ⟨8, _⟩ => ⟨S_, .f32⟩
  | .hbm, ⟨9, _⟩ => ⟨S4160x2816, .f32⟩
  | .hbm, ⟨10, _⟩ => ⟨S4160x2816, .f32⟩
  | .hbm, ⟨11, _⟩ => ⟨S4160x2816, .f32⟩
  | .hbm, ⟨12, _⟩ => ⟨S4160x2816, .f32⟩
  | .hbm, ⟨13, _⟩ => ⟨S4160x2816, .f32⟩
  | .hbm, ⟨14, _⟩ => ⟨S4160x2816, .bf16⟩
  | .hbm, ⟨15, _⟩ => ⟨S4160x1024, .bf16⟩
  | .hbm, ⟨16, _⟩ => ⟨S2816x1024, .f32⟩
  | .hbm, ⟨17, _⟩ => ⟨S2816x1024, .bf16⟩
  | .local _ .vmem, ⟨0, _⟩ => ⟨S4160x1408, .bf16⟩
  | .local _ .vmem, ⟨1, _⟩ => ⟨S4160x1408, .bf16⟩
  | .local _ .vmem, ⟨2, _⟩ => ⟨S4160x512, .bf16⟩
  | .local _ .vmem, ⟨3, _⟩ => ⟨S4160x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .bf16⟩
  | .local _ .vmem, ⟨7, _⟩ => ⟨S1408x512, .bf16⟩
  | _, _ => ⟨S4160x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4160x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S4160x5632 : Shape := ⟨2, ![4160, 5632]⟩
abbrev S4160x1024 : Shape := ⟨2, ![4160, 1024]⟩
abbrev S_ : Shape := ⟨0, ![]⟩
abbrev S2816x1024 : Shape := ⟨2, ![2816, 1024]⟩
abbrev S4160x2816 : Shape := ⟨2, ![4160, 2816]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S4160x5632, .f32⟩
  | .hbm, ⟨1, _⟩ => ⟨S4160x1024, .f32⟩
  | .hbm, ⟨2, _⟩ => ⟨S_, .f32⟩
  | .hbm, ⟨3, _⟩ => ⟨S2816x1024, .f32⟩
  | .hbm, ⟨4, _⟩ => ⟨S4160x2816, .f32⟩
  | .hbm, ⟨5, _⟩ => ⟨S4160x2816, .f32⟩
  | .hbm, ⟨6, _⟩ => ⟨S4160x2816, .f32⟩
  | .hbm, ⟨7, _⟩ => ⟨S_, .f32⟩
  | .hbm, ⟨8, _⟩ => ⟨S4160x2816, .f32⟩
  | .hbm, ⟨9, _⟩ => ⟨S4160x2816, .f32⟩
  | .hbm, ⟨10, _⟩ => ⟨S_, .f32⟩
  | .hbm, ⟨11, _⟩ => ⟨S4160x2816, .f32⟩
  | .hbm, ⟨12, _⟩ => ⟨S4160x2816, .f32⟩
  | .hbm, ⟨13, _⟩ => ⟨S4160x2816, .f32⟩
  | .hbm, ⟨14, _⟩ => ⟨S4160x2816, .f32⟩
  | .hbm, ⟨15, _⟩ => ⟨S4160x2816, .f32⟩
  | .hbm, ⟨16, _⟩ => ⟨S4160x1024, .f32⟩
  | .hbm, ⟨17, _⟩ => ⟨S1024x2816, .f32⟩
  | .hbm, ⟨18, _⟩ => ⟨S2816x1024, .f32⟩
  | .hbm, ⟨19, _⟩ => ⟨S2816x1024, .bf16⟩
  | _, _ => ⟨S4160x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== OutKernel.lean ====
abbrev S4160x1024 : Shape := ⟨2, ![4160, 1024]⟩
abbrev S1024x1024 : Shape := ⟨2, ![1024, 1024]⟩
abbrev S4160x512 : Shape := ⟨2, ![4160, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .bf16⟩
  | .hbm, ⟨3, _⟩ => ⟨S4160x1024, .bf16⟩
  | .hbm, ⟨4, _⟩ => ⟨S1024x1024, .f32⟩
  | .hbm, ⟨5, _⟩ => ⟨S1024x1024, .bf16⟩
  | .local _ .vmem, ⟨0, _⟩ => ⟨S4160x1024, .bf16⟩
  | .local _ .vmem, ⟨1, _⟩ => ⟨S4160x512, .bf16⟩
  | .local _ .vmem, ⟨2, _⟩ => ⟨S4160x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S4160x1024 : Shape := ⟨2, ![4160, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S_, .f32⟩
  | .hbm, ⟨3, _⟩ => ⟨S1024x1024, .f32⟩
  | .hbm, ⟨4, _⟩ => ⟨S4160x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FwdKernel.lean ====
abbrev S4160x1024 : Shape := ⟨2, ![4160, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4096x1024 : Shape := ⟨2, ![4096, 1024]⟩
abbrev S4160x512 : Shape := ⟨2, ![4160, 512]⟩
abbrev S4160x5632 : Shape := ⟨2, ![4160, 5632]⟩
abbrev S4160x2816 : Shape := ⟨2, ![4160, 2816]⟩
abbrev S1x1 : Shape := ⟨2, ![1, 1]⟩
abbrev S320x1024 : Shape := ⟨2, ![320, 1024]⟩
abbrev S320x512 : Shape := ⟨2, ![320, 512]⟩
abbrev S320x5632 : Shape := ⟨2, ![320, 5632]⟩
abbrev S320x2816 : Shape := ⟨2, ![320, 2816]⟩
abbrev S2x320x1024 : Shape := ⟨3, ![2, 320, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x320x1024 : Shape := ⟨3, ![1, 320, 1024]⟩
abbrev S64x1024 : Shape := ⟨2, ![64, 1024]⟩
abbrev S1x64x1024 : Shape := ⟨3, ![1, 64, 1024]⟩
abbrev S320 : Shape := ⟨1, ![320]⟩
abbrev S320x1 : Shape := ⟨2, ![320, 1]⟩
abbrev S1024 : Shape := ⟨1, ![1024]⟩

abbrev nBuf : Space → Nat
  | .hbm => 24
  | .vmem => 28
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S4096x1024, .f32⟩
  | .hbm, ⟨8, _⟩ => ⟨S4160x512, .f32⟩
  | .hbm, ⟨9, _⟩ => ⟨S4160x512, .bf16⟩
  | .hbm, ⟨10, _⟩ => ⟨S4160x512, .f32⟩
  | .hbm, ⟨11, _⟩ => ⟨S4160x512, .bf16⟩
  | .hbm, ⟨12, _⟩ => ⟨S1024x1024, .bf16⟩
  | .hbm, ⟨13, _⟩ => ⟨S1024x5632, .bf16⟩
  | .hbm, ⟨14, _⟩ => ⟨S2816x1024, .bf16⟩
  | .hbm, ⟨15, _⟩ => ⟨S4160x1024, .f32⟩
  | .hbm, ⟨16, _⟩ => ⟨S4160x1024, .bf16⟩
  | .hbm, ⟨17, _⟩ => ⟨S4160x1024, .bf16⟩
  | .hbm, ⟨18, _⟩ => ⟨S4160x5632, .bf16⟩
  | .hbm, ⟨19, _⟩ => ⟨S4160x2816, .bf16⟩
  | .hbm, ⟨20, _⟩ => ⟨S4160x1024, .f32⟩
  | .hbm, ⟨21, _⟩ => ⟨S4160x1024, .bf16⟩
  | .hbm, ⟨22, _⟩ => ⟨S1x1, .f32⟩
  | .hbm, ⟨23, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x512, .bf16⟩
  | .local _ .vmem, ⟨3, _⟩ => ⟨S320x512, .bf16⟩
  | .local _ .vmem, ⟨4, _⟩ => ⟨S320x512, .bf16⟩
  | .local _ .vmem, ⟨5, _⟩ => ⟨S320x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .bf16⟩
  | .local _ .vmem, ⟨14, _⟩ => ⟨S320x1024, .bf16⟩
  | .local _ .vmem, ⟨15, _⟩ => ⟨S320x1024, .bf16⟩
  | .local _ .vmem, ⟨16, _⟩ => ⟨S320x1024, .bf16⟩
  | .local _ .vmem, ⟨17, _⟩ => ⟨S320x5632, .bf16⟩
  | .local _ .vmem, ⟨18, _⟩ => ⟨S320x5632, .bf16⟩
  | .local _ .vmem, ⟨19, _⟩ => ⟨S320x2816, .bf16⟩
  | .local _ .vmem, ⟨20, _⟩ => ⟨S320x2816, .bf16⟩
  | .local _ .vmem, ⟨21, _⟩ => ⟨S320x1024, .f32⟩
  | .local _ .vmem, ⟨22, _⟩ => ⟨S320x1024, .f32⟩
  | .local _ .vmem, ⟨23, _⟩ => ⟨S320x1024, .bf16⟩
  | .local _ .vmem, ⟨24, _⟩ => ⟨S320x1024, .bf16⟩
  | .local _ .vmem, ⟨25, _⟩ => ⟨S1x1, .f32⟩
  | .local _ .vmem, ⟨26, _⟩ => ⟨S1x1024, .f32⟩
  | .local _ .vmem, ⟨27, _⟩ => ⟨S2x320x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c13_i32 : BitVec 32 := 13#32
  let v14 : BitVec 1 := Scalar.cmpi .slt v13 c13_i32
  let v15 : BitVec 32 := Scalar.extui v14
  let c0_i32_6 : BitVec 32 := 0#32
  let v16 : BitVec 1 := Scalar.cmpi .ne v15 c0_i32_6
  v16

def k0_mult1 (i : grid0.Coords) : BitVec 32 :=
  let arg0 : BitVec 32 := BitVec.ofNat 32 (i 0).val
  let c1_i32_75 : BitVec 32 := 1#32
  let v141 : BitVec 32 := Scalar.addi arg0 c1_i32_75
  let c320_i32_77 : BitVec 32 := 320#32
  let v143 : BitVec 32 := Scalar.muli v141 c320_i32_77
  let c64_i32_78 : BitVec 32 := 64#32
  let v144 : BitVec 32 := Scalar.subi v143 c64_i32_78
  v144
def k0_off1 (i : grid0.Coords) : Fin 1 → Nat :=
  let c1_i32_76 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v142 : BitVec 32 := Scalar.subi c1_i32_76 v9
  ![v142.toNat]
def k0_off2 (i : grid0.Coords) : Fin 3 → Nat :=
  let c1_i32_76 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v142 : BitVec 32 := Scalar.subi c1_i32_76 v9
  let c0_i32_79 : BitVec 32 := 0#32
  let c0_i32_80 : BitVec 32 := 0#32
  ![v142.toNat, 0, 0]
def k0_off3 (i : grid0.Coords) : Fin 2 → Nat :=
  let arg0 : BitVec 32 := BitVec.ofNat 32 (i 0).val
  let c1_i32_75 : BitVec 32 := 1#32
  let v141 : BitVec 32 := Scalar.addi arg0 c1_i32_75
  let c320_i32_77 : BitVec 32 := 320#32
  let v143 : BitVec 32 := Scalar.muli v141 c320_i32_77
  let c64_i32_78 : BitVec 32 := 64#32
  let v144 : BitVec 32 := Scalar.subi v143 c64_i32_78
  let v145 : BitVec 32 := v144
  let c0_i32_81 : BitVec 32 := 0#32
  ![v145.toNat, 0]
def k0_cond4 (i : grid0.Coords) : BitVec 1 :=
  let arg0 : BitVec 32 := BitVec.ofNat 32 (i 0).val
  let c0_i32_9 : BitVec 32 := 0#32
  let v20 : BitVec 1 := Scalar.cmpi .sgt arg0 c0_i32_9
  let v21 : BitVec 32 := Scalar.extui v20
  let c0_i32_10 : BitVec 32 := 0#32
  let v22 : BitVec 1 := Scalar.cmpi .ne v21 c0_i32_10
  v22

def k0_mult2 (i : grid0.Coords) : BitVec 32 :=
  let arg0 : BitVec 32 := BitVec.ofNat 32 (i 0).val
  let c320_i32_75 : BitVec 32 := 320#32
  let v141 : BitVec 32 := Scalar.muli arg0 c320_i32_75
  let c64_i32_76 : BitVec 32 := 64#32
  let v142 : BitVec 32 := Scalar.subi v141 c64_i32_76
  v142
def k0_off4 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_77 : BitVec 32 := 0#32
  let c0_i32_78 : BitVec 32 := 0#32
  ![v9.toNat, 0, 0]
def k0_off6 (i : grid0.Coords) : Fin 2 → Nat :=
  let arg0 : BitVec 32 := BitVec.ofNat 32 (i 0).val
  let c320_i32_75 : BitVec 32 := 320#32
  let v141 : BitVec 32 := Scalar.muli arg0 c320_i32_75
  let c64_i32_76 : BitVec 32 := 64#32
  let v142 : BitVec 32 := Scalar.subi v141 c64_i32_76
  let v143 : BitVec 32 := v142
  let c0_i32_79 : BitVec 32 := 0#32
  ![v143.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v96 : Index := Scalar.indexCast v9
  let c0_52 : Index := 0#32
  let c0_53 : Index := 0#32
  ![v96.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FwdReferenceIdeal.lean ====
abbrev S4160x1024 : Shape := ⟨2, ![4160, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4096x1024 : Shape := ⟨2, ![4096, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S4096 : Shape := ⟨1, ![4096]⟩
abbrev S1024 : Shape := ⟨1, ![1024]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S4096x1024, .f32⟩
  | .hbm, ⟨8, _⟩ => ⟨S4160x1024, .f32⟩
  | .hbm, ⟨9, _⟩ => ⟨S4160x1024, .f32⟩
  | .hbm, ⟨10, _⟩ => ⟨S4160x1024, .f32⟩
  | .hbm, ⟨11, _⟩ => ⟨S_, .f32⟩
  | .hbm, ⟨12, _⟩ => ⟨S4160, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S_, .f32⟩
  | .hbm, ⟨18, _⟩ => ⟨S4160x1, .f32⟩
  | .hbm, ⟨19, _⟩ => ⟨S4160x1, .f32⟩
  | .hbm, ⟨20, _⟩ => ⟨S4160x1, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S4160x1024, .f32⟩
  | .hbm, ⟨25, _⟩ => ⟨S4160x5632, .f32⟩
  | .hbm, ⟨26, _⟩ => ⟨S4160x2816, .f32⟩
  | .hbm, ⟨27, _⟩ => ⟨S4160x2816, .f32⟩
  | .hbm, ⟨28, _⟩ => ⟨S4160x2816, .f32⟩
  | .hbm, ⟨29, _⟩ => ⟨S_, .f32⟩
  | .hbm, ⟨30, _⟩ => ⟨S4160x2816, .f32⟩
  | .hbm, ⟨31, _⟩ => ⟨S4160x2816, .f32⟩
  | .hbm, ⟨32, _⟩ => ⟨S_, .f32⟩
  | .hbm, ⟨33, _⟩ => ⟨S4160x2816, .f32⟩
  | .hbm, ⟨34, _⟩ => ⟨S4160x2816, .f32⟩
  | .hbm, ⟨35, _⟩ => ⟨S4160x2816, .f32⟩
  | .hbm, ⟨36, _⟩ => ⟨S4160x2816, .f32⟩
  | .hbm, ⟨37, _⟩ => ⟨S4160x2816, .f32⟩
  | .hbm, ⟨38, _⟩ => ⟨S4160x1024, .f32⟩
  | .hbm, ⟨39, _⟩ => ⟨S4160x1024, .f32⟩
  | .hbm, ⟨40, _⟩ => ⟨S4160x1024, .f32⟩
  | .hbm, ⟨41, _⟩ => ⟨S_, .f32⟩
  | .hbm, ⟨42, _⟩ => ⟨S4160, .f32⟩
  | .hbm, ⟨43, _⟩ => ⟨S4160x1, .f32⟩
  | .hbm, ⟨44, _⟩ => ⟨S_, .f32⟩
  | .hbm, ⟨45, _⟩ => ⟨S4160x1, .f32⟩
  | .hbm, ⟨46, _⟩ => ⟨S4160x1, .f32⟩
  | .hbm, ⟨47, _⟩ => ⟨S_, .f32⟩
  | .hbm, ⟨48, _⟩ => ⟨S4160x1, .f32⟩
  | .hbm, ⟨49, _⟩ => ⟨S4160x1, .f32⟩
  | .hbm, ⟨50, _⟩ => ⟨S4160x1, .f32⟩
  | .hbm, ⟨51, _⟩ => ⟨S4160x1, .f32⟩
  | .hbm, ⟨52, _⟩ => ⟨S_, .f32⟩
  | .hbm, ⟨53, _⟩ => ⟨S4160x1, .f32⟩
  | .hbm, ⟨54, _⟩ => ⟨S4160x1, .f32⟩
  | .hbm, ⟨55, _⟩ => ⟨S4160x1024, .f32⟩
  | .hbm, ⟨56, _⟩ => ⟨S4160x1024, .f32⟩
  | .hbm, ⟨57, _⟩ => ⟨S4160x1024, .f32⟩
  | .hbm, ⟨58, _⟩ => ⟨S4160x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4160x1024, .f32⟩
  | .hbm, ⟨85, _⟩ => ⟨S4160x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4160x1024, .f32⟩
  | .hbm, ⟨90, _⟩ => ⟨S4160x1024, .f32⟩
  | .hbm, ⟨91, _⟩ => ⟨S4160x1024, .f32⟩
  | .hbm, ⟨92, _⟩ => ⟨S_, .f32⟩
  | .hbm, ⟨93, _⟩ => ⟨S4160, .f32⟩
  | .hbm, ⟨94, _⟩ => ⟨S4160x1, .f32⟩
  | .hbm, ⟨95, _⟩ => ⟨S4160x1024, .f32⟩
  | .hbm, ⟨96, _⟩ => ⟨S4160x1024, .f32⟩
  | .hbm, ⟨97, _⟩ => ⟨S4160x1, .f32⟩
  | .hbm, ⟨98, _⟩ => ⟨S_, .f32⟩
  | .hbm, ⟨99, _⟩ => ⟨S4160x1, .f32⟩
  | .hbm, ⟨100, _⟩ => ⟨S4160x1, .f32⟩
  | .hbm, ⟨101, _⟩ => ⟨S_, .f32⟩
  | .hbm, ⟨102, _⟩ => ⟨S4160, .f32⟩
  | .hbm, ⟨103, _⟩ => ⟨S4160x1024, .f32⟩
  | .hbm, ⟨104, _⟩ => ⟨S4160x1024, .f32⟩
  | .hbm, ⟨105, _⟩ => ⟨S4160x1024, .f32⟩
  | .hbm, ⟨106, _⟩ => ⟨S4160x1024, .f32⟩
  | .hbm, ⟨107, _⟩ => ⟨S4160x1024, .f32⟩
  | .hbm, ⟨108, _⟩ => ⟨S4160x1024, .bf16⟩
  | .hbm, ⟨109, _⟩ => ⟨S4160x1024, .bf16⟩
  | .hbm, ⟨110, _⟩ => ⟨S4160x5632, .bf16⟩
  | .hbm, ⟨111, _⟩ => ⟨S4160x2816, .bf16⟩
  | .hbm, ⟨112, _⟩ => ⟨S4160x1024, .bf16⟩
  | .hbm, ⟨113, _⟩ => ⟨S1x1, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_cst_11 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_14 : Ref sig .tc := ⟨.hbm, 83, rfl⟩
abbrev main_v52 : Ref sig .tc := ⟨.hbm, 84, rfl⟩
abbrev main_v53 : Ref sig .tc := ⟨.hbm, 85, rfl⟩
abbrev main_cst_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_16 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_17 : Ref sig .tc := ⟨.hbm, 98, rfl⟩
abbrev main_v64 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]
-- ==== Proof.Setup.lean ====
/- What the runs of the kernel body share: at which of the five grid points each branch is taken, which windows
   the body stores into, the buffers it is handed, and the loop's buffer restated over its own stores. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ
/-! ## The body's branch conditions -/

/-- The condition of the body's `scf.if` 0 in the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

/-- The condition of the body's `scf.if` 1 in the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_1, k0_cond2, e0]
    word_cmp
   : ∀ t : Fin grid0.N, cond0_1 (grid0.coords t) ↔ t.val % 5 = 4)

/-! ## Where the windows are idle (the pipeline's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Window 13 is never idle (an output stored at every point, under no condition). -/
theorem liveAt0_13 : ∀ t : Fin cfg0.N, cfg0.idle 13 (grid0.coords t) = false := fun _ => rfl
/-- Window 15 is never idle (an output stored at every point, under no condition). -/
theorem liveAt0_15 : ∀ t : Fin cfg0.N, cfg0.idle 15 (grid0.coords t) = false := fun _ => rfl
/-- Window 16 is never idle (an output stored at every point, under no condition). -/
theorem liveAt0_16 : ∀ t : Fin cfg0.N, cfg0.idle 16 (grid0.coords t) = false := fun _ => rfl
/-- Window 17 is never idle (an output stored at every point, under no condition). -/
theorem liveAt0_17 : ∀ t : Fin cfg0.N, cfg0.idle 17 (grid0.coords t) = false := fun _ => rfl
/-- At the points of case A the pipeline (`Cfg.idle`) calls output 14 live: the case stores into it. -/
theorem liveAt0_14_A : ∀ t : Fin cfg0.N, cond0_0 (grid0.coords t) → ¬cond0_1 (grid0.coords t) → cfg0.idle 14 (grid0.coords t) = false := by decide +kernel
/-- At the points of case B the pipeline (`Cfg.idle`) calls output 14 idle: the case stores nothing into it. -/
theorem idleAt0_14_B : ∀ t : Fin cfg0.N, ¬cond0_0 (grid0.coords t) → ¬cond0_1 (grid0.coords t) → cfg0.idle 14 (grid0.coords t) = true := by decide +kernel
/-- At the points of case B the pipeline does not write output 14's block back. -/
theorem noFlush0_14_B : ∀ t : Fin cfg0.N, ¬cond0_0 (grid0.coords t) → ¬cond0_1 (grid0.coords t) → (cfg0.win 14).flush t = false := by decide +kernel
/-- At the points of case C the pipeline (`Cfg.idle`) calls output 14 live: the case stores into it. -/
theorem liveAt0_14_C : ∀ t : Fin cfg0.N, ¬cond0_0 (grid0.coords t) → cond0_1 (grid0.coords t) → cfg0.idle 14 (grid0.coords t) = false := by decide +kernel

/-! ## The buffers a point's body is handed -/

/-- Window 0's buffer at point `t`, and that it is a whole buffer. -/
abbrev ms0 (t : Fin cfg0.N) : Memref sig .tc .vmem S832x1024 .f32 := win0_0.stage (cfg0.slots t 0)
abbrev hs0 (t : Fin cfg0.N) : (ms0 t).IsWhole := hstage0_0 ((cfg0.slots t 0).cast nbuf0_0)
/-- Window 1's buffer at point `t`, and that it is a whole buffer. -/
abbrev ms1 (t : Fin cfg0.N) : Memref sig .tc .vmem S832x512 .f32 := win0_1.stage (cfg0.slots t 1)
abbrev hs1 (t : Fin cfg0.N) : (ms1 t).IsWhole := hstage0_1 ((cfg0.slots t 1).cast nbuf0_1)
/-- Window 2's buffer at point `t`, and that it is a whole buffer. -/
abbrev ms2 (t : Fin cfg0.N) : Memref sig .tc .vmem S832x512 .f32 := win0_2.stage (cfg0.slots t 2)
abbrev hs2 (t : Fin cfg0.N) : (ms2 t).IsWhole := hstage0_2 ((cfg0.slots t 2).cast nbuf0_2)
/-- Window 3's buffer at point `t`, and that it is a whole buffer. -/
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
/-- Window 4's buffer at point `t`, and that it is a whole buffer. -/
abbrev ms4 (t : Fin cfg0.N) : Memref sig .tc .vmem S832x512 .f32 := win0_4.stage (cfg0.slots t 4)
abbrev hs4 (t : Fin cfg0.N) : (ms4 t).IsWhole := hstage0_4 ((cfg0.slots t 4).cast nbuf0_4)
/-- Window 5's buffer at point `t`, and that it is a whole buffer. -/
abbrev ms5 (t : Fin cfg0.N) : Memref sig .tc .vmem S4x512 .f32 := win0_5.stage (cfg0.slots t 5)
abbrev hs5 (t : Fin cfg0.N) : (ms5 t).IsWhole := hstage0_5 ((cfg0.slots t 5).cast nbuf0_5)
/-- Window 6's buffer at point `t`, and that it is a whole buffer. -/
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
/-- Window 7's buffer at point `t`, and that it is a whole buffer. -/
abbrev ms7 (t : Fin cfg0.N) : Memref sig .tc .vmem S512x1024 .bf16 := win0_7.stage (cfg0.slots t 7)
abbrev hs7 (t : Fin cfg0.N) : (ms7 t).IsWhole := hstage0_7 ((cfg0.slots t 7).cast nbuf0_7)
/-- Window 8's buffer at point `t`, and that it is a whole buffer. -/
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
/-- Window 9's buffer at point `t`, and that it is a whole buffer. -/
abbrev ms9 (t : Fin cfg0.N) : Memref sig .tc .vmem S1x512 .f32 := win0_9.stage (cfg0.slots t 9)
abbrev hs9 (t : Fin cfg0.N) : (ms9 t).IsWhole := hstage0_9 ((cfg0.slots t 9).cast nbuf0_9)
/-- Window 10's buffer at point `t`, and that it is a whole buffer. -/
abbrev ms10 (t : Fin cfg0.N) : Memref sig .tc .vmem S1x512 .f32 := win0_10.stage (cfg0.slots t 10)
abbrev hs10 (t : Fin cfg0.N) : (ms10 t).IsWhole := hstage0_10 ((cfg0.slots t 10).cast nbuf0_10)
/-- Window 11's buffer at point `t`, and that it is a whole buffer. -/
abbrev ms11 (t : Fin cfg0.N) : Memref sig .tc .vmem S832x1024 .bf16 := win0_11.stage (cfg0.slots t 11)
abbrev hs11 (t : Fin cfg0.N) : (ms11 t).IsWhole := hstage0_11 ((cfg0.slots t 11).cast nbuf0_11)
/-- Window 12's buffer at point `t`, and that it is a whole buffer. -/
abbrev ms12 (t : Fin cfg0.N) : Memref sig .tc .vmem S4x512 .f32 := win0_12.stage (cfg0.slots t 12)
abbrev hs12 (t : Fin cfg0.N) : (ms12 t).IsWhole := hstage0_12 ((cfg0.slots t 12).cast nbuf0_12)
/-- Window 13's buffer at point `t`, and that it is a whole buffer. -/
abbrev ms13 (t : Fin cfg0.N) : Memref sig .tc .vmem S1x512 .f32 := win0_13.stage (cfg0.slots t 13)
abbrev hs13 (t : Fin cfg0.N) : (ms13 t).IsWhole := hstage0_13 ((cfg0.slots t 13).cast nbuf0_13)
/-- Window 14's buffer at point `t`, and that it is a whole buffer. -/
abbrev ms14 (t : Fin cfg0.N) : Memref sig .tc .vmem S1024x64 .f32 := win0_14.stage (cfg0.slots t 14)
abbrev hs14 (t : Fin cfg0.N) : (ms14 t).IsWhole := hstage0_14 ((cfg0.slots t 14).cast nbuf0_14)
/-- Window 15's buffer at point `t`, and that it is a whole buffer. -/
abbrev ms15 (t : Fin cfg0.N) : Memref sig .tc .vmem S1x1024 .f32 := win0_15.stage (cfg0.slots t 15)
abbrev hs15 (t : Fin cfg0.N) : (ms15 t).IsWhole := hstage0_15 ((cfg0.slots t 15).cast nbuf0_15)
/-- Window 16's buffer at point `t`, and that it is a whole buffer. -/
abbrev ms16 (t : Fin cfg0.N) : Memref sig .tc .vmem S1x512 .f32 := win0_16.stage (cfg0.slots t 16)
abbrev hs16 (t : Fin cfg0.N) : (ms16 t).IsWhole := hstage0_16 ((cfg0.slots t 16).cast nbuf0_16)
/-- Window 17's buffer at point `t`, and that it is a whole buffer. -/
abbrev ms17 (t : Fin cfg0.N) : Memref sig .tc .vmem S1x512 .f32 := win0_17.stage (cfg0.slots t 17)
abbrev hs17 (t : Fin cfg0.N) : (ms17 t).IsWhole := hstage0_17 ((cfg0.slots t 17).cast nbuf0_17)
/-- Scratch buffer 0 of the kernel. -/
abbrev sc0 : Memref sig .tc .vmem S840x512 .f32 := Memref.whole cc0_scratch0
/-- Scratch buffer 1 of the kernel. -/
abbrev sc1 : Memref sig .tc .vmem S832x512 .f32 := Memref.whole cc0_scratch1
/-- Scratch buffer 2 of the kernel. -/
abbrev sc2 : Memref sig .tc .vmem S832x512 .f32 := Memref.whole cc0_scratch2
/-- Scratch buffer 3 of the kernel. -/
abbrev sc3 : Memref sig .tc .vmem S832x512 .f32 := Memref.whole cc0_scratch3
/-- Scratch buffer 4 of the kernel. -/
abbrev sc4 : Memref sig .tc .vmem S512x1024 .f32 := Memref.whole cc0_scratch4
/-- Scratch buffer 5 of the kernel. -/
abbrev sc5 : Memref sig .tc .vmem S1x512 .f32 := Memref.whole cc0_scratch5
/-- Scratch buffer 6 of the kernel. -/
abbrev sc6 : Memref sig .tc .vmem S1x512 .f32 := Memref.whole cc0_scratch6

/-- Reading back a list of stores through one fixed buffer of the shape, over contents nothing is known of. -/
abbrev back {s : Shape} {e : EltTy} (m : Memref sig .tc .vmem s e) (L : List (View.Piece (Elt F) s e)) : Vec F s e :=
  m.view.read (Elt F) (m.view.writes (Elt F) m.view.junk L)

/-- What the launch hands the region, with the scratch buffers as whole buffers owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-! ## After the loop the scan's buffer holds the trips' stores alone -/

/-- Stores that cover a whole buffer leave nothing of what it held. -/
theorem writes_of_cover {sp : Space} {s : Shape} {e : EltTy} {m : Memref sig .tc sp s e} (hw : m.IsWhole) (f : m.view.ty.Contents (Elt F))
    (L : List (View.Piece (Elt F) s e)) (hc : ∀ y : s.Idx, ∃ p ∈ L, y ∈ p.1.set) :
    m.view.writes (Elt F) f L = m.view.writes (Elt F) m.view.junk L := by
  obtain ⟨b, rfl, rfl, rfl, h⟩ := hw; cases h
  funext y
  exact View.read_writes_apply_eq (View.whole b) f (View.whole b) (View.whole b).junk y L (hc y)

variable (arg1 : Memref sig .tc .vmem S832x1024 .f32) (harg1 : arg1.IsWhole) (arg2 : Memref sig .tc .vmem S832x512 .f32) (harg2 : arg2.IsWhole) (arg3 : Memref sig .tc .vmem S832x512 .f32) (harg3 : arg3.IsWhole) (arg4 : Memref sig .tc .vmem S8x512 .f32) (harg4 : arg4.IsWhole) (arg5 : Memref sig .tc .vmem S832x512 .f32) (harg5 : arg5.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S832x1024 .bf16) (harg13 : arg13.IsWhole) (arg14 : Memref sig .tc .vmem S4x512 .f32) (harg14 : arg14.IsWhole) (arg15 : Memref sig .tc .vmem S1x512 .f32) (harg15 : arg15.IsWhole) (arg16 : Memref sig .tc .vmem S1024x64 .f32) (harg16 : arg16.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S840x512 .f32) (harg20 : arg20.IsWhole) (arg21 : Memref sig .tc .vmem S832x512 .f32) (harg21 : arg21.IsWhole) (arg22 : Memref sig .tc .vmem S832x512 .f32) (harg22 : arg22.IsWhole) (arg23 : Memref sig .tc .vmem S832x512 .f32) (harg23 : arg23.IsWhole) (arg24 : Memref sig .tc .vmem S512x1024 .f32) (harg24 : arg24.IsWhole) (arg25 : Memref sig .tc .vmem S1x512 .f32) (harg25 : arg25.IsWhole) (arg26 : Memref sig .tc .vmem S1x512 .f32) (harg26 : arg26.IsWhole)

/-- The 26 trips' stores tile the scan's buffer: after the loop nothing of what the buffer held before it is left, so
    its contents may be stated over any others. -/
instance loopExit (𝒱 : Variants) (c : Dev nD) (bd : Option 𝒱.V) (E : Set ℕ) (i : grid0.Coords) (arg6 : Memref sig .tc .hbm S4160x3072 .bf16) (harg6 : arg6.IsWhole) (v4 : BitVec 1) (v6 : FVec F S832x512 .f32) (v31 : FVec F S832x512 .f32) (v55 : FVec F S832x512 .f32) (v73 : FVec F S832x512 .f32) (v74 : FVec F S832x512 .f32) (v80 : IVec S832x1 1) (v115 : FVec F S832x512 .f32) (v159 : IVec S8x512 32) (v160 : Vec F S1x512 .f32) (v161 : Vec F S1x512 .f32) (X_arg21 : BufTy.Contents (Elt F) arg21.view.ty) (X_arg22 : BufTy.Contents (Elt F) arg22.view.ty) (G_arg23 : BufTy.Contents (Elt F) arg23.view.ty) (init : Vec F S1x512 .f32 × Vec F S1x512 .f32) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v31 v55 v73 v74 v80 v115 v159 v160 v161 X_arg21 X_arg22 G_arg23 init) where
  post acc := iprop((arg21.view.loc (c : Thread nD τ) ↦[arg21.view.set]{fullShare} X_arg21) ∗ (arg22.view.loc (c : Thread nD τ) ↦[arg22.view.set]{fullShare} X_arg22)
    ∗ (∃ f, (arg23.view.loc (c : Thread nD τ) ↦[arg23.view.set]{fullShare} f) ∗ ⌜f = arg23.view.writes (Elt F) arg23.view.junk (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v31 v55 v73 v74 v80 v115 v159 v160 v161 X_arg21 X_arg22 init k0_t1_loop.trips).2⌝)
    ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v31 v55 v73 v74 v80 v115 v159 v160 v161 X_arg21 X_arg22 init k0_t1_loop.trips).1⌝)
  exit acc := by
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v31 v55 v73 v74 v80 v115 v159 v160 v161 X_arg21 X_arg22 G_arg23 init k0_t1_loop.trips acc ⊢ _
    unfold inv_k0_t1
    iintro ⟨H1, H2, ⟨%f, H3, %hf⟩, %ha⟩
    isplitl [H1]; · iexact H1
    isplitl [H2]; · iexact H2
    isplitl [H3]
    · iexists _; isplitl [H3]; · iexact H3
      ipureintro
      rw [hf]; exact writes_of_cover harg23 _ _ (View.cover_of_tiledL _ ![8, 512] (by sl_kernel_rfl))
    ipureintro; exact ha

end Cert.KernelIdeal.Rg

end
-- ==== Proof.RunA.lean ====
/- The run of the kernel body at the first point. -/
module

public import proofs.«01_k».proof.Proof.Setup

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the first point, on whole buffers: the inputs' at their contents, every buffer it reads before covering it at
    named contents, the others at anything. It runs to the continuation with the inputs as they were and each other
    buffer at a list of stores — the witnesses — written over something. -/
def runA (c : Dev nD) (i : grid0.Coords) (arg1 : Memref sig .tc .vmem S832x1024 .f32) (harg1 : arg1.IsWhole) (arg2 : Memref sig .tc .vmem S832x512 .f32) (harg2 : arg2.IsWhole) (arg3 : Memref sig .tc .vmem S832x512 .f32) (harg3 : arg3.IsWhole) (arg4 : Memref sig .tc .vmem S8x512 .f32) (harg4 : arg4.IsWhole) (arg5 : Memref sig .tc .vmem S832x512 .f32) (harg5 : arg5.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S832x1024 .bf16) (harg13 : arg13.IsWhole) (arg14 : Memref sig .tc .vmem S4x512 .f32) (harg14 : arg14.IsWhole) (arg15 : Memref sig .tc .vmem S1x512 .f32) (harg15 : arg15.IsWhole) (arg16 : Memref sig .tc .vmem S1024x64 .f32) (harg16 : arg16.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S840x512 .f32) (harg20 : arg20.IsWhole) (arg21 : Memref sig .tc .vmem S832x512 .f32) (harg21 : arg21.IsWhole) (arg22 : Memref sig .tc .vmem S832x512 .f32) (harg22 : arg22.IsWhole) (arg23 : Memref sig .tc .vmem S832x512 .f32) (harg23 : arg23.IsWhole) (arg24 : Memref sig .tc .vmem S512x1024 .f32) (harg24 : arg24.IsWhole) (arg25 : Memref sig .tc .vmem S1x512 .f32) (harg25 : arg25.IsWhole) (arg26 : Memref sig .tc .vmem S1x512 .f32) (harg26 : arg26.IsWhole) (hc0 : cond0_0 i) (hc1 : ¬cond0_1 i)
    (x0 : Vec F S832x1024 .f32) (x1 : Vec F S832x512 .f32) (x2 : Vec F S832x512 .f32) (x3 : Vec F S8x512 .f32) (x4 : Vec F S832x512 .f32) (x5 : Vec F S4x512 .f32) (x6 : Vec F S1x512 .f32) (x7 : Vec F S512x1024 .bf16) (x8 : Vec F S1x1024 .f32) (x9 : Vec F S1x512 .f32) (x10 : Vec F S1x512 .f32)  :
    Σ' (Lo11 : List (View.Piece (Elt F) S832x1024 .bf16)), Σ' (Lo12 : List (View.Piece (Elt F) S4x512 .f32)), Σ' (Lo13 : List (View.Piece (Elt F) S1x512 .f32)), Σ' (Lo14 : List (View.Piece (Elt F) S1024x64 .f32)), Σ' (Lo15 : List (View.Piece (Elt F) S1x1024 .f32)), Σ' (Lo16 : List (View.Piece (Elt F) S1x512 .f32)), Σ' (Lo17 : List (View.Piece (Elt F) S1x512 .f32)), Σ' (Ls0 : List (View.Piece (Elt F) S840x512 .f32)), Σ' (Ls4 : List (View.Piece (Elt F) S512x1024 .f32)), Σ' (Ls5 : List (View.Piece (Elt F) S1x512 .f32)), { Ls6 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f Lo11) ∗ (∃ f, arg14.view.loc (c : Thread nD τ) ↦[arg14.view.set]{fullShare} arg14.view.writes (Elt F) f Lo12) ∗ (∃ f, arg15.view.loc (c : Thread nD τ) ↦[arg15.view.set]{fullShare} arg15.view.writes (Elt F) f Lo13) ∗ (∃ f, arg16.view.loc (c : Thread nD τ) ↦[arg16.view.set]{fullShare} arg16.view.writes (Elt F) f Lo14) ∗ (∃ f, arg17.view.loc (c : Thread nD τ) ↦[arg17.view.set]{fullShare} arg17.view.writes (Elt F) f Lo15) ∗ (∃ f, arg18.view.loc (c : Thread nD τ) ↦[arg18.view.set]{fullShare} arg18.view.writes (Elt F) f Lo16) ∗ (∃ f, arg19.view.loc (c : Thread nD τ) ↦[arg19.view.set]{fullShare} arg19.view.writes (Elt F) f Lo17) ∗ (∃ f, arg20.view.loc (c : Thread nD τ) ↦[arg20.view.set]{fullShare} arg20.view.writes (Elt F) f Ls0) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f Ls4) ∗ (∃ f, arg25.view.loc (c : Thread nD τ) ↦[arg25.view.set]{fullShare} arg25.view.writes (Elt F) f Ls5) ∗ (∃ f, arg26.view.loc (c : Thread nD τ) ↦[arg26.view.set]{fullShare} arg26.view.writes (Elt F) f Ls6)) -∗ K ⟨⟩))
          ⊢ wp frame (wpE (defs₀ (F := F)) Variants.none c none) E (cc0_rg_bwd i arg1 harg1 arg2 harg2 arg3 harg3 arg4 harg4 arg5 harg5 (Memref.whole main_arg3) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, fun E K => ?run⟩
  case run =>
    simp only [cc0_rg_bwd_eq_skeleton]; unfold cc0_rg_bwd_skel
    simp only [k0_part8_eq_skeleton, k0_part1_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%do11, %fo11, -, Ho11⟩, ⟨%do12, %fo12, -, Ho12⟩, ⟨%do13, %fo13, -, Ho13⟩, ⟨%do14, %fo14, -, Ho14⟩, ⟨%do15, %fo15, -, Ho15⟩, ⟨%do16, %fo16, -, Ho16⟩, ⟨%do17, %fo17, -, Ho17⟩, ⟨%ds0, %fs0, -, Hs0⟩, ⟨%ds1, %fs1, -, Hs1⟩, ⟨%ds2, %fs2, -, Hs2⟩, ⟨%ds3, %fs3, -, Hs3⟩, ⟨%ds4, %fs4, -, Hs4⟩, ⟨%ds5, %fs5, -, Hs5⟩, ⟨%ds6, %fs6, -, Hs6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [Ho11]; · iexists _; iexact Ho11
    isplitl [Ho12]; · iexists _; iexact Ho12
    isplitl [Ho13]; · iexists _; iexact Ho13
    isplitl [Ho14]; · iexists _; iexact Ho14
    isplitl [Ho15]; · iexists _; iexact Ho15
    isplitl [Ho16]; · iexists _; iexact Ho16
    isplitl [Ho17]; · iexists _; iexact Ho17
    isplitl [Hs0]; · iexists _; iexact Hs0
    isplitl [Hs1]
    · iexists _, _; isplitr; swap; · iexact Hs1
      ipureintro; rfl
    isplitl [Hs2]
    · iexists _, _; isplitr; swap; · iexact Hs2
      ipureintro; rfl
    isplitl [Hs3]
    · iexists _, _; isplitr; swap; · iexact Hs3
      ipureintro; rfl
    isplitl [Hs4]; · iexists _; iexact Hs4
    isplitl [Hs5]; · iexists _; iexact Hs5
    iexists _; iexact Hs6

end Cert.KernelIdeal.Rg

end
-- ==== Proof.RunB.lean ====
/- The run of the kernel body at a point that is neither the first nor the last. -/
module

public import proofs.«01_k».proof.Proof.RunA

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at a point that is neither the first nor the last, on whole buffers: the inputs' at their contents, every buffer it reads before covering it at
    named contents, the others at anything. It runs to the continuation with the inputs as they were and each other
    buffer at a list of stores — the witnesses — written over something. -/
def runB (c : Dev nD) (i : grid0.Coords) (arg1 : Memref sig .tc .vmem S832x1024 .f32) (harg1 : arg1.IsWhole) (arg2 : Memref sig .tc .vmem S832x512 .f32) (harg2 : arg2.IsWhole) (arg3 : Memref sig .tc .vmem S832x512 .f32) (harg3 : arg3.IsWhole) (arg4 : Memref sig .tc .vmem S8x512 .f32) (harg4 : arg4.IsWhole) (arg5 : Memref sig .tc .vmem S832x512 .f32) (harg5 : arg5.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S832x1024 .bf16) (harg13 : arg13.IsWhole) (arg14 : Memref sig .tc .vmem S4x512 .f32) (harg14 : arg14.IsWhole) (arg15 : Memref sig .tc .vmem S1x512 .f32) (harg15 : arg15.IsWhole) (arg16 : Memref sig .tc .vmem S1024x64 .f32) (harg16 : arg16.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S840x512 .f32) (harg20 : arg20.IsWhole) (arg21 : Memref sig .tc .vmem S832x512 .f32) (harg21 : arg21.IsWhole) (arg22 : Memref sig .tc .vmem S832x512 .f32) (harg22 : arg22.IsWhole) (arg23 : Memref sig .tc .vmem S832x512 .f32) (harg23 : arg23.IsWhole) (arg24 : Memref sig .tc .vmem S512x1024 .f32) (harg24 : arg24.IsWhole) (arg25 : Memref sig .tc .vmem S1x512 .f32) (harg25 : arg25.IsWhole) (arg26 : Memref sig .tc .vmem S1x512 .f32) (harg26 : arg26.IsWhole) (hc0 : ¬cond0_0 i) (hc1 : ¬cond0_1 i)
    (x0 : Vec F S832x1024 .f32) (x1 : Vec F S832x512 .f32) (x2 : Vec F S832x512 .f32) (x3 : Vec F S8x512 .f32) (x4 : Vec F S832x512 .f32) (x5 : Vec F S4x512 .f32) (x6 : Vec F S1x512 .f32) (x7 : Vec F S512x1024 .bf16) (x8 : Vec F S1x1024 .f32) (x9 : Vec F S1x512 .f32) (x10 : Vec F S1x512 .f32) (xo12 : Vec F S4x512 .f32) (xo13 : Vec F S1x512 .f32) (xo15 : Vec F S1x1024 .f32) (xo16 : Vec F S1x512 .f32) (xo17 : Vec F S1x512 .f32) (xs0 : Vec F S840x512 .f32) (xs4 : Vec F S512x1024 .f32) (xs5 : Vec F S1x512 .f32) (xs6 : Vec F S1x512 .f32) :
    Σ' (Lo11 : List (View.Piece (Elt F) S832x1024 .bf16)), Σ' (Lo12 : List (View.Piece (Elt F) S4x512 .f32)), Σ' (Lo13 : List (View.Piece (Elt F) S1x512 .f32)), Σ' (Lo14 : List (View.Piece (Elt F) S1024x64 .f32)), Σ' (Lo15 : List (View.Piece (Elt F) S1x1024 .f32)), Σ' (Lo16 : List (View.Piece (Elt F) S1x512 .f32)), Σ' (Lo17 : List (View.Piece (Elt F) S1x512 .f32)), Σ' (Ls0 : List (View.Piece (Elt F) S840x512 .f32)), Σ' (Ls4 : List (View.Piece (Elt F) S512x1024 .f32)), Σ' (Ls5 : List (View.Piece (Elt F) S1x512 .f32)), { Ls6 : List (View.Piece (Elt F) S1x512 .f32) //
      ∀ (xi14 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xo12 ∗ owns (c : Thread nD τ) arg15 fullShare xo13 ∗ owns (c : Thread nD τ) arg16 fullShare xi14 ∗ owns (c : Thread nD τ) arg17 fullShare xo15 ∗ owns (c : Thread nD τ) arg18 fullShare xo16 ∗ owns (c : Thread nD τ) arg19 fullShare xo17 ∗ owns (c : Thread nD τ) arg20 fullShare xs0 ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs4 ∗ owns (c : Thread nD τ) arg25 fullShare xs5 ∗ owns (c : Thread nD τ) arg26 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f Lo11) ∗ (∃ f, arg14.view.loc (c : Thread nD τ) ↦[arg14.view.set]{fullShare} arg14.view.writes (Elt F) f Lo12) ∗ (∃ f, arg15.view.loc (c : Thread nD τ) ↦[arg15.view.set]{fullShare} arg15.view.writes (Elt F) f Lo13) ∗ owns (c : Thread nD τ) arg16 fullShare xi14 ∗ (∃ f, arg17.view.loc (c : Thread nD τ) ↦[arg17.view.set]{fullShare} arg17.view.writes (Elt F) f Lo15) ∗ (∃ f, arg18.view.loc (c : Thread nD τ) ↦[arg18.view.set]{fullShare} arg18.view.writes (Elt F) f Lo16) ∗ (∃ f, arg19.view.loc (c : Thread nD τ) ↦[arg19.view.set]{fullShare} arg19.view.writes (Elt F) f Lo17) ∗ (∃ f, arg20.view.loc (c : Thread nD τ) ↦[arg20.view.set]{fullShare} arg20.view.writes (Elt F) f Ls0) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f Ls4) ∗ (∃ f, arg25.view.loc (c : Thread nD τ) ↦[arg25.view.set]{fullShare} arg25.view.writes (Elt F) f Ls5) ∗ (∃ f, arg26.view.loc (c : Thread nD τ) ↦[arg26.view.set]{fullShare} arg26.view.writes (Elt F) f Ls6)) -∗ K ⟨⟩))
          ⊢ wp frame (wpE (defs₀ (F := F)) Variants.none c none) E (cc0_rg_bwd i arg1 harg1 arg2 harg2 arg3 harg3 arg4 harg4 arg5 harg5 (Memref.whole main_arg3) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, [], ?_, ?_, ?_, ?_, ?_, ?_, ?_, fun xi14 E K => ?run⟩
  case run =>
    simp only [cc0_rg_bwd_eq_skeleton]; unfold cc0_rg_bwd_skel
    simp only [k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%do11, %fo11, -, Ho11⟩, ⟨%fo12, %hfo12, Ho12⟩, ⟨%fo13, %hfo13, Ho13⟩, ⟨%fo14, %hfo14, Ho14⟩, ⟨%fo15, %hfo15, Ho15⟩, ⟨%fo16, %hfo16, Ho16⟩, ⟨%fo17, %hfo17, Ho17⟩, ⟨%fs0, %hfs0, Hs0⟩, ⟨%ds1, %fs1, -, Hs1⟩, ⟨%ds2, %fs2, -, Hs2⟩, ⟨%ds3, %fs3, -, Hs3⟩, ⟨%fs4, %hfs4, Hs4⟩, ⟨%fs5, %hfs5, Hs5⟩, ⟨%fs6, %hfs6, Hs6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfo12; obtain rfl := harg15.eq_unread hfo13; obtain rfl := harg16.eq_unread hfo14; obtain rfl := harg17.eq_unread hfo15; obtain rfl := harg18.eq_unread hfo16; obtain rfl := harg19.eq_unread hfo17; obtain rfl := harg20.eq_unread hfs0; obtain rfl := harg24.eq_unread hfs4; obtain rfl := harg25.eq_unread hfs5; obtain rfl := harg26.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [Ho11]; · iexists _; iexact Ho11
    isplitl [Ho12]; · iexists _; iexact Ho12
    isplitl [Ho13]; · iexists _; iexact Ho13
    isplitl [Ho14]
    · iexists _; isplitr; · ipureintro; exact harg16.read_unread _
      iexact Ho14
    isplitl [Ho15]; · iexists _; iexact Ho15
    isplitl [Ho16]; · iexists _; iexact Ho16
    isplitl [Ho17]; · iexists _; iexact Ho17
    isplitl [Hs0]; · iexists _; iexact Hs0
    isplitl [Hs1]
    · iexists _, _; isplitr; swap; · iexact Hs1
      ipureintro; rfl
    isplitl [Hs2]
    · iexists _, _; isplitr; swap; · iexact Hs2
      ipureintro; rfl
    isplitl [Hs3]
    · iexists _, _; isplitr; swap; · iexact Hs3
      ipureintro; rfl
    isplitl [Hs4]; · iexists _; iexact Hs4
    isplitl [Hs5]; · iexists _; iexact Hs5
    iexists _; iexact Hs6

end Cert.KernelIdeal.Rg

end
-- ==== Proof.RunC.lean ====
/- The run of the kernel body at the last point. -/
module

public import proofs.«01_k».proof.Proof.RunB

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the last point, on whole buffers: the inputs' at their contents, every buffer it reads before covering it at
    named contents, the others at anything. It runs to the continuation with the inputs as they were and each other
    buffer at a list of stores — the witnesses — written over something. -/
def runC (c : Dev nD) (i : grid0.Coords) (arg1 : Memref sig .tc .vmem S832x1024 .f32) (harg1 : arg1.IsWhole) (arg2 : Memref sig .tc .vmem S832x512 .f32) (harg2 : arg2.IsWhole) (arg3 : Memref sig .tc .vmem S832x512 .f32) (harg3 : arg3.IsWhole) (arg4 : Memref sig .tc .vmem S8x512 .f32) (harg4 : arg4.IsWhole) (arg5 : Memref sig .tc .vmem S832x512 .f32) (harg5 : arg5.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S832x1024 .bf16) (harg13 : arg13.IsWhole) (arg14 : Memref sig .tc .vmem S4x512 .f32) (harg14 : arg14.IsWhole) (arg15 : Memref sig .tc .vmem S1x512 .f32) (harg15 : arg15.IsWhole) (arg16 : Memref sig .tc .vmem S1024x64 .f32) (harg16 : arg16.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S840x512 .f32) (harg20 : arg20.IsWhole) (arg21 : Memref sig .tc .vmem S832x512 .f32) (harg21 : arg21.IsWhole) (arg22 : Memref sig .tc .vmem S832x512 .f32) (harg22 : arg22.IsWhole) (arg23 : Memref sig .tc .vmem S832x512 .f32) (harg23 : arg23.IsWhole) (arg24 : Memref sig .tc .vmem S512x1024 .f32) (harg24 : arg24.IsWhole) (arg25 : Memref sig .tc .vmem S1x512 .f32) (harg25 : arg25.IsWhole) (arg26 : Memref sig .tc .vmem S1x512 .f32) (harg26 : arg26.IsWhole) (hc0 : ¬cond0_0 i) (hc1 : cond0_1 i)
    (x0 : Vec F S832x1024 .f32) (x1 : Vec F S832x512 .f32) (x2 : Vec F S832x512 .f32) (x3 : Vec F S8x512 .f32) (x4 : Vec F S832x512 .f32) (x5 : Vec F S4x512 .f32) (x6 : Vec F S1x512 .f32) (x7 : Vec F S512x1024 .bf16) (x8 : Vec F S1x1024 .f32) (x9 : Vec F S1x512 .f32) (x10 : Vec F S1x512 .f32) (xo12 : Vec F S4x512 .f32) (xo13 : Vec F S1x512 .f32) (xo15 : Vec F S1x1024 .f32) (xo16 : Vec F S1x512 .f32) (xo17 : Vec F S1x512 .f32) (xs0 : Vec F S840x512 .f32) (xs4 : Vec F S512x1024 .f32) (xs5 : Vec F S1x512 .f32) (xs6 : Vec F S1x512 .f32) :
    Σ' (Lo11 : List (View.Piece (Elt F) S832x1024 .bf16)), Σ' (Lo12 : List (View.Piece (Elt F) S4x512 .f32)), Σ' (Lo13 : List (View.Piece (Elt F) S1x512 .f32)), Σ' (Lo14 : List (View.Piece (Elt F) S1024x64 .f32)), Σ' (Lo15 : List (View.Piece (Elt F) S1x1024 .f32)), Σ' (Lo16 : List (View.Piece (Elt F) S1x512 .f32)), Σ' (Lo17 : List (View.Piece (Elt F) S1x512 .f32)), Σ' (Ls0 : List (View.Piece (Elt F) S840x512 .f32)), Σ' (Ls4 : List (View.Piece (Elt F) S512x1024 .f32)), Σ' (Ls5 : List (View.Piece (Elt F) S1x512 .f32)), { Ls6 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xo12 ∗ owns (c : Thread nD τ) arg15 fullShare xo13 ∗ (∃ d, owns (c : Thread nD τ) arg16 fullShare d) ∗ owns (c : Thread nD τ) arg17 fullShare xo15 ∗ owns (c : Thread nD τ) arg18 fullShare xo16 ∗ owns (c : Thread nD τ) arg19 fullShare xo17 ∗ owns (c : Thread nD τ) arg20 fullShare xs0 ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs4 ∗ owns (c : Thread nD τ) arg25 fullShare xs5 ∗ owns (c : Thread nD τ) arg26 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f Lo11) ∗ (∃ f, arg14.view.loc (c : Thread nD τ) ↦[arg14.view.set]{fullShare} arg14.view.writes (Elt F) f Lo12) ∗ (∃ f, arg15.view.loc (c : Thread nD τ) ↦[arg15.view.set]{fullShare} arg15.view.writes (Elt F) f Lo13) ∗ (∃ f, arg16.view.loc (c : Thread nD τ) ↦[arg16.view.set]{fullShare} arg16.view.writes (Elt F) f Lo14) ∗ (∃ f, arg17.view.loc (c : Thread nD τ) ↦[arg17.view.set]{fullShare} arg17.view.writes (Elt F) f Lo15) ∗ (∃ f, arg18.view.loc (c : Thread nD τ) ↦[arg18.view.set]{fullShare} arg18.view.writes (Elt F) f Lo16) ∗ (∃ f, arg19.view.loc (c : Thread nD τ) ↦[arg19.view.set]{fullShare} arg19.view.writes (Elt F) f Lo17) ∗ (∃ f, arg20.view.loc (c : Thread nD τ) ↦[arg20.view.set]{fullShare} arg20.view.writes (Elt F) f Ls0) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f Ls4) ∗ (∃ f, arg25.view.loc (c : Thread nD τ) ↦[arg25.view.set]{fullShare} arg25.view.writes (Elt F) f Ls5) ∗ (∃ f, arg26.view.loc (c : Thread nD τ) ↦[arg26.view.set]{fullShare} arg26.view.writes (Elt F) f Ls6)) -∗ K ⟨⟩))
          ⊢ wp frame (wpE (defs₀ (F := F)) Variants.none c none) E (cc0_rg_bwd i arg1 harg1 arg2 harg2 arg3 harg3 arg4 harg4 arg5 harg5 (Memref.whole main_arg3) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, fun E K => ?run⟩
  case run =>
    simp only [cc0_rg_bwd_eq_skeleton]; unfold cc0_rg_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%do11, %fo11, -, Ho11⟩, ⟨%fo12, %hfo12, Ho12⟩, ⟨%fo13, %hfo13, Ho13⟩, ⟨%do14, %fo14, -, Ho14⟩, ⟨%fo15, %hfo15, Ho15⟩, ⟨%fo16, %hfo16, Ho16⟩, ⟨%fo17, %hfo17, Ho17⟩, ⟨%fs0, %hfs0, Hs0⟩, ⟨%ds1, %fs1, -, Hs1⟩, ⟨%ds2, %fs2, -, Hs2⟩, ⟨%ds3, %fs3, -, Hs3⟩, ⟨%fs4, %hfs4, Hs4⟩, ⟨%fs5, %hfs5, Hs5⟩, ⟨%fs6, %hfs6, Hs6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfo12; obtain rfl := harg15.eq_unread hfo13; obtain rfl := harg17.eq_unread hfo15; obtain rfl := harg18.eq_unread hfo16; obtain rfl := harg19.eq_unread hfo17; obtain rfl := harg20.eq_unread hfs0; obtain rfl := harg24.eq_unread hfs4; obtain rfl := harg25.eq_unread hfs5; obtain rfl := harg26.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [Ho11]; · iexists _; iexact Ho11
    isplitl [Ho12]; · iexists _; iexact Ho12
    isplitl [Ho13]; · iexists _; iexact Ho13
    isplitl [Ho14]; · iexists _; iexact Ho14
    isplitl [Ho15]; · iexists _; iexact Ho15
    isplitl [Ho16]; · iexists _; iexact Ho16
    isplitl [Ho17]; · iexists _; iexact Ho17
    isplitl [Hs0]; · iexists _; iexact Hs0
    isplitl [Hs1]
    · iexists _, _; isplitr; swap; · iexact Hs1
      ipureintro; rfl
    isplitl [Hs2]
    · iexists _, _; isplitr; swap; · iexact Hs2
      ipureintro; rfl
    isplitl [Hs3]
    · iexists _, _; isplitr; swap; · iexact Hs3
      ipureintro; rfl
    isplitl [Hs4]; · iexists _; iexact Hs4
    isplitl [Hs5]; · iexists _; iexact Hs5
    iexists _; iexact Hs6

end Cert.KernelIdeal.Rg

end
-- ==== Proof.Outs.lean ====
/- What one point of the kernel is given and what it leaves, in each of the three cases, and that its stores cover
   every buffer it leaves. -/
module

public import proofs.«01_k».proof.Proof.RunC

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## What a point is given and what it leaves -/

/-- The eleven input blocks a point works on. -/
structure Ins (F : FTy → Type) where
  x0 : Vec F S832x1024 .f32
  x1 : Vec F S832x512 .f32
  x2 : Vec F S832x512 .f32
  x3 : Vec F S8x512 .f32
  x4 : Vec F S832x512 .f32
  x5 : Vec F S4x512 .f32
  x6 : Vec F S1x512 .f32
  x7 : Vec F S512x1024 .bf16
  x8 : Vec F S1x1024 .f32
  x9 : Vec F S1x512 .f32
  x10 : Vec F S1x512 .f32

/-- What a point leaves: its seven output blocks, and the four scratch buffers the next point reads. -/
structure St (F : FTy → Type) where
  o11 : Vec F S832x1024 .bf16
  o12 : Vec F S4x512 .f32
  o13 : Vec F S1x512 .f32
  o14 : Vec F S1024x64 .f32
  o15 : Vec F S1x1024 .f32
  o16 : Vec F S1x512 .f32
  o17 : Vec F S1x512 .f32
  s0 : Vec F S840x512 .f32
  s4 : Vec F S512x1024 .f32
  s5 : Vec F S1x512 .f32
  s6 : Vec F S1x512 .f32

/-- The run of the body at A, at the buffers point `t` hands it. -/
def atA (c : Dev nD) (t : Fin cfg0.N) (h0 : cond0_0 (grid0.coords t)) (h1 : ¬cond0_1 (grid0.coords t)) (x : Ins F) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) h0 h1 x.x0 x.x1 x.x2 x.x3 x.x4 x.x5 x.x6 x.x7 x.x8 x.x9 x.x10

/-- What that run leaves. -/
def outA (c : Dev nD) (t : Fin cfg0.N) (h0 : cond0_0 (grid0.coords t)) (h1 : ¬cond0_1 (grid0.coords t)) (x : Ins F) : St F where
  o11 := back (Memref.whole cc0_stg11_0) (atA c t h0 h1 x).1
  o12 := back (Memref.whole cc0_stg12_0) (atA c t h0 h1 x).2.1
  o13 := back (Memref.whole cc0_stg13_0) (atA c t h0 h1 x).2.2.1
  o14 := back (Memref.whole cc0_stg14_0) (atA c t h0 h1 x).2.2.2.1
  o15 := back (Memref.whole cc0_stg15_0) (atA c t h0 h1 x).2.2.2.2.1
  o16 := back (Memref.whole cc0_stg16_0) (atA c t h0 h1 x).2.2.2.2.2.1
  o17 := back (Memref.whole cc0_stg17_0) (atA c t h0 h1 x).2.2.2.2.2.2.1
  s0 := back sc0 (atA c t h0 h1 x).2.2.2.2.2.2.2.1
  s4 := back sc4 (atA c t h0 h1 x).2.2.2.2.2.2.2.2.1
  s5 := back sc5 (atA c t h0 h1 x).2.2.2.2.2.2.2.2.2.1
  s6 := back sc6 (atA c t h0 h1 x).2.2.2.2.2.2.2.2.2.2.1

theorem coverA_o11 (c : Dev nD) (t : Fin cfg0.N) (h0 : cond0_0 (grid0.coords t)) (h1 : ¬cond0_1 (grid0.coords t)) (x : Ins F) (y : S832x1024.Idx) :
    ∃ q ∈ (atA c t h0 h1 x).1, y ∈ q.1.set :=
  View.cover_of_tiledL (atA c t h0 h1 x).1 ![832, 512] (by sl_kernel_rfl) y

theorem coverA_o12 (c : Dev nD) (t : Fin cfg0.N) (h0 : cond0_0 (grid0.coords t)) (h1 : ¬cond0_1 (grid0.coords t)) (x : Ins F) (y : S4x512.Idx) :
    ∃ q ∈ (atA c t h0 h1 x).2.1, y ∈ q.1.set :=
  View.cover_of_tiledBy (atA c t h0 h1 x).2.1 ![1, 512] (by sl_kernel_rfl) y

theorem coverA_o13 (c : Dev nD) (t : Fin cfg0.N) (h0 : cond0_0 (grid0.coords t)) (h1 : ¬cond0_1 (grid0.coords t)) (x : Ins F) (y : S1x512.Idx) :
    ∃ q ∈ (atA c t h0 h1 x).2.2.1, y ∈ q.1.set :=
  View.cover_of_tiledL (atA c t h0 h1 x).2.2.1 ![1, 512] (by sl_kernel_rfl) y

theorem coverA_o14 (c : Dev nD) (t : Fin cfg0.N) (h0 : cond0_0 (grid0.coords t)) (h1 : ¬cond0_1 (grid0.coords t)) (x : Ins F) (y : S1024x64.Idx) :
    ∃ q ∈ (atA c t h0 h1 x).2.2.2.1, y ∈ q.1.set :=
  View.cover_of_tiledL (atA c t h0 h1 x).2.2.2.1 ![1024, 64] (by sl_kernel_rfl) y

theorem coverA_o15 (c : Dev nD) (t : Fin cfg0.N) (h0 : cond0_0 (grid0.coords t)) (h1 : ¬cond0_1 (grid0.coords t)) (x : Ins F) (y : S1x1024.Idx) :
    ∃ q ∈ (atA c t h0 h1 x).2.2.2.2.1, y ∈ q.1.set :=
  View.cover_of_tiledL (atA c t h0 h1 x).2.2.2.2.1 ![1, 1024] (by sl_kernel_rfl) y

theorem coverA_o16 (c : Dev nD) (t : Fin cfg0.N) (h0 : cond0_0 (grid0.coords t)) (h1 : ¬cond0_1 (grid0.coords t)) (x : Ins F) (y : S1x512.Idx) :
    ∃ q ∈ (atA c t h0 h1 x).2.2.2.2.2.1, y ∈ q.1.set :=
  View.cover_of_tiledL (atA c t h0 h1 x).2.2.2.2.2.1 ![1, 512] (by sl_kernel_rfl) y

theorem coverA_o17 (c : Dev nD) (t : Fin cfg0.N) (h0 : cond0_0 (grid0.coords t)) (h1 : ¬cond0_1 (grid0.coords t)) (x : Ins F) (y : S1x512.Idx) :
    ∃ q ∈ (atA c t h0 h1 x).2.2.2.2.2.2.1, y ∈ q.1.set :=
  View.cover_of_tiledL (atA c t h0 h1 x).2.2.2.2.2.2.1 ![1, 512] (by sl_kernel_rfl) y

theorem coverA_s0 (c : Dev nD) (t : Fin cfg0.N) (h0 : cond0_0 (grid0.coords t)) (h1 : ¬cond0_1 (grid0.coords t)) (x : Ins F) (y : S840x512.Idx) :
    ∃ q ∈ (atA c t h0 h1 x).2.2.2.2.2.2.2.1, y ∈ q.1.set :=
  View.cover_of_tiledBy (atA c t h0 h1 x).2.2.2.2.2.2.2.1 ![8, 512] (by sl_kernel_rfl) y

theorem coverA_s4 (c : Dev nD) (t : Fin cfg0.N) (h0 : cond0_0 (grid0.coords t)) (h1 : ¬cond0_1 (grid0.coords t)) (x : Ins F) (y : S512x1024.Idx) :
    ∃ q ∈ (atA c t h0 h1 x).2.2.2.2.2.2.2.2.1, y ∈ q.1.set :=
  View.cover_of_tiledL (atA c t h0 h1 x).2.2.2.2.2.2.2.2.1 ![512, 1024] (by sl_kernel_rfl) y

theorem coverA_s5 (c : Dev nD) (t : Fin cfg0.N) (h0 : cond0_0 (grid0.coords t)) (h1 : ¬cond0_1 (grid0.coords t)) (x : Ins F) (y : S1x512.Idx) :
    ∃ q ∈ (atA c t h0 h1 x).2.2.2.2.2.2.2.2.2.1, y ∈ q.1.set :=
  View.cover_of_tiledL (atA c t h0 h1 x).2.2.2.2.2.2.2.2.2.1 ![1, 512] (by sl_kernel_rfl) y

theorem coverA_s6 (c : Dev nD) (t : Fin cfg0.N) (h0 : cond0_0 (grid0.coords t)) (h1 : ¬cond0_1 (grid0.coords t)) (x : Ins F) (y : S1x512.Idx) :
    ∃ q ∈ (atA c t h0 h1 x).2.2.2.2.2.2.2.2.2.2.1, y ∈ q.1.set :=
  View.cover_of_tiledL (atA c t h0 h1 x).2.2.2.2.2.2.2.2.2.2.1 ![1, 512] (by sl_kernel_rfl) y

/-- The run of the body at B, at the buffers point `t` hands it, over what the point before left. -/
def atB (c : Dev nD) (t : Fin cfg0.N) (h0 : ¬cond0_0 (grid0.coords t)) (h1 : ¬cond0_1 (grid0.coords t)) (x : Ins F) (p : St F) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) h0 h1 x.x0 x.x1 x.x2 x.x3 x.x4 x.x5 x.x6 x.x7 x.x8 x.x9 x.x10 p.o12 p.o13 p.o15 p.o16 p.o17 p.s0 p.s4 p.s5 p.s6

/-- What that run leaves. -/
def outB (c : Dev nD) (t : Fin cfg0.N) (h0 : ¬cond0_0 (grid0.coords t)) (h1 : ¬cond0_1 (grid0.coords t)) (x : Ins F) (p : St F) : St F where
  o11 := back (Memref.whole cc0_stg11_0) (atB c t h0 h1 x p).1
  o12 := back (Memref.whole cc0_stg12_0) (atB c t h0 h1 x p).2.1
  o13 := back (Memref.whole cc0_stg13_0) (atB c t h0 h1 x p).2.2.1
  o14 := back (Memref.whole cc0_stg14_0) (atB c t h0 h1 x p).2.2.2.1
  o15 := back (Memref.whole cc0_stg15_0) (atB c t h0 h1 x p).2.2.2.2.1
  o16 := back (Memref.whole cc0_stg16_0) (atB c t h0 h1 x p).2.2.2.2.2.1
  o17 := back (Memref.whole cc0_stg17_0) (atB c t h0 h1 x p).2.2.2.2.2.2.1
  s0 := back sc0 (atB c t h0 h1 x p).2.2.2.2.2.2.2.1
  s4 := back sc4 (atB c t h0 h1 x p).2.2.2.2.2.2.2.2.1
  s5 := back sc5 (atB c t h0 h1 x p).2.2.2.2.2.2.2.2.2.1
  s6 := back sc6 (atB c t h0 h1 x p).2.2.2.2.2.2.2.2.2.2.1

theorem coverB_o11 (c : Dev nD) (t : Fin cfg0.N) (h0 : ¬cond0_0 (grid0.coords t)) (h1 : ¬cond0_1 (grid0.coords t)) (x : Ins F) (p : St F) (y : S832x1024.Idx) :
    ∃ q ∈ (atB c t h0 h1 x p).1, y ∈ q.1.set :=
  View.cover_of_tiledL (atB c t h0 h1 x p).1 ![832, 512] (by sl_kernel_rfl) y

theorem coverB_o12 (c : Dev nD) (t : Fin cfg0.N) (h0 : ¬cond0_0 (grid0.coords t)) (h1 : ¬cond0_1 (grid0.coords t)) (x : Ins F) (p : St F) (y : S4x512.Idx) :
    ∃ q ∈ (atB c t h0 h1 x p).2.1, y ∈ q.1.set :=
  View.cover_of_tiledL (atB c t h0 h1 x p).2.1 ![1, 512] (by sl_kernel_rfl) y

theorem coverB_o13 (c : Dev nD) (t : Fin cfg0.N) (h0 : ¬cond0_0 (grid0.coords t)) (h1 : ¬cond0_1 (grid0.coords t)) (x : Ins F) (p : St F) (y : S1x512.Idx) :
    ∃ q ∈ (atB c t h0 h1 x p).2.2.1, y ∈ q.1.set :=
  View.cover_of_tiledL (atB c t h0 h1 x p).2.2.1 ![1, 512] (by sl_kernel_rfl) y

theorem coverB_o15 (c : Dev nD) (t : Fin cfg0.N) (h0 : ¬cond0_0 (grid0.coords t)) (h1 : ¬cond0_1 (grid0.coords t)) (x : Ins F) (p : St F) (y : S1x1024.Idx) :
    ∃ q ∈ (atB c t h0 h1 x p).2.2.2.2.1, y ∈ q.1.set :=
  View.cover_of_tiledL (atB c t h0 h1 x p).2.2.2.2.1 ![1, 1024] (by sl_kernel_rfl) y

theorem coverB_o16 (c : Dev nD) (t : Fin cfg0.N) (h0 : ¬cond0_0 (grid0.coords t)) (h1 : ¬cond0_1 (grid0.coords t)) (x : Ins F) (p : St F) (y : S1x512.Idx) :
    ∃ q ∈ (atB c t h0 h1 x p).2.2.2.2.2.1, y ∈ q.1.set :=
  View.cover_of_tiledL (atB c t h0 h1 x p).2.2.2.2.2.1 ![1, 512] (by sl_kernel_rfl) y

theorem coverB_o17 (c : Dev nD) (t : Fin cfg0.N) (h0 : ¬cond0_0 (grid0.coords t)) (h1 : ¬cond0_1 (grid0.coords t)) (x : Ins F) (p : St F) (y : S1x512.Idx) :
    ∃ q ∈ (atB c t h0 h1 x p).2.2.2.2.2.2.1, y ∈ q.1.set :=
  View.cover_of_tiledL (atB c t h0 h1 x p).2.2.2.2.2.2.1 ![1, 512] (by sl_kernel_rfl) y

theorem coverB_s0 (c : Dev nD) (t : Fin cfg0.N) (h0 : ¬cond0_0 (grid0.coords t)) (h1 : ¬cond0_1 (grid0.coords t)) (x : Ins F) (p : St F) (y : S840x512.Idx) :
    ∃ q ∈ (atB c t h0 h1 x p).2.2.2.2.2.2.2.1, y ∈ q.1.set :=
  View.cover_of_tiledBy (atB c t h0 h1 x p).2.2.2.2.2.2.2.1 ![8, 512] (by sl_kernel_rfl) y

theorem coverB_s4 (c : Dev nD) (t : Fin cfg0.N) (h0 : ¬cond0_0 (grid0.coords t)) (h1 : ¬cond0_1 (grid0.coords t)) (x : Ins F) (p : St F) (y : S512x1024.Idx) :
    ∃ q ∈ (atB c t h0 h1 x p).2.2.2.2.2.2.2.2.1, y ∈ q.1.set :=
  View.cover_of_tiledL (atB c t h0 h1 x p).2.2.2.2.2.2.2.2.1 ![512, 1024] (by sl_kernel_rfl) y

theorem coverB_s5 (c : Dev nD) (t : Fin cfg0.N) (h0 : ¬cond0_0 (grid0.coords t)) (h1 : ¬cond0_1 (grid0.coords t)) (x : Ins F) (p : St F) (y : S1x512.Idx) :
    ∃ q ∈ (atB c t h0 h1 x p).2.2.2.2.2.2.2.2.2.1, y ∈ q.1.set :=
  View.cover_of_tiledL (atB c t h0 h1 x p).2.2.2.2.2.2.2.2.2.1 ![1, 512] (by sl_kernel_rfl) y

theorem coverB_s6 (c : Dev nD) (t : Fin cfg0.N) (h0 : ¬cond0_0 (grid0.coords t)) (h1 : ¬cond0_1 (grid0.coords t)) (x : Ins F) (p : St F) (y : S1x512.Idx) :
    ∃ q ∈ (atB c t h0 h1 x p).2.2.2.2.2.2.2.2.2.2.1, y ∈ q.1.set :=
  View.cover_of_tiledL (atB c t h0 h1 x p).2.2.2.2.2.2.2.2.2.2.1 ![1, 512] (by sl_kernel_rfl) y

/-- The run of the body at C, at the buffers point `t` hands it, over what the point before left. -/
def atC (c : Dev nD) (t : Fin cfg0.N) (h0 : ¬cond0_0 (grid0.coords t)) (h1 : cond0_1 (grid0.coords t)) (x : Ins F) (p : St F) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) h0 h1 x.x0 x.x1 x.x2 x.x3 x.x4 x.x5 x.x6 x.x7 x.x8 x.x9 x.x10 p.o12 p.o13 p.o15 p.o16 p.o17 p.s0 p.s4 p.s5 p.s6

/-- What that run leaves. -/
def outC (c : Dev nD) (t : Fin cfg0.N) (h0 : ¬cond0_0 (grid0.coords t)) (h1 : cond0_1 (grid0.coords t)) (x : Ins F) (p : St F) : St F where
  o11 := back (Memref.whole cc0_stg11_0) (atC c t h0 h1 x p).1
  o12 := back (Memref.whole cc0_stg12_0) (atC c t h0 h1 x p).2.1
  o13 := back (Memref.whole cc0_stg13_0) (atC c t h0 h1 x p).2.2.1
  o14 := back (Memref.whole cc0_stg14_0) (atC c t h0 h1 x p).2.2.2.1
  o15 := back (Memref.whole cc0_stg15_0) (atC c t h0 h1 x p).2.2.2.2.1
  o16 := back (Memref.whole cc0_stg16_0) (atC c t h0 h1 x p).2.2.2.2.2.1
  o17 := back (Memref.whole cc0_stg17_0) (atC c t h0 h1 x p).2.2.2.2.2.2.1
  s0 := back sc0 (atC c t h0 h1 x p).2.2.2.2.2.2.2.1
  s4 := back sc4 (atC c t h0 h1 x p).2.2.2.2.2.2.2.2.1
  s5 := back sc5 (atC c t h0 h1 x p).2.2.2.2.2.2.2.2.2.1
  s6 := back sc6 (atC c t h0 h1 x p).2.2.2.2.2.2.2.2.2.2.1

theorem coverC_o11 (c : Dev nD) (t : Fin cfg0.N) (h0 : ¬cond0_0 (grid0.coords t)) (h1 : cond0_1 (grid0.coords t)) (x : Ins F) (p : St F) (y : S832x1024.Idx) :
    ∃ q ∈ (atC c t h0 h1 x p).1, y ∈ q.1.set :=
  View.cover_of_tiledL (atC c t h0 h1 x p).1 ![832, 512] (by sl_kernel_rfl) y

theorem coverC_o12 (c : Dev nD) (t : Fin cfg0.N) (h0 : ¬cond0_0 (grid0.coords t)) (h1 : cond0_1 (grid0.coords t)) (x : Ins F) (p : St F) (y : S4x512.Idx) :
    ∃ q ∈ (atC c t h0 h1 x p).2.1, y ∈ q.1.set :=
  View.cover_of_tiledL (atC c t h0 h1 x p).2.1 ![1, 512] (by sl_kernel_rfl) y

theorem coverC_o13 (c : Dev nD) (t : Fin cfg0.N) (h0 : ¬cond0_0 (grid0.coords t)) (h1 : cond0_1 (grid0.coords t)) (x : Ins F) (p : St F) (y : S1x512.Idx) :
    ∃ q ∈ (atC c t h0 h1 x p).2.2.1, y ∈ q.1.set :=
  View.cover_of_tiledL (atC c t h0 h1 x p).2.2.1 ![1, 512] (by sl_kernel_rfl) y

theorem coverC_o14 (c : Dev nD) (t : Fin cfg0.N) (h0 : ¬cond0_0 (grid0.coords t)) (h1 : cond0_1 (grid0.coords t)) (x : Ins F) (p : St F) (y : S1024x64.Idx) :
    ∃ q ∈ (atC c t h0 h1 x p).2.2.2.1, y ∈ q.1.set :=
  View.cover_of_tiledL (atC c t h0 h1 x p).2.2.2.1 ![512, 64] (by sl_kernel_rfl) y

theorem coverC_o15 (c : Dev nD) (t : Fin cfg0.N) (h0 : ¬cond0_0 (grid0.coords t)) (h1 : cond0_1 (grid0.coords t)) (x : Ins F) (p : St F) (y : S1x1024.Idx) :
    ∃ q ∈ (atC c t h0 h1 x p).2.2.2.2.1, y ∈ q.1.set :=
  View.cover_of_tiledL (atC c t h0 h1 x p).2.2.2.2.1 ![1, 1024] (by sl_kernel_rfl) y

theorem coverC_o16 (c : Dev nD) (t : Fin cfg0.N) (h0 : ¬cond0_0 (grid0.coords t)) (h1 : cond0_1 (grid0.coords t)) (x : Ins F) (p : St F) (y : S1x512.Idx) :
    ∃ q ∈ (atC c t h0 h1 x p).2.2.2.2.2.1, y ∈ q.1.set :=
  View.cover_of_tiledL (atC c t h0 h1 x p).2.2.2.2.2.1 ![1, 512] (by sl_kernel_rfl) y

theorem coverC_o17 (c : Dev nD) (t : Fin cfg0.N) (h0 : ¬cond0_0 (grid0.coords t)) (h1 : cond0_1 (grid0.coords t)) (x : Ins F) (p : St F) (y : S1x512.Idx) :
    ∃ q ∈ (atC c t h0 h1 x p).2.2.2.2.2.2.1, y ∈ q.1.set :=
  View.cover_of_tiledL (atC c t h0 h1 x p).2.2.2.2.2.2.1 ![1, 512] (by sl_kernel_rfl) y

theorem coverC_s0 (c : Dev nD) (t : Fin cfg0.N) (h0 : ¬cond0_0 (grid0.coords t)) (h1 : cond0_1 (grid0.coords t)) (x : Ins F) (p : St F) (y : S840x512.Idx) :
    ∃ q ∈ (atC c t h0 h1 x p).2.2.2.2.2.2.2.1, y ∈ q.1.set :=
  View.cover_of_tiledBy (atC c t h0 h1 x p).2.2.2.2.2.2.2.1 ![8, 512] (by sl_kernel_rfl) y

theorem coverC_s4 (c : Dev nD) (t : Fin cfg0.N) (h0 : ¬cond0_0 (grid0.coords t)) (h1 : cond0_1 (grid0.coords t)) (x : Ins F) (p : St F) (y : S512x1024.Idx) :
    ∃ q ∈ (atC c t h0 h1 x p).2.2.2.2.2.2.2.2.1, y ∈ q.1.set :=
  View.cover_of_tiledL (atC c t h0 h1 x p).2.2.2.2.2.2.2.2.1 ![512, 1024] (by sl_kernel_rfl) y

theorem coverC_s5 (c : Dev nD) (t : Fin cfg0.N) (h0 : ¬cond0_0 (grid0.coords t)) (h1 : cond0_1 (grid0.coords t)) (x : Ins F) (p : St F) (y : S1x512.Idx) :
    ∃ q ∈ (atC c t h0 h1 x p).2.2.2.2.2.2.2.2.2.1, y ∈ q.1.set :=
  View.cover_of_tiledL (atC c t h0 h1 x p).2.2.2.2.2.2.2.2.2.1 ![1, 512] (by sl_kernel_rfl) y

theorem coverC_s6 (c : Dev nD) (t : Fin cfg0.N) (h0 : ¬cond0_0 (grid0.coords t)) (h1 : cond0_1 (grid0.coords t)) (x : Ins F) (p : St F) (y : S1x512.Idx) :
    ∃ q ∈ (atC c t h0 h1 x p).2.2.2.2.2.2.2.2.2.2.1, y ∈ q.1.set :=
  View.cover_of_tiledL (atC c t h0 h1 x p).2.2.2.2.2.2.2.2.2.2.1 ![1, 512] (by sl_kernel_rfl) y

end Cert.KernelIdeal.Rg

end
-- ==== Proof.Region.lean ====
/- The kernel's five points one after the other: what each leaves for the next, the pipeline's data, and that every
   run ends with the arrays at what the points left. -/
module

public import proofs.«01_k».proof.Proof.Outs

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks of point `t`. -/
def ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t

/-- What the points up to `n` leave, by recursion over the points. -/
def outs (c : Dev nD) : (n : ℕ) → n < cfg0.N → St F
  | 0, hn => outA c ⟨0, hn⟩ ((hcond0_0 _).mpr (Nat.zero_mod _)) (fun h => absurd ((hcond0_1 _).mp h) (by decide : ¬0 % 5 = 4)) (ins m c ⟨0, hn⟩)
  | n + 1, hn =>
    if h1 : (n + 1) % 5 = 4 then
      outC c ⟨n + 1, hn⟩ (fun h => absurd ((hcond0_0 _).mp h) (by show ¬(n + 1) % 5 = 0; omega)) ((hcond0_1 _).mpr h1) (ins m c ⟨n + 1, hn⟩) (outs c n (Nat.lt_of_succ_lt hn))
    else
      outB c ⟨n + 1, hn⟩ (fun h => absurd ((hcond0_0 _).mp h) (by have : cfg0.N = 5 := N_0; show ¬(n + 1) % 5 = 0; omega)) (fun h => h1 ((hcond0_1 _).mp h)) (ins m c ⟨n + 1, hn⟩) (outs c n (Nat.lt_of_succ_lt hn))

/-- What the point before `t` left. -/
abbrev prev (c : Dev nD) (t : Fin cfg0.N) : St F := outs m c (t.val - 1) (Nat.lt_of_le_of_lt (Nat.sub_le _ _) t.isLt)

theorem outs_A (c : Dev nD) (t : Fin cfg0.N) (h0 : t.val % 5 = 0) (h1 : ¬t.val % 5 = 4) :
    outs m c t.val t.isLt = outA c t ((hcond0_0 t).mpr h0) (fun h => h1 ((hcond0_1 t).mp h)) (ins m c t) := by
  obtain ⟨n, hn⟩ := t
  cases n with
  | zero => rfl
  | succ n => exfalso; have : cfg0.N = 5 := N_0; dsimp only at h0; omega

theorem outs_B (c : Dev nD) (t : Fin cfg0.N) (h0 : ¬t.val % 5 = 0) (h1 : ¬t.val % 5 = 4) :
    outs m c t.val t.isLt = outB c t (fun h => h0 ((hcond0_0 t).mp h)) (fun h => h1 ((hcond0_1 t).mp h)) (ins m c t) (prev m c t) := by
  obtain ⟨n, hn⟩ := t
  cases n with
  | zero => exact absurd (Nat.zero_mod _) h0
  | succ n => exact dif_neg h1

theorem outs_C (c : Dev nD) (t : Fin cfg0.N) (h0 : ¬t.val % 5 = 0) (h1 : t.val % 5 = 4) :
    outs m c t.val t.isLt = outC c t (fun h => h0 ((hcond0_0 t).mp h)) ((hcond0_1 t).mpr h1) (ins m c t) (prev m c t) := by
  obtain ⟨n, hn⟩ := t
  cases n with
  | zero => exact absurd (Nat.zero_mod _) h0
  | succ n => exact dif_pos h1

/-- Between two points: the four scratch buffers the kernel carries at what the point before left, the others at
    anything, the generator register at some state; before the first point every buffer at anything. -/
def PhiS (c : Dev nD) : (n : ℕ) → n ≤ cfg0.N → sProp 𝕄
  | 0, _ => Pipeline.ΦA spec0 c
  | n + 1, hn => iprop(iprop(owns (c : Thread nD τ) sc0 fullShare (outs m c n hn).s0 ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (outs m c n hn).s4 ∗ owns (c : Thread nD τ) sc5 fullShare (outs m c n hn).s5 ∗ owns (c : Thread nD τ) sc6 fullShare (outs m c n hn).s6) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) sc0 fullShare (outs m c n hn).s0 ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (outs m c n hn).s4 ∗ owns (c : Thread nD τ) sc5 fullShare (outs m c n hn).s5 ∗ owns (c : Thread nD τ) sc6 fullShare (outs m c n hn).s6) ∗ (∃ r, prngReg c r)) := rfl

theorem PhiS_pos (c : Dev nD) (n : ℕ) (h : n ≤ cfg0.N) (hz : n ≠ 0) :
    PhiS m c n h = iprop(iprop(owns (c : Thread nD τ) sc0 fullShare (outs m c (n - 1) (by omega)).s0 ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (outs m c (n - 1) (by omega)).s4 ∗ owns (c : Thread nD τ) sc5 fullShare (outs m c (n - 1) (by omega)).s5 ∗ owns (c : Thread nD τ) sc6 fullShare (outs m c (n - 1) (by omega)).s6) ∗ (∃ r, prngReg c r)) := by
  cases n with
  | zero => exact absurd rfl hz
  | succ n => rfl

/-- The pipeline's data on core `c`: the arrays as the region finds them; after a point each input's buffer at its
    block and each output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t.val t.isLt).o11
    | ⟨12, _⟩ => (outs m c t.val t.isLt).o12
    | ⟨13, _⟩ => (outs m c t.val t.isLt).o13
    | ⟨14, _⟩ => (outs m c t.val t.isLt).o14
    | ⟨15, _⟩ => (outs m c t.val t.isLt).o15
    | ⟨16, _⟩ => (outs m c t.val t.isLt).o16
    | ⟨17, _⟩ => (outs m c t.val t.isLt).o17
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outs m c t.val t.isLt).o11 := by dsimp only [dats]
theorem after0_12 (c : Dev nD) (t : Fin cfg0.N) : (dats m 0 c).after 12 t = (outs m c t.val t.isLt).o12 := by dsimp only [dats]
theorem after0_13 (c : Dev nD) (t : Fin cfg0.N) : (dats m 0 c).after 13 t = (outs m c t.val t.isLt).o13 := by dsimp only [dats]
theorem after0_14 (c : Dev nD) (t : Fin cfg0.N) : (dats m 0 c).after 14 t = (outs m c t.val t.isLt).o14 := by dsimp only [dats]
theorem after0_15 (c : Dev nD) (t : Fin cfg0.N) : (dats m 0 c).after 15 t = (outs m c t.val t.isLt).o15 := by dsimp only [dats]
theorem after0_16 (c : Dev nD) (t : Fin cfg0.N) : (dats m 0 c).after 16 t = (outs m c t.val t.isLt).o16 := by dsimp only [dats]
theorem after0_17 (c : Dev nD) (t : Fin cfg0.N) : (dats m 0 c).after 17 t = (outs m c t.val t.isLt).o17 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! What an accumulated output's buffer holds before a point that is not the first: what the point before left. -/

theorem before0_12 (c : Dev nD) (t : Fin cfg0.N) (h0 : ¬t.val % 5 = 0) (d) : (dats m 0 c).before 12 t d = (prev m c t).o12 := by
  have hN : t.val < 5 := lt_of_lt_of_eq t.isLt (show cfg0.N = 5 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_13 (c : Dev nD) (t : Fin cfg0.N) (h0 : ¬t.val % 5 = 0) (d) : (dats m 0 c).before 13 t d = (prev m c t).o13 := by
  have hN : t.val < 5 := lt_of_lt_of_eq t.isLt (show cfg0.N = 5 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_15 (c : Dev nD) (t : Fin cfg0.N) (h0 : ¬t.val % 5 = 0) (d) : (dats m 0 c).before 15 t d = (prev m c t).o15 := by
  have hN : t.val < 5 := lt_of_lt_of_eq t.isLt (show cfg0.N = 5 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16 (c : Dev nD) (t : Fin cfg0.N) (h0 : ¬t.val % 5 = 0) (d) : (dats m 0 c).before 16 t d = (prev m c t).o16 := by
  have hN : t.val < 5 := lt_of_lt_of_eq t.isLt (show cfg0.N = 5 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17 (c : Dev nD) (t : Fin cfg0.N) (h0 : ¬t.val % 5 = 0) (d) : (dats m 0 c).before 17 t d = (prev m c t).o17 := by
  have hN : t.val < 5 := lt_of_lt_of_eq t.isLt (show cfg0.N = 5 from N_0)
  rw [Dat.before_out_kept _ 17 rfl t (by omega) (Bool.eq_false_iff.mpr fun h => by have := (flush0_17 _).mp h; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 28800000 in
/-- The body at A. -/
theorem sound_A (c : Dev nD) (t : Fin cfg0.N) (h0 : t.val % 5 = 0) (h1 : ¬t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  rw [show (dats m 0 c).leavesExact 5 t = owns (c : Thread nD τ) (ms5 t) fullShare ((dats m 0 c).after 5 t) from by
    unfold Dat.leavesExact; rw [liveAt0_5 t], after0_5]
  rw [show (dats m 0 c).leavesExact 6 t = owns (c : Thread nD τ) (ms6 t) fullShare ((dats m 0 c).after 6 t) from by
    unfold Dat.leavesExact; rw [liveAt0_6 t], after0_6]
  rw [show (dats m 0 c).leavesExact 7 t = owns (c : Thread nD τ) (ms7 t) fullShare ((dats m 0 c).after 7 t) from by
    unfold Dat.leavesExact; rw [liveAt0_7 t], after0_7]
  rw [show (dats m 0 c).leavesExact 8 t = owns (c : Thread nD τ) (ms8 t) fullShare ((dats m 0 c).after 8 t) from by
    unfold Dat.leavesExact; rw [liveAt0_8 t], after0_8]
  rw [show (dats m 0 c).leavesExact 9 t = owns (c : Thread nD τ) (ms9 t) fullShare ((dats m 0 c).after 9 t) from by
    unfold Dat.leavesExact; rw [liveAt0_9 t], after0_9]
  rw [show (dats m 0 c).leavesExact 10 t = owns (c : Thread nD τ) (ms10 t) fullShare ((dats m 0 c).after 10 t) from by
    unfold Dat.leavesExact; rw [liveAt0_10 t], after0_10]
  rw [show (dats m 0 c).leavesExact 11 t = owns (c : Thread nD τ) (ms11 t) fullShare ((dats m 0 c).after 11 t) from by
    unfold Dat.leavesExact; rw [liveAt0_11 t], after0_11]
  rw [show (dats m 0 c).leavesExact 12 t = owns (c : Thread nD τ) (ms12 t) fullShare ((dats m 0 c).after 12 t) from by
    unfold Dat.leavesExact; rw [liveAt0_12 t], after0_12]
  rw [show (dats m 0 c).leavesExact 13 t = owns (c : Thread nD τ) (ms13 t) fullShare ((dats m 0 c).after 13 t) from by
    unfold Dat.leavesExact; rw [liveAt0_13 t], after0_13]
  rw [show (dats m 0 c).leavesExact 14 t = owns (c : Thread nD τ) (ms14 t) fullShare ((dats m 0 c).after 14 t) from by
    unfold Dat.leavesExact; rw [liveAt0_14_A t ((hcond0_0 t).mpr h0) (fun h => h1 ((hcond0_1 t).mp h))], after0_14]
  rw [show (dats m 0 c).leavesExact 15 t = owns (c : Thread nD τ) (ms15 t) fullShare ((dats m 0 c).after 15 t) from by
    unfold Dat.leavesExact; rw [liveAt0_15 t], after0_15]
  rw [show (dats m 0 c).leavesExact 16 t = owns (c : Thread nD τ) (ms16 t) fullShare ((dats m 0 c).after 16 t) from by
    unfold Dat.leavesExact; rw [liveAt0_16 t], after0_16]
  rw [show (dats m 0 c).leavesExact 17 t = owns (c : Thread nD τ) (ms17 t) fullShare ((dats m 0 c).after 17 t) from by
    unfold Dat.leavesExact; rw [liveAt0_17 t], after0_17]
  rw [PhiS_castSucc m c t, PhiS_zero m c _ _ (by omega), PhiA0_eq, outs_A m c t h0 h1]
  unfold outA; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atA c t ((hcond0_0 t).mpr h0) (fun h => h1 ((hcond0_1 t).mp h)) (ins m c t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩, HS1, HS2, HS3, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverA_s0 c t _ _ _)
      isplitl [HS1]
      · iexact HS1
      isplitl [HS2]
      · iexact HS2
      isplitl [HS3]
      · iexact HS3
      isplitl [HS4]
      · unfold owns; iexists _; isplitr
        swap; · iexact HS4
        ipureintro; exact View.read_writes_of_cover _ _ _ _ _ (coverA_s4 c t _ _ _)
      isplitl [HS5]
      · unfold owns; iexists _; isplitr
        swap; · iexact HS5
        ipureintro; exact View.read_writes_of_cover _ _ _ _ _ (coverA_s5 c t _ _ _)
      unfold owns; iexists _; isplitr
      swap; · iexact HS6
      ipureintro; exact View.read_writes_of_cover _ _ _ _ _ (coverA_s6 c t _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverA_o11 c t _ _ _)
  isplitl [H12]
  · unfold owns; iexists _; isplitr
    swap; · iexact H12
    ipureintro; exact View.read_writes_of_cover _ _ _ _ _ (coverA_o12 c t _ _ _)
  isplitl [H13]
  · unfold owns; iexists _; isplitr
    swap; · iexact H13
    ipureintro; exact View.read_writes_of_cover _ _ _ _ _ (coverA_o13 c t _ _ _)
  isplitl [H14]
  · unfold owns; iexists _; isplitr
    swap; · iexact H14
    ipureintro; exact View.read_writes_of_cover _ _ _ _ _ (coverA_o14 c t _ _ _)
  isplitl [H15]
  · unfold owns; iexists _; isplitr
    swap; · iexact H15
    ipureintro; exact View.read_writes_of_cover _ _ _ _ _ (coverA_o15 c t _ _ _)
  isplitl [H16]
  · unfold owns; iexists _; isplitr
    swap; · iexact H16
    ipureintro; exact View.read_writes_of_cover _ _ _ _ _ (coverA_o16 c t _ _ _)
  unfold owns; iexists _; isplitr
  swap; · iexact H17
  ipureintro; exact View.read_writes_of_cover _ _ _ _ _ (coverA_o17 c t _ _ _)

set_option maxHeartbeats 28800000 in
/-- The body at B. -/
theorem sound_B (c : Dev nD) (t : Fin cfg0.N) (h0 : ¬t.val % 5 = 0) (h1 : ¬t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  rw [show (dats m 0 c).leavesExact 5 t = owns (c : Thread nD τ) (ms5 t) fullShare ((dats m 0 c).after 5 t) from by
    unfold Dat.leavesExact; rw [liveAt0_5 t], after0_5]
  rw [show (dats m 0 c).leavesExact 6 t = owns (c : Thread nD τ) (ms6 t) fullShare ((dats m 0 c).after 6 t) from by
    unfold Dat.leavesExact; rw [liveAt0_6 t], after0_6]
  rw [show (dats m 0 c).leavesExact 7 t = owns (c : Thread nD τ) (ms7 t) fullShare ((dats m 0 c).after 7 t) from by
    unfold Dat.leavesExact; rw [liveAt0_7 t], after0_7]
  rw [show (dats m 0 c).leavesExact 8 t = owns (c : Thread nD τ) (ms8 t) fullShare ((dats m 0 c).after 8 t) from by
    unfold Dat.leavesExact; rw [liveAt0_8 t], after0_8]
  rw [show (dats m 0 c).leavesExact 9 t = owns (c : Thread nD τ) (ms9 t) fullShare ((dats m 0 c).after 9 t) from by
    unfold Dat.leavesExact; rw [liveAt0_9 t], after0_9]
  rw [show (dats m 0 c).leavesExact 10 t = owns (c : Thread nD τ) (ms10 t) fullShare ((dats m 0 c).after 10 t) from by
    unfold Dat.leavesExact; rw [liveAt0_10 t], after0_10]
  rw [show (dats m 0 c).leavesExact 11 t = owns (c : Thread nD τ) (ms11 t) fullShare ((dats m 0 c).after 11 t) from by
    unfold Dat.leavesExact; rw [liveAt0_11 t], after0_11]
  rw [show (dats m 0 c).leavesExact 12 t = owns (c : Thread nD τ) (ms12 t) fullShare ((dats m 0 c).after 12 t) from by
    unfold Dat.leavesExact; rw [liveAt0_12 t], after0_12]
  rw [show (dats m 0 c).leavesExact 13 t = owns (c : Thread nD τ) (ms13 t) fullShare ((dats m 0 c).after 13 t) from by
    unfold Dat.leavesExact; rw [liveAt0_13 t], after0_13]
  rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
  rw [show (dats m 0 c).leavesExact 15 t = owns (c : Thread nD τ) (ms15 t) fullShare ((dats m 0 c).after 15 t) from by
    unfold Dat.leavesExact; rw [liveAt0_15 t], after0_15]
  rw [show (dats m 0 c).leavesExact 16 t = owns (c : Thread nD τ) (ms16 t) fullShare ((dats m 0 c).after 16 t) from by
    unfold Dat.leavesExact; rw [liveAt0_16 t], after0_16]
  rw [show (dats m 0 c).leavesExact 17 t = owns (c : Thread nD τ) (ms17 t) fullShare ((dats m 0 c).after 17 t) from by
    unfold Dat.leavesExact; rw [liveAt0_17 t], after0_17]
  rw [PhiS_castSucc m c t, PhiS_pos m c _ _ (by omega), outs_B m c t h0 h1]
  simp only [before0_12 m c t h0, before0_13 m c t h0, before0_15 m c t h0, before0_16 m c t h0, before0_17 m c t h0]
  unfold outB; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atB c t (fun h => h0 ((hcond0_0 t).mp h)) (fun h => h1 ((hcond0_1 t).mp h)) (ins m c t) (prev m c t)).2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, ⟨%e11, H11⟩, ⟨%e12, H12⟩, ⟨%e13, H13⟩, H14, ⟨%e15, H15⟩, ⟨%e16, H16⟩, ⟨%e17, H17⟩, ⟨%es0, HS0⟩, HS1, HS2, HS3, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverB_s0 c t _ _ _ _)
      isplitl [HS1]
      · iexact HS1
      isplitl [HS2]
      · iexact HS2
      isplitl [HS3]
      · iexact HS3
      isplitl [HS4]
      · unfold owns; iexists _; isplitr
        swap; · iexact HS4
        ipureintro; exact View.read_writes_of_cover _ _ _ _ _ (coverB_s4 c t _ _ _ _)
      isplitl [HS5]
      · unfold owns; iexists _; isplitr
        swap; · iexact HS5
        ipureintro; exact View.read_writes_of_cover _ _ _ _ _ (coverB_s5 c t _ _ _ _)
      unfold owns; iexists _; isplitr
      swap; · iexact HS6
      ipureintro; exact View.read_writes_of_cover _ _ _ _ _ (coverB_s6 c t _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverB_o11 c t _ _ _ _)
  isplitl [H12]
  · unfold owns; iexists _; isplitr
    swap; · iexact H12
    ipureintro; exact View.read_writes_of_cover _ _ _ _ _ (coverB_o12 c t _ _ _ _)
  isplitl [H13]
  · unfold owns; iexists _; isplitr
    swap; · iexact H13
    ipureintro; exact View.read_writes_of_cover _ _ _ _ _ (coverB_o13 c t _ _ _ _)
  isplitl [H14]
  · iexists _; iexact H14
  isplitl [H15]
  · unfold owns; iexists _; isplitr
    swap; · iexact H15
    ipureintro; exact View.read_writes_of_cover _ _ _ _ _ (coverB_o15 c t _ _ _ _)
  isplitl [H16]
  · unfold owns; iexists _; isplitr
    swap; · iexact H16
    ipureintro; exact View.read_writes_of_cover _ _ _ _ _ (coverB_o16 c t _ _ _ _)
  unfold owns; iexists _; isplitr
  swap; · iexact H17
  ipureintro; exact View.read_writes_of_cover _ _ _ _ _ (coverB_o17 c t _ _ _ _)

set_option maxHeartbeats 28800000 in
/-- The body at C. -/
theorem sound_C (c : Dev nD) (t : Fin cfg0.N) (h0 : ¬t.val % 5 = 0) (h1 : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  rw [show (dats m 0 c).leavesExact 5 t = owns (c : Thread nD τ) (ms5 t) fullShare ((dats m 0 c).after 5 t) from by
    unfold Dat.leavesExact; rw [liveAt0_5 t], after0_5]
  rw [show (dats m 0 c).leavesExact 6 t = owns (c : Thread nD τ) (ms6 t) fullShare ((dats m 0 c).after 6 t) from by
    unfold Dat.leavesExact; rw [liveAt0_6 t], after0_6]
  rw [show (dats m 0 c).leavesExact 7 t = owns (c : Thread nD τ) (ms7 t) fullShare ((dats m 0 c).after 7 t) from by
    unfold Dat.leavesExact; rw [liveAt0_7 t], after0_7]
  rw [show (dats m 0 c).leavesExact 8 t = owns (c : Thread nD τ) (ms8 t) fullShare ((dats m 0 c).after 8 t) from by
    unfold Dat.leavesExact; rw [liveAt0_8 t], after0_8]
  rw [show (dats m 0 c).leavesExact 9 t = owns (c : Thread nD τ) (ms9 t) fullShare ((dats m 0 c).after 9 t) from by
    unfold Dat.leavesExact; rw [liveAt0_9 t], after0_9]
  rw [show (dats m 0 c).leavesExact 10 t = owns (c : Thread nD τ) (ms10 t) fullShare ((dats m 0 c).after 10 t) from by
    unfold Dat.leavesExact; rw [liveAt0_10 t], after0_10]
  rw [show (dats m 0 c).leavesExact 11 t = owns (c : Thread nD τ) (ms11 t) fullShare ((dats m 0 c).after 11 t) from by
    unfold Dat.leavesExact; rw [liveAt0_11 t], after0_11]
  rw [show (dats m 0 c).leavesExact 12 t = owns (c : Thread nD τ) (ms12 t) fullShare ((dats m 0 c).after 12 t) from by
    unfold Dat.leavesExact; rw [liveAt0_12 t], after0_12]
  rw [show (dats m 0 c).leavesExact 13 t = owns (c : Thread nD τ) (ms13 t) fullShare ((dats m 0 c).after 13 t) from by
    unfold Dat.leavesExact; rw [liveAt0_13 t], after0_13]
  rw [show (dats m 0 c).leavesExact 14 t = owns (c : Thread nD τ) (ms14 t) fullShare ((dats m 0 c).after 14 t) from by
    unfold Dat.leavesExact; rw [liveAt0_14_C t (fun h => h0 ((hcond0_0 t).mp h)) ((hcond0_1 t).mpr h1)], after0_14]
  rw [show (dats m 0 c).leavesExact 15 t = owns (c : Thread nD τ) (ms15 t) fullShare ((dats m 0 c).after 15 t) from by
    unfold Dat.leavesExact; rw [liveAt0_15 t], after0_15]
  rw [show (dats m 0 c).leavesExact 16 t = owns (c : Thread nD τ) (ms16 t) fullShare ((dats m 0 c).after 16 t) from by
    unfold Dat.leavesExact; rw [liveAt0_16 t], after0_16]
  rw [show (dats m 0 c).leavesExact 17 t = owns (c : Thread nD τ) (ms17 t) fullShare ((dats m 0 c).after 17 t) from by
    unfold Dat.leavesExact; rw [liveAt0_17 t], after0_17]
  rw [PhiS_castSucc m c t, PhiS_pos m c _ _ (by omega), outs_C m c t h0 h1]
  simp only [before0_12 m c t h0, before0_13 m c t h0, before0_15 m c t h0, before0_16 m c t h0, before0_17 m c t h0]
  unfold outC; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atC c t (fun h => h0 ((hcond0_0 t).mp h)) ((hcond0_1 t).mpr h1) (ins m c t) (prev m c t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexists _; iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩, HS1, HS2, HS3, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverC_s0 c t _ _ _ _)
      isplitl [HS1]
      · iexact HS1
      isplitl [HS2]
      · iexact HS2
      isplitl [HS3]
      · iexact HS3
      isplitl [HS4]
      · unfold owns; iexists _; isplitr
        swap; · iexact HS4
        ipureintro; exact View.read_writes_of_cover _ _ _ _ _ (coverC_s4 c t _ _ _ _)
      isplitl [HS5]
      · unfold owns; iexists _; isplitr
        swap; · iexact HS5
        ipureintro; exact View.read_writes_of_cover _ _ _ _ _ (coverC_s5 c t _ _ _ _)
      unfold owns; iexists _; isplitr
      swap; · iexact HS6
      ipureintro; exact View.read_writes_of_cover _ _ _ _ _ (coverC_s6 c t _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverC_o11 c t _ _ _ _)
  isplitl [H12]
  · unfold owns; iexists _; isplitr
    swap; · iexact H12
    ipureintro; exact View.read_writes_of_cover _ _ _ _ _ (coverC_o12 c t _ _ _ _)
  isplitl [H13]
  · unfold owns; iexists _; isplitr
    swap; · iexact H13
    ipureintro; exact View.read_writes_of_cover _ _ _ _ _ (coverC_o13 c t _ _ _ _)
  isplitl [H14]
  · unfold owns; iexists _; isplitr
    swap; · iexact H14
    ipureintro; exact View.read_writes_of_cover _ _ _ _ _ (coverC_o14 c t _ _ _ _)
  isplitl [H15]
  · unfold owns; iexists _; isplitr
    swap; · iexact H15
    ipureintro; exact View.read_writes_of_cover _ _ _ _ _ (coverC_o15 c t _ _ _ _)
  isplitl [H16]
  · unfold owns; iexists _; isplitr
    swap; · iexact H16
    ipureintro; exact View.read_writes_of_cover _ _ _ _ _ (coverC_o16 c t _ _ _ _)
  unfold owns; iexists _; isplitr
  swap; · iexact H17
  ipureintro; exact View.read_writes_of_cover _ _ _ _ _ (coverC_o17 c t _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 5 = 0
  · exact sound_A m c t h0 (by omega)
  · by_cases h1 : t.val % 5 = 4
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 5 := N_0
  rw [show (dats m 0 c).Φ (Fin.last cfg0.N) = PhiS m c cfg0.N (Nat.le_refl _) from rfl, PhiS_pos m c _ _ (by omega), PhiA0_eq]
  iintro ⟨⟨HS0, HS1, HS2, HS3, HS4, HS5, HS6⟩, Hg⟩
  isplitl [HS0 HS1 HS2 HS3 HS4 HS5 HS6]
  · isplitl [HS0]; · iexists _; iexact HS0
    isplitl [HS1]; · iexact HS1
    isplitl [HS2]; · iexact HS2
    isplitl [HS3]; · iexact HS3
    isplitl [HS4]; · iexists _; iexact HS4
    isplitl [HS5]; · iexists _; iexact HS5
    iexists _; iexact HS6
  iexact Hg

set_option backward.isDefEq.respectTransparency.types false in
/-- Every run ends, each array of the pipeline at what the points left and every other buffer as the region found it,
    and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Rg

end
-- ==== Proof.Frames.lean ====
/- The frames: what every run of the recurrence's kernel and of its reading over the extended reals leaves alone, and that the two named constants are the ones the kernel's text has. -/
module

public import proofs.«01_k».proof.Defs
public import proofs.«01_k».proof.Proof.Gen.Kernel
public import proofs.«01_k».proof.Proof.Region
public import Idealize.ShloMosaic.Lib.Claim

@[expose] public section

set_option maxRecDepth 16384

noncomputable section

namespace Cert.KernelIdeal.Rg

open Idealize.ShloMosaic Idealize.ShloMosaic.TcCoe Idealize.SL.Sem Cert.KernelIdeal.Gen

/-- Every run of the kernel leaves its arguments and ends with every semaphore counter at zero. -/
theorem frame {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_and (frame_of m ρ (dats m) (A_eq m) (run_main m ρ)) ((θ_run defs _ _).mono (fun _ h => h.2) (run_main_quiescent m ρ))

end Cert.KernelIdeal.Rg

namespace Cert.Proof

open Idealize.ShloMosaic Idealize.SL.Sem

/-- Over words a named constant is the word the kernel's text has. -/
@[reducible] def wordNamed : Named Bits := ⟨fun _ _ {φ} b => Scalar.ofBits (F := Bits) φ b⟩

set_option maxHeartbeats 4000000 in
/-- The kernel's body is the ideal reading's, each named constant its word. -/
theorem defs₀_eq : @Cert.Kernel.defs₀ Bits _ Cert.Kernel.Gen.facts = @Cert.KernelIdeal.defs₀ Bits _ wordNamed Cert.KernelIdeal.Gen.facts := by
  refine congrArg (Defs.onTc (nD := Cert.KernelIdeal.nD) (τ := Cert.KernelIdeal.τ) (sig := Cert.KernelIdeal.sig) (Val := Elt Bits) (Λ := Cert.KernelIdeal.Λ₀)) (funext fun l => funext fun x => ?_)
  match l, x with
  | 0, (t, s) => rfl

set_option maxHeartbeats 4000000 in
theorem defs_eq : @Cert.Kernel.defs Bits _ Cert.Kernel.Gen.facts = @Cert.KernelIdeal.defs Bits _ wordNamed Cert.KernelIdeal.Gen.facts :=
  congrArg (Pipeline.defs (@Cert.KernelIdeal.pcfgs Bits _)) defs₀_eq

set_option maxHeartbeats 4000000 in
/-- The kernel over words: one run serves both, its text being the ideal reading's. -/
theorem frame_kernel : Cert.quiescent_Kernel (hKernel := Cert.Kernel.Gen.facts) := fun m ρ _ => by
  rw [defs_eq]
  exact @Cert.KernelIdeal.Rg.frame Bits _ wordNamed m ρ

theorem frame_ideal : Cert.quiescent_KernelIdeal (hKernelIdeal := Cert.KernelIdeal.Gen.facts) := fun m ρ _ =>
  Cert.KernelIdeal.Rg.frame m ρ

/-- The two named constants are the reals the words of the kernel's text round. -/
theorem named_kept : Cert.preserves_Kernel_KernelIdeal :=
  ⟨IdealRules.named_const.statement Cert.KernelIdeal.κ "gelu_a" .f32 0x3D372713#32 ((8943 / 200000 : ℝ) : EReal) rfl,
   IdealRules.named_const.statement Cert.KernelIdeal.κ "gelu_3a" .f32 0x3E095D4F#32 ((26829 / 200000 : ℝ) : EReal) rfl⟩

end Cert.Proof

end
-- ==== Proof.FfnMath.lean ====
/- The mathematics of the feed-forward gradient on one row of real numbers, and the extended reals that are real. -/
module

public import Idealize.ShloMosaic.PureOps.Ideal
public import Idealize.ShloMosaic.PureOps.Ideal.Laws
public import Idealize.ShloMosaic.Lib.IdealHost

@[expose] public section

noncomputable section

namespace Cert.Ffn

open Idealize.ShloMosaic

/-- A finite sum of real numbers is the same sum among the extended reals. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- Division of real numbers by a nonzero one, among the extended reals. -/
theorem div_coe' (x : ℝ) {y : ℝ} (h : y ≠ 0) : Ideal.div (x : EReal) (y : EReal) = ((x / y : ℝ) : EReal) := by
  rw [Ideal.div_coe h, ← EReal.coe_mul, mul_one_div]

/-- The small number added under the root, as the word holds it. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_half : Ideal.ofBits .bf16 0x3F00#16 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The mean of the squares of a row, with the small number. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg _) (by norm_num)) eps_pos

/-- The factor that norms a row. -/
def inv (x : Fin 1024 → ℝ) : ℝ := (Real.sqrt (meanSq x))⁻¹

/-- The reciprocal root of a row's mean square is a real number. -/
theorem rsqrt_meanSq (x : Fin 1024 → ℝ) : Ideal.rsqrt ((meanSq x : ℝ) : EReal) = ((inv x : ℝ) : EReal) := by
  have h := meanSq_pos x
  rw [Ideal.rsqrt_coe, if_neg (not_lt.mpr h.le), if_neg h.ne', inv]

/-- The same with the mean square spelt out. -/
theorem rsqrt_mean (x : Fin 1024 → ℝ) :
    Ideal.rsqrt ((((∑ k, x k * x k) / 1024 + eps : ℝ)) : EReal) = ((inv x : ℝ) : EReal) := rsqrt_meanSq x

/-- The factor's square is the reciprocal of the mean square. -/
theorem inv_div (x : Fin 1024 → ℝ) : inv x / meanSq x = inv x * inv x * inv x := by
  have h := meanSq_pos x
  have h2 : inv x * inv x = (meanSq x)⁻¹ := by
    unfold inv; rw [← mul_inv, Real.mul_self_sqrt h.le]
  rw [h2, div_eq_mul_inv, mul_comm]

/-- The logistic function. -/
def sig (s : ℝ) : ℝ := 1 / (1 + Real.exp (-s))

/-- The logistic function written with the hyperbolic tangent. -/
theorem sig_tanh (s : ℝ) : 1 / 2 * Real.tanh (1 / 2 * s) + 1 / 2 = sig s := by
  unfold sig
  have e : Real.exp (-s) = Real.exp (-(1 / 2 * s)) * Real.exp (-(1 / 2 * s)) := by
    rw [← Real.exp_add]; congr 1; ring
  have e1 : Real.exp (1 / 2 * s) * Real.exp (-(1 / 2 * s)) = 1 := by rw [← Real.exp_add]; simp
  rw [Real.tanh_eq_sinh_div_cosh, Real.sinh_eq, Real.cosh_eq, e]
  set a := Real.exp (1 / 2 * s) with ha
  set b := Real.exp (-(1 / 2 * s)) with hb
  have hap : 0 < a := Real.exp_pos _
  have hbp : 0 < b := Real.exp_pos _
  have hs : a + b ≠ 0 := (add_pos hap hbp).ne'
  have hs1 : 1 + b * b ≠ 0 := (by positivity : 0 < 1 + b * b).ne'
  field_simp
  linear_combination (2 * b) * e1

/-- A row of the two halves before the gate. -/
def gu (x g : Fin 1024 → ℝ) (w : Fin 1024 → Fin 5632 → ℝ) (f : Fin 5632) : ℝ := ∑ k, x k * inv x * g k * w k f

/-- The gradient at a row of the gated product. -/
def dact (d : Fin 1024 → ℝ) (w : Fin 2816 → Fin 1024 → ℝ) (f : Fin 2816) : ℝ := ∑ k, d k * w f k

/-- Column `f` of the first half. -/
def lo (f : Fin 2816) : Fin 5632 := ⟨f.val, by omega⟩
/-- Column `f` of the second half. -/
def hi (f : Fin 2816) : Fin 5632 := ⟨2816 + f.val, by omega⟩

/-- The gradient with respect to the gate, from the gated product's. -/
def dgate (a s u : ℝ) : ℝ := a * u * (sig s * (1 + s * (1 - sig s)))
/-- The gradient with respect to the second half, from the gated product's. -/
def dup (a s : ℝ) : ℝ := a * (s * sig s)

/-- The gradient at a row of the two halves. -/
def dgu (a : Fin 2816 → ℝ) (p : Fin 5632 → ℝ) (f : Fin 5632) : ℝ :=
  if h : f.val < 2816 then dgate (a ⟨f.val, h⟩) (p f) (p (hi ⟨f.val, h⟩))
  else dup (a ⟨f.val - 2816, by omega⟩) (p (lo ⟨f.val - 2816, by omega⟩))

theorem dgu_lo (a : Fin 2816 → ℝ) (p : Fin 5632 → ℝ) (f : Fin 2816) : dgu a p (lo f) = dgate (a f) (p (lo f)) (p (hi f)) := by
  unfold dgu
  rw [dif_pos (show (lo f).val < 2816 from f.isLt)]
  rfl

theorem dgu_hi (a : Fin 2816 → ℝ) (p : Fin 5632 → ℝ) (f : Fin 2816) : dgu a p (hi f) = dup (a f) (p (lo f)) := by
  have e : (⟨(hi f).val - 2816, by have := f.isLt; show 2816 + f.val - 2816 < 2816; omega⟩ : Fin 2816) = f :=
    Fin.ext (by show 2816 + f.val - 2816 = f.val; omega)
  unfold dgu
  rw [dif_neg (show ¬(hi f).val < 2816 by show ¬(2816 + f.val < 2816); omega)]
  simp only [e]

/-- The gradient at a row of the normed and weighted input. -/
def dv (q : Fin 5632 → ℝ) (w : Fin 1024 → Fin 5632 → ℝ) (j : Fin 1024) : ℝ := ∑ f, q f * w j f

/-- The gradient at a row of the input of the block: the part that passes by, and the norm's part. -/
def dh1 (x g d v : Fin 1024 → ℝ) (j : Fin 1024) : ℝ :=
  d j + inv x * (v j * g j - x j * inv x * ((∑ k, v k * g k * (x k * inv x)) / 1024))

/-- The gradient at a row before the output product. -/
def dy (e : Fin 1024 → ℝ) (w : Fin 1024 → Fin 1024 → ℝ) (j : Fin 1024) : ℝ := ∑ k, e k * w j k

/-- What the call is given, as real numbers: the rows, the norm's weights, the four weight arrays used, the gradient. -/
structure Data where
  /-- The rows of the block's input. -/
  H : Fin 4160 → Fin 1024 → ℝ
  /-- The norm's weights. -/
  G : Fin 1024 → ℝ
  /-- The weights of the two halves. -/
  Wgu : Fin 1024 → Fin 5632 → ℝ
  /-- The weights of the product after the gate. -/
  Wd : Fin 2816 → Fin 1024 → ℝ
  /-- The weights of the output product before the block. -/
  Wo : Fin 1024 → Fin 1024 → ℝ
  /-- The gradient of the block's output. -/
  D : Fin 4160 → Fin 1024 → ℝ

/-- The two halves before the gate. -/
def Data.P (d : Data) (i : Fin 4160) : Fin 5632 → ℝ := gu (d.H i) d.G d.Wgu
/-- The gradient of the two halves. -/
def Data.Q (d : Data) (i : Fin 4160) : Fin 5632 → ℝ := dgu (dact (d.D i) d.Wd) (d.P i)
/-- The gradient of the normed and weighted input. -/
def Data.V (d : Data) (i : Fin 4160) : Fin 1024 → ℝ := dv (d.Q i) d.Wgu
/-- The gradient of the block's input. -/
def Data.E (d : Data) (i : Fin 4160) : Fin 1024 → ℝ := dh1 (d.H i) d.G (d.D i) (d.V i)
/-- The gradient before the output product. -/
def Data.Y (d : Data) (i : Fin 4160) : Fin 1024 → ℝ := dy (d.E i) d.Wo
/-- One row's part of the gradient of the norm's weights. -/
def Data.T (d : Data) (i : Fin 4160) (j : Fin 1024) : ℝ := d.V i j * (d.H i j * inv (d.H i))
/-- The gradient of the norm's weights. -/
def Data.N (d : Data) (j : Fin 1024) : ℝ := ∑ i, d.T i j

end Cert.Ffn

end

end
-- ==== Proof.FfnKern.lean ====
/- The feed-forward gradient call: what each point of the kernel leaves, and the arrays after the run. -/
module

public import proofs.«01_k».proof.Defs
public import proofs.«01_k».proof.Proof.FfnMath
public import proofs.«01_k».proof.Proof.Gen.FfnKernelIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FfnKernelIdeal.Ffn

open Cert.FfnKernelIdeal Cert.FfnKernelIdeal.Gen Idealize.ShloMosaic Idealize.ShloMosaic.TcCoe Idealize.SL.Sem
open Idealize.ShloMosaic.Pipeline (Dat)
open Cert.Ffn (sum_coe div_coe')

section Payloads

variable {D H D2 : Fin 320 → Fin 1024 → ℝ} {P Q : Fin 320 → Fin 5632 → ℝ} {Wd : Fin 2816 → Fin 1024 → ℝ}
  {Wgu : Fin 1024 → Fin 5632 → ℝ} {G A0 : Fin 1024 → ℝ} {Wo : Fin 1024 → Fin 1024 → ℝ}
  {xd : Vec Ideal S320x1024 .bf16} {xwd : Vec Ideal S2816x1024 .bf16}
  {xg xu : Vec Ideal S320x2816 .bf16} {xq : Vec Ideal S320x5632 .bf16} {xwgu : Vec Ideal S1024x5632 .bf16}
  {xh xd2 : Vec Ideal S320x1024 .f32} {xgn xacc : Vec Ideal S1x1024 .f32} {xwo : Vec Ideal S1024x1024 .bf16}

theorem pay4_real (hd : ∀ r k, xd (ix2 r k) = ((D r k : ℝ) : EReal)) (hwd : ∀ f k, xwd (ix2 f k) = ((Wd f k : ℝ) : EReal))
    (r : Fin 320) (f : Fin 2816) : k0_pay4 xd xwd (ix2 r f) = ((Cert.Ffn.dact (D r) Wd f : ℝ) : EReal) := by
  pointwise [k0_pay4]
  simp only [hd, hwd, ← EReal.coe_mul, sum_coe]
  rfl

theorem pay6_real {Pg : Fin 320 → Fin 2816 → ℝ} (hg : ∀ r f, xg (ix2 r f) = ((Pg r f : ℝ) : EReal))
    (r : Fin 320) (f : Fin 2816) : k0_pay6 xg (ix2 r f) = ((Cert.Ffn.sig (Pg r f) : ℝ) : EReal) := by
  pointwise [k0_pay6, k0_pay5]
  simp only [hg, Cert.Ffn.ofBits_half, ← EReal.coe_mul, ← EReal.coe_add, Ideal.tanh_coe, Cert.Ffn.sig_tanh]

theorem pay7_real {Pg Pu : Fin 320 → Fin 2816 → ℝ}
    (hd : ∀ r k, xd (ix2 r k) = ((D r k : ℝ) : EReal)) (hwd : ∀ f k, xwd (ix2 f k) = ((Wd f k : ℝ) : EReal))
    (hg : ∀ r f, xg (ix2 r f) = ((Pg r f : ℝ) : EReal)) (hu : ∀ r f, xu (ix2 r f) = ((Pu r f : ℝ) : EReal))
    (r : Fin 320) (f : Fin 2816) : k0_pay7 xd xwd xg xu (ix2 r f)
      = ((Cert.Ffn.dgate (Cert.Ffn.dact (D r) Wd f) (Pg r f) (Pu r f) : ℝ) : EReal) := by
  pointwise [k0_pay7, k0_pay5]
  rw [pay4_real hd hwd, pay6_real hg]
  simp only [hg, hu, ← EReal.coe_one, ← EReal.coe_mul, ← EReal.coe_add, ← EReal.coe_sub]
  rfl

theorem pay8_real {Pg : Fin 320 → Fin 2816 → ℝ}
    (hd : ∀ r k, xd (ix2 r k) = ((D r k : ℝ) : EReal)) (hwd : ∀ f k, xwd (ix2 f k) = ((Wd f k : ℝ) : EReal))
    (hg : ∀ r f, xg (ix2 r f) = ((Pg r f : ℝ) : EReal))
    (r : Fin 320) (f : Fin 2816) : k0_pay8 xd xwd xg (ix2 r f)
      = ((Cert.Ffn.dup (Cert.Ffn.dact (D r) Wd f) (Pg r f) : ℝ) : EReal) := by
  pointwise [k0_pay8, k0_pay5]
  rw [pay4_real hd hwd, pay6_real hg]
  simp only [hg, ← EReal.coe_mul]
  rfl

theorem pay10_real (hq : ∀ r f, xq (ix2 r f) = ((Q r f : ℝ) : EReal)) (hw : ∀ j f, xwgu (ix2 j f) = ((Wgu j f : ℝ) : EReal))
    (r : Fin 320) (j : Fin 1024) : k0_pay10 (k0_pay9 xq) xwgu (ix2 r j) = ((Cert.Ffn.dv (Q r) Wgu j : ℝ) : EReal) := by
  pointwise [k0_pay10, k0_pay9]
  simp only [hq, hw, ← EReal.coe_mul, sum_coe]
  rfl

theorem pay11_real (hh : ∀ r k, xh (ix2 r k) = ((H r k : ℝ) : EReal)) (r : Fin 320) (l : Fin 1) :
    k0_pay11 xh (ix2 r l) = ((Cert.Ffn.inv (H r) : ℝ) : EReal) := by
  pointwise [k0_pay11]
  simp only [hh, ← EReal.coe_mul, sum_coe, Cert.Ffn.ofBits_1024, Cert.Ffn.ofBits_eps, div_coe' _ (show (1024 : ℝ) ≠ 0 by norm_num),
    ← EReal.coe_add]
  exact Cert.Ffn.rsqrt_meanSq (H r)

theorem pay12_real (hh : ∀ r k, xh (ix2 r k) = ((H r k : ℝ) : EReal)) (r : Fin 320) (j : Fin 1024) :
    k0_pay12 xh (ix2 r j) = ((H r j * Cert.Ffn.inv (H r) : ℝ) : EReal) := by
  pointwise [k0_pay12]
  rw [pay11_real hh, hh, ← EReal.coe_mul]

theorem pay13_real (hq : ∀ r f, xq (ix2 r f) = ((Q r f : ℝ) : EReal)) (hw : ∀ j f, xwgu (ix2 j f) = ((Wgu j f : ℝ) : EReal))
    (hh : ∀ r k, xh (ix2 r k) = ((H r k : ℝ) : EReal))
    (l : Fin 1) (j : Fin 1024) : k0_pay13 (k0_pay9 xq) xwgu xh xacc (ix2 l j)
      = xacc (ix2 l j) + ((∑ r, Cert.Ffn.dv (Q r) Wgu j * (H r j * Cert.Ffn.inv (H r)) : ℝ) : EReal) := by
  pointwise [k0_pay13]
  simp only [pay10_real hq hw, pay12_real hh, ← EReal.coe_mul, sum_coe]

theorem pay14_real (hq : ∀ r f, xq (ix2 r f) = ((Q r f : ℝ) : EReal)) (hw : ∀ j f, xwgu (ix2 j f) = ((Wgu j f : ℝ) : EReal))
    (hh : ∀ r k, xh (ix2 r k) = ((H r k : ℝ) : EReal)) (hd2 : ∀ r k, xd2 (ix2 r k) = ((D2 r k : ℝ) : EReal))
    (hgn : ∀ (l : Fin 1) k, xgn (ix2 l k) = ((G k : ℝ) : EReal))
    (r : Fin 320) (j : Fin 1024) : k0_pay14 (k0_pay9 xq) xwgu xh xd2 xgn (ix2 r j)
      = ((Cert.Ffn.dh1 (H r) G (D2 r) (Cert.Ffn.dv (Q r) Wgu) j : ℝ) : EReal) := by
  pointwise [k0_pay14]
  simp only [pay10_real hq hw, pay11_real hh, pay12_real hh, hd2, hgn, ← EReal.coe_mul, sum_coe, Cert.Ffn.ofBits_1024,
    div_coe' _ (show (1024 : ℝ) ≠ 0 by norm_num), ← EReal.coe_add, ← EReal.coe_sub]
  rfl

theorem pay2_real {E : Fin 320 → Fin 1024 → ℝ} {xe : Vec Ideal S320x1024 .f32}
    (he : ∀ r k, xe (ix2 r k) = ((E r k : ℝ) : EReal)) (hwo : ∀ j k, xwo (ix2 j k) = ((Wo j k : ℝ) : EReal))
    (r : Fin 320) (j : Fin 1024) : k0_pay2 xe xwo (ix2 r j) = ((Cert.Ffn.dy (E r) Wo j : ℝ) : EReal) := by
  pointwise [k0_pay2, k0_pay1]
  simp only [he, hwo, ← EReal.coe_mul, sum_coe]
  rfl

end Payloads

/-- Row `r` of the tile of point `t`. -/
def row (t : Fin cfg0.N) (r : Fin 320) : Fin 4160 := ⟨t.val * 320 + r.val, by
  have : t.val < 13 := t.isLt
  omega⟩

/-- Where an index of window 0's block lies in its array. -/
theorem emb0 (t : Fin cfg0.N) (r : Fin 320) (k : Fin 1024) :
    (win0_0.blk t).view.emb (ix2 r k : S320x1024.Idx) = (ix2 (row t r) k : S4160x1024.Idx) := by
  have e : ∀ t : Fin cfg0.N, win0_0.index t 0 = t.val := by decide +kernel
  have e1 : ∀ t : Fin cfg0.N, win0_0.index t 1 = 0 := by decide +kernel
  blk_ext [e t, e1 t, row]

/-- Where an index of window 1's block lies in its array. -/
theorem emb1 (t : Fin cfg0.N) (r : Fin 320) (k : Fin 5632) :
    (win0_1.blk t).view.emb (ix2 r k : S320x5632.Idx) = (ix2 (row t r) k : S4160x5632.Idx) := by
  have e : ∀ t : Fin cfg0.N, win0_1.index t 0 = t.val := by decide +kernel
  have e1 : ∀ t : Fin cfg0.N, win0_1.index t 1 = 0 := by decide +kernel
  blk_ext [e t, e1 t, row]

/-- Where an index of window 2's block lies in its array. -/
theorem emb2 (t : Fin cfg0.N) (r : Fin 2816) (k : Fin 1024) :
    (win0_2.blk t).view.emb (ix2 r k : S2816x1024.Idx) = (ix2 (r) k : S2816x1024.Idx) := by
  have e : ∀ t : Fin cfg0.N, win0_2.index t 0 = 0 := by decide +kernel
  have e1 : ∀ t : Fin cfg0.N, win0_2.index t 1 = 0 := by decide +kernel
  blk_ext [e t, e1 t, row]

/-- Where an index of window 3's block lies in its array. -/
theorem emb3 (t : Fin cfg0.N) (r : Fin 1024) (k : Fin 5632) :
    (win0_3.blk t).view.emb (ix2 r k : S1024x5632.Idx) = (ix2 (r) k : S1024x5632.Idx) := by
  have e : ∀ t : Fin cfg0.N, win0_3.index t 0 = 0 := by decide +kernel
  have e1 : ∀ t : Fin cfg0.N, win0_3.index t 1 = 0 := by decide +kernel
  blk_ext [e t, e1 t, row]

/-- Where an index of window 4's block lies in its array. -/
theorem emb4 (t : Fin cfg0.N) (r : Fin 320) (k : Fin 1024) :
    (win0_4.blk t).view.emb (ix2 r k : S320x1024.Idx) = (ix2 (row t r) k : S4160x1024.Idx) := by
  have e : ∀ t : Fin cfg0.N, win0_4.index t 0 = t.val := by decide +kernel
  have e1 : ∀ t : Fin cfg0.N, win0_4.index t 1 = 0 := by decide +kernel
  blk_ext [e t, e1 t, row]

/-- Where an index of window 5's block lies in its array. -/
theorem emb5 (t : Fin cfg0.N) (r : Fin 1) (k : Fin 1024) :
    (win0_5.blk t).view.emb (ix2 r k : S1x1024.Idx) = (ix2 (r) k : S1x1024.Idx) := by
  have e : ∀ t : Fin cfg0.N, win0_5.index t 0 = 0 := by decide +kernel
  have e1 : ∀ t : Fin cfg0.N, win0_5.index t 1 = 0 := by decide +kernel
  blk_ext [e t, e1 t, row]

/-- Where an index of window 6's block lies in its array. -/
theorem emb6 (t : Fin cfg0.N) (r : Fin 320) (k : Fin 1024) :
    (win0_6.blk t).view.emb (ix2 r k : S320x1024.Idx) = (ix2 (row t r) k : S4160x1024.Idx) := by
  have e : ∀ t : Fin cfg0.N, win0_6.index t 0 = t.val := by decide +kernel
  have e1 : ∀ t : Fin cfg0.N, win0_6.index t 1 = 0 := by decide +kernel
  blk_ext [e t, e1 t, row]

/-- Where an index of window 7's block lies in its array. -/
theorem emb7 (t : Fin cfg0.N) (r : Fin 1024) (k : Fin 1024) :
    (win0_7.blk t).view.emb (ix2 r k : S1024x1024.Idx) = (ix2 (r) k : S1024x1024.Idx) := by
  have e : ∀ t : Fin cfg0.N, win0_7.index t 0 = 0 := by decide +kernel
  have e1 : ∀ t : Fin cfg0.N, win0_7.index t 1 = 0 := by decide +kernel
  blk_ext [e t, e1 t, row]

/-- Where an index of window 8's block lies in its array. -/
theorem emb8 (t : Fin cfg0.N) (r : Fin 320) (k : Fin 5632) :
    (win0_8.blk t).view.emb (ix2 r k : S320x5632.Idx) = (ix2 (row t r) k : S4160x5632.Idx) := by
  have e : ∀ t : Fin cfg0.N, win0_8.index t 0 = t.val := by decide +kernel
  have e1 : ∀ t : Fin cfg0.N, win0_8.index t 1 = 0 := by decide +kernel
  blk_ext [e t, e1 t, row]

/-- Where an index of window 9's block lies in its array. -/
theorem emb9 (t : Fin cfg0.N) (r : Fin 320) (k : Fin 1024) :
    (win0_9.blk t).view.emb (ix2 r k : S320x1024.Idx) = (ix2 (row t r) k : S4160x1024.Idx) := by
  have e : ∀ t : Fin cfg0.N, win0_9.index t 0 = t.val := by decide +kernel
  have e1 : ∀ t : Fin cfg0.N, win0_9.index t 1 = 0 := by decide +kernel
  blk_ext [e t, e1 t, row]

/-- Where an index of window 10's block lies in its array. -/
theorem emb10 (t : Fin cfg0.N) (r : Fin 320) (k : Fin 1024) :
    (win0_10.blk t).view.emb (ix2 r k : S320x1024.Idx) = (ix2 (row t r) k : S4160x1024.Idx) := by
  have e : ∀ t : Fin cfg0.N, win0_10.index t 0 = t.val := by decide +kernel
  have e1 : ∀ t : Fin cfg0.N, win0_10.index t 1 = 0 := by decide +kernel
  blk_ext [e t, e1 t, row]

/-- Where an index of window 11's block lies in its array. -/
theorem emb11 (t : Fin cfg0.N) (r : Fin 320) (k : Fin 1024) :
    (win0_11.blk t).view.emb (ix2 r k : S320x1024.Idx) = (ix2 (row t r) k : S4160x1024.Idx) := by
  have e : ∀ t : Fin cfg0.N, win0_11.index t 0 = t.val := by decide +kernel
  have e1 : ∀ t : Fin cfg0.N, win0_11.index t 1 = 0 := by decide +kernel
  blk_ext [e t, e1 t, row]

section Blocks

variable (m : (ℓ : Loc nD τ sig) → Buf (Elt Ideal) ℓ) (c : Dev nD) (d : Cert.Ffn.Data)

/-- The arguments in memory are the given real numbers. -/
structure Holds : Prop where
  h : ∀ i k, m ((c : Thread nD τ).loc main_arg0) (ix2 i k : S4160x1024.Idx) = ((d.H i k : ℝ) : EReal)
  g : ∀ (l : Fin 1) k, m ((c : Thread nD τ).loc main_arg1) (ix2 l k : S1x1024.Idx) = ((d.G k : ℝ) : EReal)
  wgu : ∀ j f, m ((c : Thread nD τ).loc main_arg2) (ix2 j f : S1024x5632.Idx) = ((d.Wgu j f : ℝ) : EReal)
  wd : ∀ f j, m ((c : Thread nD τ).loc main_arg3) (ix2 f j : S2816x1024.Idx) = ((d.Wd f j : ℝ) : EReal)
  wo : ∀ i j, m ((c : Thread nD τ).loc main_arg4) (ix2 i j : S1024x1024.Idx) = ((d.Wo i j : ℝ) : EReal)
  d : ∀ i k, m ((c : Thread nD τ).loc main_arg5) (ix2 i k : S4160x1024.Idx) = ((d.D i k : ℝ) : EReal)

variable {m c d} (hm : Holds m c d)
include hm

/-- The blocks of the windows, as real numbers. -/
theorem blk0 (t : Fin cfg0.N) (r : Fin 320) (k : Fin 1024) :
    (iblk m c 0 t : Vec Ideal S320x1024 .bf16) (ix2 r k) = ((d.D (row t r) k : ℝ) : EReal) := by
  blk_simp [iblk]
  rw [emb0]
  unfold V
  after_reads_at
  exact hm.d _ _

theorem blk1 (t : Fin cfg0.N) (r : Fin 320) (k : Fin 5632) :
    (iblk m c 1 t : Vec Ideal S320x5632 .bf16) (ix2 r k) = ((d.P (row t r) k : ℝ) : EReal) := by
  blk_simp [iblk]
  rw [emb1]
  unfold V
  after_reads_at
  have h0 : ∀ i k, m (c, Proc.tc.devRef main_arg0) (ix2 i k : S4160x1024.Idx) = ((d.H i k : ℝ) : EReal) := hm.h
  have h1 : ∀ (l : Fin 1) k, m (c, Proc.tc.devRef main_arg1) (ix2 l k : S1x1024.Idx) = ((d.G k : ℝ) : EReal) := hm.g
  have h2 : ∀ j f, m (c, Proc.tc.devRef main_arg2) (ix2 j f : S1024x5632.Idx) = ((d.Wgu j f : ℝ) : EReal) := hm.wgu
  simp only [h0, h1, h2, ← EReal.coe_mul, sum_coe, Cert.Ffn.ofBits_1024, Cert.Ffn.ofBits_eps,
    div_coe' _ (show (1024 : ℝ) ≠ 0 by norm_num), ← EReal.coe_add, Cert.Ffn.rsqrt_mean]
  rfl

theorem blk2 (t : Fin cfg0.N) (r : Fin 2816) (k : Fin 1024) :
    (iblk m c 2 t : Vec Ideal S2816x1024 .bf16) (ix2 r k) = ((d.Wd r k : ℝ) : EReal) := by
  blk_simp [iblk]
  rw [emb2]
  unfold V
  after_reads_at
  exact hm.wd _ _

theorem blk3 (t : Fin cfg0.N) (r : Fin 1024) (k : Fin 5632) :
    (iblk m c 3 t : Vec Ideal S1024x5632 .bf16) (ix2 r k) = ((d.Wgu r k : ℝ) : EReal) := by
  blk_simp [iblk]
  rw [emb3]
  unfold V
  after_reads_at
  exact hm.wgu _ _

theorem blk7 (t : Fin cfg0.N) (r : Fin 1024) (k : Fin 1024) :
    (iblk m c 7 t : Vec Ideal S1024x1024 .bf16) (ix2 r k) = ((d.Wo r k : ℝ) : EReal) := by
  blk_simp [iblk]
  rw [emb7]
  unfold V
  after_reads_at
  exact hm.wo _ _

theorem blk4 (t : Fin cfg0.N) (r : Fin 320) (k : Fin 1024) :
    (iblk m c 4 t : Vec Ideal S320x1024 .f32) (ix2 r k) = ((d.H (row t r) k : ℝ) : EReal) := by
  blk_simp [iblk]
  rw [emb4, V_main_arg0]
  exact hm.h _ _

theorem blk5 (t : Fin cfg0.N) (r : Fin 1) (k : Fin 1024) :
    (iblk m c 5 t : Vec Ideal S1x1024 .f32) (ix2 r k) = ((d.G k : ℝ) : EReal) := by
  blk_simp [iblk]
  rw [emb5, V_main_arg1]
  exact hm.g _ _

theorem blk6 (t : Fin cfg0.N) (r : Fin 320) (k : Fin 1024) :
    (iblk m c 6 t : Vec Ideal S320x1024 .f32) (ix2 r k) = ((d.D (row t r) k : ℝ) : EReal) := by
  blk_simp [iblk]
  rw [emb6, V_main_arg5]
  exact hm.d _ _

/-- The tile of the gradient of the two halves, in its two pieces. -/
theorem tile8 (t : Fin cfg0.N) (r : Fin 320) (f : Fin 5632) :
    (View.canon
      [⟨Rect.unit ![0, 2816] ![320, 2816] inb_S320x5632_S320x2816_0_2816,
          k0_pay8 (iblk m c 0 t) (iblk m c 2 t)
            (View.ld (iblk m c 1 t) (Rect.unit ![0, 0] ![320, 2816] inb_S320x5632_S320x2816_0_0))⟩,
        ⟨Rect.unit ![0, 0] ![320, 2816] inb_S320x5632_S320x2816_0_0,
          k0_pay7 (iblk m c 0 t) (iblk m c 2 t)
            (View.ld (iblk m c 1 t) (Rect.unit ![0, 0] ![320, 2816] inb_S320x5632_S320x2816_0_0))
            (View.ld (iblk m c 1 t) (Rect.unit ![0, 2816] ![320, 2816] inb_S320x5632_S320x2816_0_2816))⟩] :
      Vec Ideal S320x5632 .bf16) (ix2 r f) = ((d.Q (row t r) f : ℝ) : EReal) := by
  have hlo : ∀ (r : Fin 320) (f : Fin 2816),
      (View.ld (iblk m c 1 t) (Rect.unit ![0, 0] ![320, 2816] inb_S320x5632_S320x2816_0_0) : Vec Ideal S320x2816 .bf16) (ix2 r f)
        = ((d.P (row t r) (Cert.Ffn.lo f) : ℝ) : EReal) := fun r f => by
    pointwise
    exact blk1 hm t r _
  have hhi : ∀ (r : Fin 320) (f : Fin 2816),
      (View.ld (iblk m c 1 t) (Rect.unit ![0, 2816] ![320, 2816] inb_S320x5632_S320x2816_0_2816) : Vec Ideal S320x2816 .bf16) (ix2 r f)
        = ((d.P (row t r) (Cert.Ffn.hi f) : ℝ) : EReal) := fun r f => by
    pointwise
    exact blk1 hm t r _
  canon_tiles x h
  · obtain ⟨a, b, rfl⟩ : ∃ (a : Fin 320) (b : Fin 2816), x = ix2 a b := ⟨x 0, x 1, eq_ix2 x⟩
    obtain rfl : r = a := Fin.ext h0
    obtain rfl : f = Cert.Ffn.hi b := Fin.ext h1
    refine (pay8_real (blk0 hm t) (blk2 hm t) hlo r b).trans ?_
    unfold Cert.Ffn.Data.Q
    rw [Cert.Ffn.dgu_hi]
  · obtain ⟨a, b, rfl⟩ : ∃ (a : Fin 320) (b : Fin 2816), x = ix2 a b := ⟨x 0, x 1, eq_ix2 x⟩
    obtain rfl : r = a := Fin.ext h0
    obtain rfl : f = Cert.Ffn.lo b := Fin.ext h1
    refine (pay7_real (blk0 hm t) (blk2 hm t) hlo hhi r b).trans ?_
    unfold Cert.Ffn.Data.Q
    rw [Cert.Ffn.dgu_lo]

omit hm in
/-- A load of the whole block after stores reads what the stores left. -/
theorem readCov_whole (v : View sig .tc .vmem S320x5632 .bf16) (L : List (View.Piece (Elt Ideal) S320x5632 .bf16)) :
    v.readCov L (Rect.unit ![0, 0] ![320, 5632] inb_S320x5632_S320x5632_0_0).toLoadRect = View.canon L :=
  (View.readCov_eq_canon' v L _).trans
    (View.ld_unit_lit (S := S320x5632) (off := ![0, 0]) inb_S320x5632_S320x5632_0_0 (View.canon L) (by decide))

/-- The tile as it is read back after the two stores, through any view. -/
theorem back8 (t : Fin cfg0.N) (v : View sig .tc .vmem S320x5632 .bf16) (r : Fin 320) (f : Fin 5632) :
    ((v.readCov
        [⟨Rect.unit ![0, 2816] ![320, 2816] inb_S320x5632_S320x2816_0_2816,
            k0_pay8 (iblk m c 0 t) (iblk m c 2 t)
              (View.ld (iblk m c 1 t) (Rect.unit ![0, 0] ![320, 2816] inb_S320x5632_S320x2816_0_0))⟩,
          ⟨Rect.unit ![0, 0] ![320, 2816] inb_S320x5632_S320x2816_0_0,
            k0_pay7 (iblk m c 0 t) (iblk m c 2 t)
              (View.ld (iblk m c 1 t) (Rect.unit ![0, 0] ![320, 2816] inb_S320x5632_S320x2816_0_0))
              (View.ld (iblk m c 1 t) (Rect.unit ![0, 2816] ![320, 2816] inb_S320x5632_S320x2816_0_2816))⟩]
        (Rect.unit ![0, 0] ![320, 5632] inb_S320x5632_S320x5632_0_0).toLoadRect) : Vec Ideal S320x5632 .bf16) (ix2 r f) = ((d.Q (row t r) f : ℝ) : EReal) := by
  rw [readCov_whole v]
  exact tile8 hm t r f

/-- What a point leaves in the block of the input's gradient. -/
theorem tile9 (t : Fin cfg0.N) (v : View sig .tc .vmem S320x5632 .bf16) (r : Fin 320) (j : Fin 1024) :
    k0_pay14 (k0_pay9 (v.readCov
        [⟨Rect.unit ![0, 2816] ![320, 2816] inb_S320x5632_S320x2816_0_2816,
            k0_pay8 (iblk m c 0 t) (iblk m c 2 t)
              (View.ld (iblk m c 1 t) (Rect.unit ![0, 0] ![320, 2816] inb_S320x5632_S320x2816_0_0))⟩,
          ⟨Rect.unit ![0, 0] ![320, 2816] inb_S320x5632_S320x2816_0_0,
            k0_pay7 (iblk m c 0 t) (iblk m c 2 t)
              (View.ld (iblk m c 1 t) (Rect.unit ![0, 0] ![320, 2816] inb_S320x5632_S320x2816_0_0))
              (View.ld (iblk m c 1 t) (Rect.unit ![0, 2816] ![320, 2816] inb_S320x5632_S320x2816_0_2816))⟩]
        (Rect.unit ![0, 0] ![320, 5632] inb_S320x5632_S320x5632_0_0).toLoadRect))
      (iblk m c 3 t) (iblk m c 4 t) (iblk m c 6 t) (iblk m c 5 t) (ix2 r j) = ((d.E (row t r) j : ℝ) : EReal) :=
  pay14_real (back8 hm t v) (blk3 hm t) (blk4 hm t) (blk6 hm t) (blk5 hm t) r j

/-- What a point leaves in the block of the gradient before the output product. -/
theorem tile11 (t : Fin cfg0.N) (v : View sig .tc .vmem S320x5632 .bf16) (r : Fin 320) (j : Fin 1024) :
    k0_pay2 (k0_pay14 (k0_pay9 (v.readCov
        [⟨Rect.unit ![0, 2816] ![320, 2816] inb_S320x5632_S320x2816_0_2816,
            k0_pay8 (iblk m c 0 t) (iblk m c 2 t)
              (View.ld (iblk m c 1 t) (Rect.unit ![0, 0] ![320, 2816] inb_S320x5632_S320x2816_0_0))⟩,
          ⟨Rect.unit ![0, 0] ![320, 2816] inb_S320x5632_S320x2816_0_0,
            k0_pay7 (iblk m c 0 t) (iblk m c 2 t)
              (View.ld (iblk m c 1 t) (Rect.unit ![0, 0] ![320, 2816] inb_S320x5632_S320x2816_0_0))
              (View.ld (iblk m c 1 t) (Rect.unit ![0, 2816] ![320, 2816] inb_S320x5632_S320x2816_0_2816))⟩]
        (Rect.unit ![0, 0] ![320, 5632] inb_S320x5632_S320x5632_0_0).toLoadRect))
      (iblk m c 3 t) (iblk m c 4 t) (iblk m c 6 t) (iblk m c 5 t)) (iblk m c 7 t) (ix2 r j) = ((d.Y (row t r) j : ℝ) : EReal) :=
  pay2_real (tile9 hm t v) (blk7 hm t) r j

/-- What a point adds to the gradient of the norm's weights. -/
theorem tile12 (t : Fin cfg0.N) (v : View sig .tc .vmem S320x5632 .bf16) (xacc : Vec Ideal S1x1024 .f32) (l : Fin 1) (j : Fin 1024) :
    k0_pay13 (k0_pay9 (v.readCov
        [⟨Rect.unit ![0, 2816] ![320, 2816] inb_S320x5632_S320x2816_0_2816,
            k0_pay8 (iblk m c 0 t) (iblk m c 2 t)
              (View.ld (iblk m c 1 t) (Rect.unit ![0, 0] ![320, 2816] inb_S320x5632_S320x2816_0_0))⟩,
          ⟨Rect.unit ![0, 0] ![320, 2816] inb_S320x5632_S320x2816_0_0,
            k0_pay7 (iblk m c 0 t) (iblk m c 2 t)
              (View.ld (iblk m c 1 t) (Rect.unit ![0, 0] ![320, 2816] inb_S320x5632_S320x2816_0_0))
              (View.ld (iblk m c 1 t) (Rect.unit ![0, 2816] ![320, 2816] inb_S320x5632_S320x2816_0_2816))⟩]
        (Rect.unit ![0, 0] ![320, 5632] inb_S320x5632_S320x5632_0_0).toLoadRect))
      (iblk m c 3 t) (iblk m c 4 t) xacc (ix2 l j) = xacc (ix2 l j) + ((∑ r, d.T (row t r) j : ℝ) : EReal) :=
  pay13_real (back8 hm t v) (blk3 hm t) (blk4 hm t) l j

end Blocks

end Cert.FfnKernelIdeal.Ffn

end

end
-- ==== Proof.FfnArr.lean ====
/- The feed-forward gradient call: the arrays after the run, as real numbers. -/
module

public import proofs.«01_k».proof.Proof.FfnKern

@[expose] public section

set_option maxRecDepth 16384

noncomputable section

namespace Cert.FfnKernelIdeal.Ffn

open Cert.FfnKernelIdeal Cert.FfnKernelIdeal.Gen Idealize.ShloMosaic Idealize.ShloMosaic.TcCoe Idealize.SL.Sem
open Idealize.ShloMosaic.Pipeline (Dat)
open Cert.Ffn (sum_coe div_coe')

variable {m : (ℓ : Loc nD τ sig) → Buf (Elt Ideal) ℓ} {c : Dev nD} {d : Cert.Ffn.Data} (hm : Holds m c d)
include hm

/-- The gradient of the two halves after the run. -/
theorem arr8 : (Gen.dats m 0 c).arrAt 8 cfg0.N = fun y : S4160x5632.Idx => ((d.Q (y 0) (y 1) : ℝ) : EReal) := by
  refine (dats m 0 c).arrAt_eq_of_covers 8 _ (by decide +kernel) fun t hf y => ?_
  blk_simp
  rw [after0_8]
  obtain ⟨r, f, rfl⟩ : ∃ (r : Fin 320) (f : Fin 5632), y = (ix2 r f : S320x5632.Idx) := ⟨y 0, y 1, eq_ix2 (n0 := 320) (n1 := 5632) y⟩
  refine Eq.trans ?_ (congrArg (fun y : S4160x5632.Idx => ((d.Q (y 0) (y 1) : ℝ) : EReal)) (emb8 t r f)).symm
  by_cases h0 : t.val % 13 = 0
  · rw [outsAt0_A m c t h0]; frame_out
    exact tile8 hm t r f
  · rw [outsAt0_B m c t h0]; frame_out
    exact tile8 hm t r f

/-- The gradient of the block's input after the run. -/
theorem arr9 : (Gen.dats m 0 c).arrAt 9 cfg0.N = fun y : S4160x1024.Idx => ((d.E (y 0) (y 1) : ℝ) : EReal) := by
  refine (dats m 0 c).arrAt_eq_of_covers 9 _ (by decide +kernel) fun t hf y => ?_
  blk_simp
  rw [after0_9]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.E (y 0) (y 1) : ℝ) : EReal)) (emb9 t r f)).symm
  by_cases h0 : t.val % 13 = 0
  · rw [outsAt0_A m c t h0]; frame_out
    exact tile9 hm t _ r f
  · rw [outsAt0_B m c t h0]; frame_out
    exact tile9 hm t _ r f

/-- The same gradient in the shorter format after the run. -/
theorem arr10 : (Gen.dats m 0 c).arrAt 10 cfg0.N = fun y : S4160x1024.Idx => ((d.E (y 0) (y 1) : ℝ) : EReal) := by
  refine (dats m 0 c).arrAt_eq_of_covers 10 _ (by decide +kernel) fun t hf y => ?_
  blk_simp
  rw [after0_10]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.E (y 0) (y 1) : ℝ) : EReal)) (emb10 t r f)).symm
  by_cases h0 : t.val % 13 = 0
  · rw [outsAt0_A m c t h0]; frame_out
    exact tile9 hm t _ r f
  · rw [outsAt0_B m c t h0]; frame_out
    exact tile9 hm t _ r f

/-- The gradient before the output product after the run. -/
theorem arr11 : (Gen.dats m 0 c).arrAt 11 cfg0.N = fun y : S4160x1024.Idx => ((d.Y (y 0) (y 1) : ℝ) : EReal) := by
  refine (dats m 0 c).arrAt_eq_of_covers 11 _ (by decide +kernel) fun t hf y => ?_
  blk_simp
  rw [after0_11]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.Y (y 0) (y 1) : ℝ) : EReal)) (emb11 t r f)).symm
  by_cases h0 : t.val % 13 = 0
  · rw [outsAt0_A m c t h0]; frame_out
    exact tile11 hm t _ r f
  · rw [outsAt0_B m c t h0]; frame_out
    exact tile11 hm t _ r f

omit hm in
/-- The rows of the tiles, one tile after the other, are all the rows. -/
theorem sum_rows (f : Fin 4160 → ℝ) : ∑ t : Fin cfg0.N, ∑ r : Fin 320, f (row t r) = ∑ i, f i := by
  refine Eq.trans ?_ (Equiv.sum_comp (finProdFinEquiv : Fin 13 × Fin 320 ≃ Fin 4160) f)
  rw [Fintype.sum_prod_type]
  refine Finset.sum_congr rfl fun t _ => Finset.sum_congr rfl fun r _ => congrArg f (Fin.ext ?_)
  show t.val * 320 + r.val = r.val + 320 * t.val
  omega

omit hm in
/-- Where an index of the block of the weights' gradient lies in its array. -/
theorem emb12 (t : Fin cfg0.N) (r : Fin 1) (k : Fin 1024) :
    (win0_12.blk t).view.emb (ix2 r k : S1x1024.Idx) = (ix2 r k : S1x1024.Idx) := by
  have e : ∀ t : Fin cfg0.N, win0_12.index t 0 = 0 := by decide +kernel
  have e1 : ∀ t : Fin cfg0.N, win0_12.index t 1 = 0 := by decide +kernel
  blk_ext [e t, e1 t]

omit hm in
theorem pay3_zero (l : Fin 1) (f : Fin 1024) : k0_pay3 (F := Ideal) (ix2 l f) = 0 := by
  pointwise [k0_pay3]

/-- The gradient of the norm's weights after the last point. -/
theorem last12 (t : Fin cfg0.N) (ht : t.val % 13 = 12) (y : S1x1024.Idx) :
    (outsAt0 m c t.val t.isLt).2.2.2.2 y = ((d.N (y 1) : ℝ) : EReal) := by
  rw [Pipeline.eq_sum_of_reset_step_apply_single_of_mod (fun n h => (outsAt0 m c n h).2.2.2.2) 13 (fun _ => (0 : EReal))
    (fun n y => if hn : n < cfg0.N then ((∑ r, d.T (row ⟨n, hn⟩ r) (y 1) : ℝ) : EReal) else 0)
    (fun t h0 y => ?_) (fun t h0 y => ?_) (by decide) t ht y]
  · rw [zero_add, Finset.sum_range]
    refine (Finset.sum_congr rfl fun t _ => dif_pos (show t.val < cfg0.N from t.isLt)).trans ?_
    rw [sum_coe]
    exact congrArg _ (sum_rows fun i => d.T i (y 1))
  · obtain ⟨l, f, rfl⟩ : ∃ (l : Fin 1) (f : Fin 1024), y = (ix2 l f : S1x1024.Idx) := ⟨y 0, y 1, eq_ix2 (n0 := 1) (n1 := 1024) y⟩
    simp only [t.isLt, dif_pos]
    rw [outsAt0_A m c t h0]; frame_out
    refine (tile12 hm t _ _ l f).trans ?_
    rw [pay3_zero]
    rfl
  · obtain ⟨l, f, rfl⟩ : ∃ (l : Fin 1) (f : Fin 1024), y = (ix2 l f : S1x1024.Idx) := ⟨y 0, y 1, eq_ix2 (n0 := 1) (n1 := 1024) y⟩
    simp only [t.isLt, dif_pos]
    rw [outsAt0_B m c t h0]; frame_out
    exact tile12 hm t _ _ l f

/-- The gradient of the norm's weights after the run. -/
theorem arr12 : (Gen.dats m 0 c).arrAt 12 cfg0.N = fun y : S1x1024.Idx => ((d.N (y 1) : ℝ) : EReal) := by
  refine (dats m 0 c).arrAt_eq_of_covers 12 _ (by decide +kernel) fun t hf y => ?_
  blk_simp
  rw [after0_12]
  obtain ⟨l, f, rfl⟩ : ∃ (l : Fin 1) (f : Fin 1024), y = (ix2 l f : S1x1024.Idx) := ⟨y 0, y 1, eq_ix2 (n0 := 1) (n1 := 1024) y⟩
  refine Eq.trans ?_ (congrArg (fun y : S1x1024.Idx => ((d.N (y 1) : ℝ) : EReal)) (emb12 t l f)).symm
  exact last12 hm t ((flush0_12 t).mp hf) _

end Cert.FfnKernelIdeal.Ffn

end

end
-- ==== Proof.FfnRef.lean ====
/- The feed-forward gradient's reference: its results as real numbers. -/
module

public import proofs.«01_k».proof.Defs
public import proofs.«01_k».proof.Proof.FfnMath
public import proofs.«01_k».proof.Proof.Gen.FfnReferenceIdeal.Run
public import proofs.«01_k».proof.Proof.Gen.FfnReferenceIdeal.Read
public import Idealize.ShloMosaic.Lib.Pointwise

@[expose] public section

set_option maxRecDepth 16384

noncomputable section

namespace Cert.FfnReferenceIdeal.Ffn

open Cert.FfnReferenceIdeal Cert.FfnReferenceIdeal.Gen Cert.FfnReferenceIdeal.Read Idealize.ShloMosaic Idealize.ShloMosaic.TcCoe Idealize.SL.Sem
open Cert.Ffn (sum_coe div_coe')

variable (x0 : (⟨S4160x1024, .f32⟩ : BufTy).Contents (Elt Ideal)) (x1 : (⟨S1x1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S1024x1024, .f32⟩ : BufTy).Contents (Elt Ideal)) (x5 : (⟨S4160x1024, .f32⟩ : BufTy).Contents (Elt Ideal))
  (d : Cert.Ffn.Data)

/-- The reference's arguments are the given real numbers. -/
structure Holds : Prop where
  h : ∀ i k, x0 (ix2 i k : S4160x1024.Idx) = ((d.H i k : ℝ) : EReal)
  g : ∀ (l : Fin 1) k, x1 (ix2 l k : S1x1024.Idx) = ((d.G k : ℝ) : EReal)
  wgu : ∀ j f, x2 (ix2 j f : S1024x5632.Idx) = ((d.Wgu j f : ℝ) : EReal)
  wd : ∀ f j, x3 (ix2 f j : S2816x1024.Idx) = ((d.Wd f j : ℝ) : EReal)
  wo : ∀ i j, x4 (ix2 i j : S1024x1024.Idx) = ((d.Wo i j : ℝ) : EReal)
  d : ∀ i k, x5 (ix2 i k : S4160x1024.Idx) = ((d.D i k : ℝ) : EReal)

variable {x0 x1 x2 x3 x4 x5 d} (hx : Holds x0 x1 x2 x3 x4 x5 d)
include hx

theorem v6_real (i : Fin 4160) (l : Fin 1) : val_main_v6 (F := Ideal) x0 (ix2 i l) = ((Cert.Ffn.meanSq (d.H i) : ℝ) : EReal) := by
  pointwise [val_main_v6, val_main_v5, val_main_v4, val_main_v3, val_main_v2, val_main_v1, val_main_v0, val_main_cst, val_main_cst_0, val_main_cst_1]
  simp only [hx.h, ← EReal.coe_mul, sum_coe, Cert.Ffn.ofBits_1024, Cert.Ffn.ofBits_eps, div_coe' _ (show (1024 : ℝ) ≠ 0 by norm_num),
    ← EReal.coe_add]
  rfl

theorem v7_real (i : Fin 4160) (l : Fin 1) : val_main_v7 (F := Ideal) x0 (ix2 i l) = ((Cert.Ffn.inv (d.H i) : ℝ) : EReal) := by
  pointwise [val_main_v7]
  rw [v6_real hx]
  exact Cert.Ffn.rsqrt_meanSq _

theorem v10_real (i : Fin 4160) (l : Fin 1) : val_main_v10 (F := Ideal) x0 (ix2 i l)
    = ((-(1 / 2) * (Cert.Ffn.inv (d.H i) / Cert.Ffn.meanSq (d.H i)) : ℝ) : EReal) := by
  pointwise [val_main_v10, val_main_v9, val_main_v8, val_main_cst_2]
  rw [v6_real hx, v7_real hx, Cert.Ffn.ofBits_neg_half, div_coe' _ (Cert.Ffn.meanSq_pos _).ne', ← EReal.coe_mul]

theorem v12_real (i : Fin 4160) (k : Fin 1024) : val_main_v12 (F := Ideal) x0 (ix2 i k)
    = ((d.H i k * Cert.Ffn.inv (d.H i) : ℝ) : EReal) := by
  pointwise [val_main_v12, val_main_v11]
  rw [v7_real hx, hx.h, ← EReal.coe_mul]

theorem v15_real (i : Fin 4160) (f : Fin 5632) : val_main_v15 (F := Ideal) x0 x1 x2 (ix2 i f) = ((d.P i f : ℝ) : EReal) := by
  pointwise [val_main_v15, val_main_v14, val_main_v13]
  simp only [v12_real hx, hx.g, hx.wgu, ← EReal.coe_mul, sum_coe]
  rfl

theorem v16_real (i : Fin 4160) (f : Fin 2816) : val_main_v16 (F := Ideal) x0 x1 x2 (ix2 i f) = ((d.P i (Cert.Ffn.lo f) : ℝ) : EReal) := by
  pointwise [val_main_v16]
  exact v15_real hx i _

theorem v17_real (i : Fin 4160) (f : Fin 2816) : val_main_v17 (F := Ideal) x0 x1 x2 (ix2 i f) = ((d.P i (Cert.Ffn.hi f) : ℝ) : EReal) := by
  pointwise [val_main_v17]
  exact v15_real hx i _

theorem sig_real (i : Fin 4160) (f : Fin 2816) : val_main_v18_2 (F := Ideal) x0 x1 x2 (ix2 i f)
    = ((Cert.Ffn.sig (d.P i (Cert.Ffn.lo f)) : ℝ) : EReal) := by
  pointwise [val_main_v18_2, val_main_call0_v4, val_main_call0_cst_0, val_main_call0_v3, val_main_call0_v2, val_main_call0_cst, val_main_call0_v1, val_main_call0_v0]
  have hp : (1 : ℝ) + Real.exp (-d.P i (Cert.Ffn.lo f)) ≠ 0 := (add_pos one_pos (Real.exp_pos _)).ne'
  rw [v16_real hx, ← EReal.coe_neg, Ideal.exp_coe, ← EReal.coe_one, ← EReal.coe_add, div_coe' _ hp]
  rfl

theorem v18_1_real (i : Fin 4160) (f : Fin 2816) : val_main_v18_1 (F := Ideal) x0 x1 x2 (ix2 i f)
    = ((Cert.Ffn.sig (d.P i (Cert.Ffn.lo f)) * (1 - Cert.Ffn.sig (d.P i (Cert.Ffn.lo f))) : ℝ) : EReal) := by
  pointwise [val_main_v18_1, val_main_call0_v7, val_main_call0_v6, val_main_call0_cst_1]
  rw [sig_real hx, ← EReal.coe_one, ← EReal.coe_sub, ← EReal.coe_mul]

theorem v18_0_real (i : Fin 4160) (f : Fin 2816) : val_main_v18_0 (F := Ideal) x0 x1 x2 (ix2 i f)
    = ((d.P i (Cert.Ffn.lo f) * Cert.Ffn.sig (d.P i (Cert.Ffn.lo f)) : ℝ) : EReal) := by
  pointwise [val_main_v18_0]
  rw [sig_real hx, v16_real hx, ← EReal.coe_mul]

theorem v23_real (i : Fin 4160) (f : Fin 2816) : val_main_v23 (F := Ideal) x3 x5 (ix2 i f)
    = ((Cert.Ffn.dact (d.D i) d.Wd f : ℝ) : EReal) := by
  pointwise [val_main_v23, val_main_v22]
  simp only [hx.d, hx.wd, ← EReal.coe_mul, sum_coe]
  rfl

theorem v24_real (i : Fin 4160) (f : Fin 2816) : val_main_v24 (F := Ideal) x0 x1 x2 x3 x5 (ix2 i f)
    = ((d.Q i (Cert.Ffn.hi f) : ℝ) : EReal) := by
  pointwise [val_main_v24]
  rw [v18_0_real hx, v23_real hx, ← EReal.coe_mul]
  unfold Cert.Ffn.Data.Q
  rw [Cert.Ffn.dgu_hi, Cert.Ffn.dup]
  congr 1; ring

theorem v26_real (i : Fin 4160) (f : Fin 2816) : val_main_v26 (F := Ideal) x0 x1 x2 x3 x5 (ix2 i f)
    = ((d.Q i (Cert.Ffn.lo f) : ℝ) : EReal) := by
  pointwise [val_main_v26, val_main_call1_v2, val_main_call1_v1, val_main_call1_v0, val_main_v25]
  rw [v18_1_real hx, sig_real hx, v16_real hx, v17_real hx, v23_real hx]
  simp only [← EReal.coe_mul, ← EReal.coe_add]
  unfold Cert.Ffn.Data.Q
  rw [Cert.Ffn.dgu_lo, Cert.Ffn.dgate]
  congr 1; ring

theorem v29_real (i : Fin 4160) (f : Fin 5632) : val_main_v29 (F := Ideal) x0 x1 x2 x3 x5 (ix2 i f)
    = ((d.Q i f : ℝ) : EReal) := by
  pointwise [val_main_v29, val_main_v28, val_main_v27, val_main_cst_3, val_main_cst_4]
  by_cases hf : f.val < 2816
  · rw [dif_neg (show ¬(2816 ≤ f.val ∧ f.val - 2816 < 2816) by omega), dif_pos hf, zero_add]
    exact v26_real hx i ⟨f.val, hf⟩
  · have hf2 : f.val - 2816 < 2816 := by have := f.isLt; omega
    rw [dif_pos (show 2816 ≤ f.val ∧ f.val - 2816 < 2816 from ⟨by omega, hf2⟩), dif_neg hf, add_zero]
    refine (v24_real hx i ⟨f.val - 2816, hf2⟩).trans ?_
    exact congrArg (fun q => ((d.Q i q : ℝ) : EReal)) (Fin.ext (by show 2816 + (f.val - 2816) = f.val; omega))

theorem v30_real (i : Fin 4160) (j : Fin 1024) : val_main_v30 (F := Ideal) x0 x1 x2 x3 x5 (ix2 i j)
    = ((d.V i j : ℝ) : EReal) := by
  pointwise [val_main_v30]
  simp only [v29_real hx, hx.wgu, ← EReal.coe_mul, sum_coe]
  rfl

/-- The gradient of the norm's weights. -/
theorem v33_real (l : Fin 1) (j : Fin 1024) : val_main_v33 (F := Ideal) x0 x1 x2 x3 x5 (ix2 l j)
    = ((d.N j : ℝ) : EReal) := by
  pointwise [val_main_v33, val_main_v32, val_main_v31, val_main_cst_5]
  simp only [v12_real hx, v30_real hx, ← EReal.coe_mul, sum_coe]
  unfold Cert.Ffn.Data.N Cert.Ffn.Data.T
  refine congrArg _ (Finset.sum_congr rfl fun i _ => ?_)
  ring

theorem v35_real (i : Fin 4160) (j : Fin 1024) : val_main_v35 (F := Ideal) x0 x1 x2 x3 x5 (ix2 i j)
    = ((d.V i j * d.G j : ℝ) : EReal) := by
  pointwise [val_main_v35, val_main_v34]
  rw [v30_real hx, hx.g, ← EReal.coe_mul]

theorem v43_real (i : Fin 4160) (l : Fin 1) : val_main_v43 (F := Ideal) x0 x1 x2 x3 x5 (ix2 i l)
    = (((∑ k, d.H i k * (d.V i k * d.G k)) * (-(1 / 2) * (Cert.Ffn.inv (d.H i) / Cert.Ffn.meanSq (d.H i))) / 1024 : ℝ) : EReal) := by
  pointwise [val_main_v43, val_main_v42, val_main_v41, val_main_v38, val_main_v37, val_main_v36, val_main_cst_6, val_main_cst_7]
  simp only [v10_real hx, v35_real hx, hx.h, Cert.Ffn.ofBits_1024, ← EReal.coe_mul, sum_coe, div_coe' _ (show (1024 : ℝ) ≠ 0 by norm_num)]

/-- The gradient of the block's input. -/
theorem v50_real (i : Fin 4160) (j : Fin 1024) : val_main_v50 (F := Ideal) x0 x1 x2 x3 x5 (ix2 i j)
    = ((d.E i j : ℝ) : EReal) := by
  pointwise [val_main_v50, val_main_v49, val_main_v48, val_main_v47, val_main_v46, val_main_v45, val_main_v44, val_main_v40, val_main_v39, val_main_cst_8]
  simp only [v43_real hx, v35_real hx, v7_real hx, hx.h, hx.d, ← EReal.coe_mul, sum_coe, ← EReal.coe_add, Fin.sum_univ_one]
  refine congrArg _ ?_
  unfold Cert.Ffn.Data.E Cert.Ffn.dh1
  rw [Cert.Ffn.inv_div]
  have e : ∑ k, d.V i k * d.G k * (d.H i k * Cert.Ffn.inv (d.H i)) = Cert.Ffn.inv (d.H i) * ∑ k, d.H i k * (d.V i k * d.G k) := by
    rw [Finset.mul_sum]
    exact Finset.sum_congr rfl fun k _ => by ring
  rw [e]
  ring

/-- The gradient before the output product. -/
theorem v53_real (i : Fin 4160) (j : Fin 1024) : val_main_v53 (F := Ideal) x0 x1 x2 x3 x4 x5 (ix2 i j)
    = ((d.Y i j : ℝ) : EReal) := by
  pointwise [val_main_v53]
  simp only [v50_real hx, hx.wo, ← EReal.coe_mul, sum_coe]
  rfl

end Cert.FfnReferenceIdeal.Ffn

end

end
-- ==== Proof.FfnPre.lean ====
/- The precondition read back: every entry of the six arguments is a real number. -/
module

public import proofs.«01_k».proof.Defs
public import proofs.«01_k».proof.Proof.FfnKern
public import proofs.«01_k».proof.Proof.Gen.Pre_finite
public import Idealize.ShloMosaic.Lib.ReduceAll
public import Idealize.ShloMosaic.Lib.Pointwise

@[expose] public section

set_option maxRecDepth 16384

noncomputable section

namespace Cert.Pre_finite

open Cert.Pre_finite Cert.Pre_finite.Gen Idealize.ShloMosaic Idealize.ShloMosaic.TcCoe Idealize.SL.Sem

instance : Subsingleton S_.Idx := ⟨fun _ _ => funext fun k => k.elim0⟩

/-- A number whose absolute value is below infinity is real. -/
theorem real_of_abs {x : EReal} (h : max x (-x) < ⊤) : x = ((x.toReal : ℝ) : EReal) := by
  refine (EReal.coe_toReal ?_ ?_).symm
  · rintro rfl
    simp at h
  · rintro rfl
    simp at h

/-- One comparison of the precondition, read. -/
theorem real_of_cmp {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    a i = (((a i : EReal).toReal : ℝ) : EReal) := by
  refine real_of_abs ?_
  have htop : Ideal.ofBits .f32 0x7F800000#32 = ⊤ := by simp [Ideal.ofBits, Ideal.ieee]
  have h' : BitVec.ofBool (decide (max (a i : EReal) (-(a i : EReal)) < Ideal.ofBits .f32 0x7F800000#32)) = 1#1 := h
  rw [htop] at h'
  by_contra hc
  rw [decide_eq_false hc] at h'
  exact absurd h' (by decide)

/-- All six arguments are arrays of real numbers. -/
theorem real_args (x0 : FVec Ideal S4160x1024 .f32) (x1 : FVec Ideal S1x1024 .f32) (x2 : FVec Ideal S1024x5632 .f32)
    (x3 : FVec Ideal S2816x1024 .f32) (x4 : FVec Ideal S1024x1024 .f32) (x5 : FVec Ideal S4160x1024 .f32)
    (h : fn (F := Ideal) x0 x1 x2 x3 x4 x5 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) ∧ (∀ i, x5 i = (((x5 i : EReal).toReal : ℝ) : EReal)) := by
  have h0 := congrFun h (default : S_.Idx)
  dsimp only [fn, fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_cmp x0 _ i (Host.reduce_andi_all _ _ _ _ _ h0 i),
    fun i => real_of_cmp x1 _ i (Host.reduce_andi_all _ _ _ _ _ h1 i),
    fun i => real_of_cmp x2 _ i (Host.reduce_andi_all _ _ _ _ _ h2 i),
    fun i => real_of_cmp x3 _ i (Host.reduce_andi_all _ _ _ _ _ h3 i),
    fun i => real_of_cmp x4 _ i (Host.reduce_andi_all _ _ _ _ _ h4 i),
    fun i => real_of_cmp x5 _ i (Host.reduce_andi_all _ _ _ _ _ h5 i)⟩

end Cert.Pre_finite

namespace Cert.FfnKernelIdeal.Ffn

open Cert.FfnKernelIdeal Cert.FfnKernelIdeal.Gen Idealize.ShloMosaic Idealize.ShloMosaic.TcCoe Idealize.SL.Sem

/-- The real arrays a memory's arguments are. -/
def data (m : (ℓ : Loc nD τ sig) → Buf (Elt Ideal) ℓ) (c : Dev nD) : Cert.Ffn.Data where
  H i k := (m ((c : Thread nD τ).loc main_arg0) (ix2 i k : S4160x1024.Idx) : EReal).toReal
  G k := (m ((c : Thread nD τ).loc main_arg1) (ix2 (0 : Fin 1) k : S1x1024.Idx) : EReal).toReal
  Wgu j f := (m ((c : Thread nD τ).loc main_arg2) (ix2 j f : S1024x5632.Idx) : EReal).toReal
  Wd f j := (m ((c : Thread nD τ).loc main_arg3) (ix2 f j : S2816x1024.Idx) : EReal).toReal
  Wo i j := (m ((c : Thread nD τ).loc main_arg4) (ix2 i j : S1024x1024.Idx) : EReal).toReal
  D i k := (m ((c : Thread nD τ).loc main_arg5) (ix2 i k : S4160x1024.Idx) : EReal).toReal

/-- Under the precondition the arguments are those arrays. -/
theorem data_holds (m : (ℓ : Loc nD τ sig) → Buf (Elt Ideal) ℓ) (hp : Cert.Pre_FfnKernelIdeal_finite m) (c : Dev nD) :
    Holds m c (data m c) := by
  obtain ⟨h0, h1, h2, h3, h4, h5⟩ := Cert.Pre_finite.real_args _ _ _ _ _ _ (hp c)
  exact
    { h := fun i k => h0 (ix2 i k)
      g := fun l k => by
        rw [show l = 0 from Subsingleton.elim _ _]
        exact h1 (ix2 (0 : Fin 1) k)
      wgu := fun j f => h2 (ix2 j f)
      wd := fun f j => h3 (ix2 f j)
      wo := fun i j => h4 (ix2 i j)
      d := fun i k => h5 (ix2 i k) }

end Cert.FfnKernelIdeal.Ffn

end
-- ==== Proof.DownKern.lean ====
/- The gradient of the down projection's weights: the arrays the call leaves. -/
module

public import proofs.«01_k».proof.Defs
public import proofs.«01_k».proof.Proof.Gen.DownKernelIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.DownKernelIdeal.Down

open Cert.DownKernelIdeal Cert.DownKernelIdeal.Gen Idealize.ShloMosaic Idealize.ShloMosaic.TcCoe Idealize.SL.Sem
open Idealize.ShloMosaic.Pipeline (Dat)

/-- The activation at row `k`, feature `i`, from the two halves side by side in a row of `x`. -/
def act (x : Fin 4160 → Fin 5632 → EReal) (k : Fin 4160) (i : Fin 2816) : EReal :=
  let a := x k ⟨i.val, by omega⟩
  a * Ideal.div 1 (1 + Ideal.exp (-a)) * x k ⟨2816 + i.val, by omega⟩

/-- The gradient of weight `(i, j)`: the sum over the rows of the activation times the gradient behind the product. -/
def grad (x : Fin 4160 → Fin 5632 → EReal) (d : Fin 4160 → Fin 1024 → EReal) (i : Fin 2816) (j : Fin 1024) : EReal :=
  ∑ k, act x k i * d k j

theorem pay1_at (xa : Vec Ideal S4160x1408 .bf16) (xd : Vec Ideal S4160x512 .bf16) (i : Fin 1408) (j : Fin 512) :
    k0_pay1 xa xd (ix2 i j) = ∑ k, xa (ix2 k i) * xd (ix2 k j) := by
  pointwise [k0_pay1]

theorem pay2_at (xa : Vec Ideal S4160x1408 .bf16) (xd : Vec Ideal S4160x512 .bf16) (i : Fin 1408) (j : Fin 512) :
    k0_pay2 xa xd (ix2 i j) = ∑ k, xa (ix2 k i) * xd (ix2 k j) := by
  pointwise [k0_pay2, k0_pay1]

/-- The feature a column of the tile of point `t` is. -/
def feat (t : Fin cfg0.N) (i : Fin 1408) : Fin 2816 := ⟨t.val / 2 * 1408 + i.val, by
  have : t.val < 4 := t.isLt
  omega⟩

/-- The output a column of the tile of point `t` is. -/
def colo (t : Fin cfg0.N) (j : Fin 512) : Fin 1024 := ⟨t.val % 2 * 512 + j.val, by omega⟩

/-- Where an index of window 0's block lies in its array. -/
theorem emb0 (t : Fin cfg0.N) (r : Fin 4160) (k : Fin 1408) :
    (win0_0.blk t).view.emb (ix2 r k : S4160x1408.Idx) = (ix2 r (feat t k) : S4160x2816.Idx) := by
  have e : ∀ t : Fin cfg0.N, win0_0.index t 0 = 0 := by decide +kernel
  have e1 : ∀ t : Fin cfg0.N, win0_0.index t 1 = t.val / 2 := by decide +kernel
  blk_ext [e t, e1 t, feat]

/-- Where an index of window 1's block lies in its array. -/
theorem emb1 (t : Fin cfg0.N) (r : Fin 4160) (k : Fin 512) :
    (win0_1.blk t).view.emb (ix2 r k : S4160x512.Idx) = (ix2 r (colo t k) : S4160x1024.Idx) := by
  have e : ∀ t : Fin cfg0.N, win0_1.index t 0 = 0 := by decide +kernel
  have e1 : ∀ t : Fin cfg0.N, win0_1.index t 1 = t.val % 2 := by decide +kernel
  blk_ext [e t, e1 t, colo]

/-- Where an index of window 2's block lies in its array. -/
theorem emb2 (t : Fin cfg0.N) (r : Fin 1408) (k : Fin 512) :
    (win0_2.blk t).view.emb (ix2 r k : S1408x512.Idx) = (ix2 (feat t r) (colo t k) : S2816x1024.Idx) := by
  have e : ∀ t : Fin cfg0.N, win0_2.index t 0 = t.val / 2 := by decide +kernel
  have e1 : ∀ t : Fin cfg0.N, win0_2.index t 1 = t.val % 2 := by decide +kernel
  blk_ext [e t, e1 t, feat, colo]

/-- Where an index of window 3's block lies in its array. -/
theorem emb3 (t : Fin cfg0.N) (r : Fin 1408) (k : Fin 512) :
    (win0_3.blk t).view.emb (ix2 r k : S1408x512.Idx) = (ix2 (feat t r) (colo t k) : S2816x1024.Idx) := by
  have e : ∀ t : Fin cfg0.N, win0_3.index t 0 = t.val / 2 := by decide +kernel
  have e1 : ∀ t : Fin cfg0.N, win0_3.index t 1 = t.val % 2 := by decide +kernel
  blk_ext [e t, e1 t, feat, colo]

section Blocks

variable (m : (ℓ : Loc nD τ sig) → Buf (Elt Ideal) ℓ) (c : Dev nD)

/-- The two arguments at a row and a column. -/
def X (k : Fin 4160) (i : Fin 5632) : EReal := m ((c : Thread nD τ).loc main_arg0) (ix2 k i : S4160x5632.Idx)
def D (k : Fin 4160) (j : Fin 1024) : EReal := m ((c : Thread nD τ).loc main_arg1) (ix2 k j : S4160x1024.Idx)

theorem blk0 (t : Fin cfg0.N) (r : Fin 4160) (k : Fin 1408) :
    (iblk m c 0 t : Vec Ideal S4160x1408 .bf16) (ix2 r k) = act (X m c) r (feat t k) := by
  blk_simp [iblk]
  rw [emb0]
  unfold V
  after_reads_at
  unfold act X
  rfl

theorem blk1 (t : Fin cfg0.N) (r : Fin 4160) (k : Fin 512) :
    (iblk m c 1 t : Vec Ideal S4160x512 .bf16) (ix2 r k) = D m c r (colo t k) := by
  blk_simp [iblk]
  rw [emb1]
  unfold V
  after_reads_at
  rfl

/-- The tiles. -/
theorem tile2 (t : Fin cfg0.N) (r : Fin 1408) (k : Fin 512) :
    (out0_2 (iblk m c 0 t) (iblk m c 1 t) : Vec Ideal S1408x512 .f32) (ix2 r k) = grad (X m c) (D m c) (feat t r) (colo t k) := by
  frame_out
  rw [pay1_at]
  simp only [blk0, blk1]
  rfl

theorem tile3 (t : Fin cfg0.N) (r : Fin 1408) (k : Fin 512) :
    (out0_3 (iblk m c 0 t) (iblk m c 1 t) : Vec Ideal S1408x512 .bf16) (ix2 r k) = grad (X m c) (D m c) (feat t r) (colo t k) := by
  frame_out
  rw [pay2_at]
  simp only [blk0, blk1]
  rfl

/-- The gradient after the run. -/
theorem arr2 : (Gen.dats m 0 c).arrAt 2 cfg0.N = fun y : S2816x1024.Idx => grad (X m c) (D m c) (y 0) (y 1) := by
  refine (dats m 0 c).arrAt_eq_of_covers 2 _ (by decide +kernel) fun t hf y => ?_
  blk_simp
  rw [after0_2]
  obtain ⟨r, f, rfl⟩ : ∃ (r : Fin 1408) (f : Fin 512), y = (ix2 r f : S1408x512.Idx) := ⟨y 0, y 1, eq_ix2 (n0 := 1408) (n1 := 512) y⟩
  refine Eq.trans ?_ (congrArg (fun y : S2816x1024.Idx => grad (X m c) (D m c) (y 0) (y 1)) (emb2 t r f)).symm
  exact tile2 m c t r f

/-- The gradient in the shorter format after the run. -/
theorem arr3 : (Gen.dats m 0 c).arrAt 3 cfg0.N = fun y : S2816x1024.Idx => grad (X m c) (D m c) (y 0) (y 1) := by
  refine (dats m 0 c).arrAt_eq_of_covers 3 _ (by decide +kernel) fun t hf y => ?_
  blk_simp
  rw [after0_3]
  obtain ⟨r, f, rfl⟩ : ∃ (r : Fin 1408) (f : Fin 512), y = (ix2 r f : S1408x512.Idx) := ⟨y 0, y 1, eq_ix2 (n0 := 1408) (n1 := 512) y⟩
  refine Eq.trans ?_ (congrArg (fun y : S2816x1024.Idx => grad (X m c) (D m c) (y 0) (y 1)) (emb3 t r f)).symm
  exact tile3 m c t r f

end Blocks

end Cert.DownKernelIdeal.Down

end

end
-- ==== Proof.DownRef.lean ====
/- The gradient of the down projection's weights: what the reference leaves. -/
module

public import proofs.«01_k».proof.Proof.DownKern
public import proofs.«01_k».proof.Proof.Gen.DownReferenceIdeal.Run
public import proofs.«01_k».proof.Proof.Gen.DownReferenceIdeal.Read

@[expose] public section

set_option maxRecDepth 16384

noncomputable section

namespace Cert.DownReferenceIdeal.Down

open Cert.DownReferenceIdeal Cert.DownReferenceIdeal.Gen Cert.DownReferenceIdeal.Read Idealize.ShloMosaic Idealize.ShloMosaic.TcCoe Idealize.SL.Sem
open Cert.DownKernelIdeal.Down (act grad)

variable (x0 : (⟨S4160x5632, .f32⟩ : BufTy).Contents (Elt Ideal)) (x1 : (⟨S4160x1024, .f32⟩ : BufTy).Contents (Elt Ideal))

theorem v4_at (k : Fin 4160) (i : Fin 2816) :
    val_main_v4 (F := Ideal) x0 (ix2 k i) = act (fun k i => x0 (ix2 k i : S4160x5632.Idx)) k i := by
  pointwise [val_main_v4, val_main_v3, val_main_v2, val_main_v1, val_main_call0_v5, val_main_call0_v4, val_main_call0_cst_0,
    val_main_call0_v3, val_main_call0_v2, val_main_call0_cst, val_main_call0_v1, val_main_call0_v0]
  unfold act
  rfl

theorem v7_at (i : Fin 2816) (j : Fin 1024) :
    val_main_v7 (F := Ideal) x0 x1 (ix2 i j)
      = grad (fun k i => x0 (ix2 k i : S4160x5632.Idx)) (fun k j => x1 (ix2 k j : S4160x1024.Idx)) i j := by
  pointwise [val_main_v7, val_main_v6]
  unfold grad
  exact Finset.sum_congr rfl fun k _ => by rw [v4_at, mul_comm]

/-- The reference's two results. -/
theorem ref7 : val_main_v7 (F := Ideal) x0 x1 = fun y : S2816x1024.Idx =>
    grad (fun k i => x0 (ix2 k i : S4160x5632.Idx)) (fun k j => x1 (ix2 k j : S4160x1024.Idx)) (y 0) (y 1) := by
  funext y
  rw [eq_ix2 y]
  exact v7_at x0 x1 (y 0) (y 1)

theorem ref8 : val_main_v8 (F := Ideal) x0 x1 = fun y : S2816x1024.Idx =>
    grad (fun k i => x0 (ix2 k i : S4160x5632.Idx)) (fun k j => x1 (ix2 k j : S4160x1024.Idx)) (y 0) (y 1) :=
  (show val_main_v8 (F := Ideal) x0 x1 = val_main_v7 (F := Ideal) x0 x1 from rfl).trans (ref7 x0 x1)

end Cert.DownReferenceIdeal.Down

end

end
-- ==== Proof.OutKern.lean ====
/- The gradient of the output projection's weights: the arrays the call leaves. -/
module

public import proofs.«01_k».proof.Defs
public import proofs.«01_k».proof.Proof.Gen.OutKernelIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.OutKernelIdeal.Out

open Cert.OutKernelIdeal Cert.OutKernelIdeal.Gen Idealize.ShloMosaic Idealize.ShloMosaic.TcCoe Idealize.SL.Sem
open Idealize.ShloMosaic.Pipeline (Dat)

/-- The gradient of weight `(i, j)`: the sum over the rows of the product's input times the gradient behind it. -/
def grad (x : Fin 4160 → Fin 1024 → EReal) (d : Fin 4160 → Fin 1024 → EReal) (i : Fin 1024) (j : Fin 1024) : EReal :=
  ∑ k, x k i * d k j

theorem pay1_at (xa : Vec Ideal S4160x1024 .bf16) (xd : Vec Ideal S4160x512 .bf16) (i : Fin 1024) (j : Fin 512) :
    k0_pay1 xa xd (ix2 i j) = ∑ k, xa (ix2 k i) * xd (ix2 k j) := by
  pointwise [k0_pay1]

theorem pay2_at (xa : Vec Ideal S4160x1024 .bf16) (xd : Vec Ideal S4160x512 .bf16) (i : Fin 1024) (j : Fin 512) :
    k0_pay2 xa xd (ix2 i j) = ∑ k, xa (ix2 k i) * xd (ix2 k j) := by
  pointwise [k0_pay2, k0_pay1]

/-- The output a column of the tile of point `t` is. -/
def colo (t : Fin cfg0.N) (j : Fin 512) : Fin 1024 := ⟨t.val % 2 * 512 + j.val, by omega⟩

/-- Where an index of window 0's block lies in its array. -/
theorem emb0 (t : Fin cfg0.N) (r : Fin 4160) (k : Fin 1024) :
    (win0_0.blk t).view.emb (ix2 r k : S4160x1024.Idx) = (ix2 r k : S4160x1024.Idx) := by
  have e : ∀ t : Fin cfg0.N, win0_0.index t 0 = 0 := by decide +kernel
  have e1 : ∀ t : Fin cfg0.N, win0_0.index t 1 = 0 := by decide +kernel
  blk_ext [e t, e1 t]

/-- Where an index of window 1's block lies in its array. -/
theorem emb1 (t : Fin cfg0.N) (r : Fin 4160) (k : Fin 512) :
    (win0_1.blk t).view.emb (ix2 r k : S4160x512.Idx) = (ix2 r (colo t k) : S4160x1024.Idx) := by
  have e : ∀ t : Fin cfg0.N, win0_1.index t 0 = 0 := by decide +kernel
  have e1 : ∀ t : Fin cfg0.N, win0_1.index t 1 = t.val % 2 := by decide +kernel
  blk_ext [e t, e1 t, colo]

/-- Where an index of window 2's block lies in its array. -/
theorem emb2 (t : Fin cfg0.N) (r : Fin 1024) (k : Fin 512) :
    (win0_2.blk t).view.emb (ix2 r k : S1024x512.Idx) = (ix2 r (colo t k) : S1024x1024.Idx) := by
  have e : ∀ t : Fin cfg0.N, win0_2.index t 0 = 0 := by decide +kernel
  have e1 : ∀ t : Fin cfg0.N, win0_2.index t 1 = t.val % 2 := by decide +kernel
  blk_ext [e t, e1 t, colo]

/-- Where an index of window 3's block lies in its array. -/
theorem emb3 (t : Fin cfg0.N) (r : Fin 1024) (k : Fin 512) :
    (win0_3.blk t).view.emb (ix2 r k : S1024x512.Idx) = (ix2 r (colo t k) : S1024x1024.Idx) := by
  have e : ∀ t : Fin cfg0.N, win0_3.index t 0 = 0 := by decide +kernel
  have e1 : ∀ t : Fin cfg0.N, win0_3.index t 1 = t.val % 2 := by decide +kernel
  blk_ext [e t, e1 t, colo]

section Blocks

variable (m : (ℓ : Loc nD τ sig) → Buf (Elt Ideal) ℓ) (c : Dev nD)

/-- The two arguments at a row and a column. -/
def X (k : Fin 4160) (i : Fin 1024) : EReal := m ((c : Thread nD τ).loc main_arg0) (ix2 k i : S4160x1024.Idx)
def D (k : Fin 4160) (j : Fin 1024) : EReal := m ((c : Thread nD τ).loc main_arg1) (ix2 k j : S4160x1024.Idx)

theorem blk0 (t : Fin cfg0.N) (r : Fin 4160) (k : Fin 1024) :
    (iblk m c 0 t : Vec Ideal S4160x1024 .bf16) (ix2 r k) = X m c r k := by
  blk_simp [iblk]
  rw [emb0]
  unfold V
  after_reads_at
  unfold X
  rfl

theorem blk1 (t : Fin cfg0.N) (r : Fin 4160) (k : Fin 512) :
    (iblk m c 1 t : Vec Ideal S4160x512 .bf16) (ix2 r k) = D m c r (colo t k) := by
  blk_simp [iblk]
  rw [emb1]
  unfold V
  after_reads_at
  rfl

/-- The tiles. -/
theorem tile2 (t : Fin cfg0.N) (r : Fin 1024) (k : Fin 512) :
    (out0_2 (iblk m c 0 t) (iblk m c 1 t) : Vec Ideal S1024x512 .f32) (ix2 r k) = grad (X m c) (D m c) r (colo t k) := by
  frame_out
  rw [pay1_at]
  simp only [blk0, blk1]
  rfl

theorem tile3 (t : Fin cfg0.N) (r : Fin 1024) (k : Fin 512) :
    (out0_3 (iblk m c 0 t) (iblk m c 1 t) : Vec Ideal S1024x512 .bf16) (ix2 r k) = grad (X m c) (D m c) r (colo t k) := by
  frame_out
  rw [pay2_at]
  simp only [blk0, blk1]
  rfl

/-- The gradient after the run. -/
theorem arr2 : (Gen.dats m 0 c).arrAt 2 cfg0.N = fun y : S1024x1024.Idx => grad (X m c) (D m c) (y 0) (y 1) := by
  refine (dats m 0 c).arrAt_eq_of_covers 2 _ (by decide +kernel) fun t hf y => ?_
  blk_simp
  rw [after0_2]
  obtain ⟨r, f, rfl⟩ : ∃ (r : Fin 1024) (f : Fin 512), y = (ix2 r f : S1024x512.Idx) := ⟨y 0, y 1, eq_ix2 (n0 := 1024) (n1 := 512) y⟩
  refine Eq.trans ?_ (congrArg (fun y : S1024x1024.Idx => grad (X m c) (D m c) (y 0) (y 1)) (emb2 t r f)).symm
  exact tile2 m c t r f

/-- The gradient in the shorter format after the run. -/
theorem arr3 : (Gen.dats m 0 c).arrAt 3 cfg0.N = fun y : S1024x1024.Idx => grad (X m c) (D m c) (y 0) (y 1) := by
  refine (dats m 0 c).arrAt_eq_of_covers 3 _ (by decide +kernel) fun t hf y => ?_
  blk_simp
  rw [after0_3]
  obtain ⟨r, f, rfl⟩ : ∃ (r : Fin 1024) (f : Fin 512), y = (ix2 r f : S1024x512.Idx) := ⟨y 0, y 1, eq_ix2 (n0 := 1024) (n1 := 512) y⟩
  refine Eq.trans ?_ (congrArg (fun y : S1024x1024.Idx => grad (X m c) (D m c) (y 0) (y 1)) (emb3 t r f)).symm
  exact tile3 m c t r f

end Blocks

end Cert.OutKernelIdeal.Out

end

end
-- ==== Proof.OutRef.lean ====
/- The gradient of the output projection's weights: what the reference leaves. -/
module

public import proofs.«01_k».proof.Proof.OutKern
public import proofs.«01_k».proof.Proof.Gen.OutReferenceIdeal.Run
public import proofs.«01_k».proof.Proof.Gen.OutReferenceIdeal.Read

@[expose] public section

set_option maxRecDepth 16384

noncomputable section

namespace Cert.OutReferenceIdeal.Out

open Cert.OutReferenceIdeal Cert.OutReferenceIdeal.Gen Cert.OutReferenceIdeal.Read Idealize.ShloMosaic Idealize.ShloMosaic.TcCoe Idealize.SL.Sem
open Cert.OutKernelIdeal.Out (grad)

variable (x0 : (⟨S4160x1024, .f32⟩ : BufTy).Contents (Elt Ideal)) (x1 : (⟨S4160x1024, .f32⟩ : BufTy).Contents (Elt Ideal))

theorem v3_at (i : Fin 1024) (j : Fin 1024) :
    val_main_v3 (F := Ideal) x0 x1 (ix2 i j)
      = grad (fun k i => x0 (ix2 k i : S4160x1024.Idx)) (fun k j => x1 (ix2 k j : S4160x1024.Idx)) i j := by
  pointwise [val_main_v3, val_main_v2]
  unfold grad
  exact Finset.sum_congr rfl fun k _ => by rw [mul_comm]

/-- The reference's two results. -/
theorem ref3 : val_main_v3 (F := Ideal) x0 x1 = fun y : S1024x1024.Idx =>
    grad (fun k i => x0 (ix2 k i : S4160x1024.Idx)) (fun k j => x1 (ix2 k j : S4160x1024.Idx)) (y 0) (y 1) := by
  funext y
  rw [eq_ix2 y]
  exact v3_at x0 x1 (y 0) (y 1)

theorem ref4 : val_main_v4 (F := Ideal) x0 x1 = fun y : S1024x1024.Idx =>
    grad (fun k i => x0 (ix2 k i : S4160x1024.Idx)) (fun k j => x1 (ix2 k j : S4160x1024.Idx)) (y 0) (y 1) :=
  (show val_main_v4 (F := Ideal) x0 x1 = val_main_v3 (F := Ideal) x0 x1 from rfl).trans (ref3 x0 x1)

end Cert.OutReferenceIdeal.Out

end

end
-- ==== Proof.FwdSetup.lean ====
/- What the runs of the forward call share: at which of the thirteen points each branch is taken, the buffers a point
   is handed, and the two slots through which the kernel itself fetches the target rows. -/
module

public import proofs.«01_k».proof.Proof.Gen.FwdKernelIdeal.Launch
public import proofs.«01_k».proof.Proof.Gen.FwdKernelIdeal.Skeleton
public import proofs.«01_k».proof.Proof.Gen.FwdKernelIdeal.Points
public import proofs.«01_k».proof.Proof.Gen.FwdKernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

/-! ## Where the branches are taken -/

/-- The first point's branches. -/
abbrev atFirst (i : grid0.Coords) : Prop :=
  (Scalar.cmpi .ne (Scalar.extui (Scalar.cmpi .eq (BitVec.ofNat 32 (i 0).val) 0#32)) 0#32) = 1#1
/-- The branch that starts the next transfer. -/
abbrev starts (i : grid0.Coords) : Prop := k0_cond2 i = 1#1
/-- The branch that waits for a transfer the point before started. -/
abbrev waits (i : grid0.Coords) : Prop := k0_cond4 i = 1#1

theorem atFirst_iff : ∀ t : Fin cfg0.N, atFirst (grid0.coords t) ↔ t.val = 0 :=
  (by decide +kernel : ∀ t : Fin grid0.N, atFirst (grid0.coords t) ↔ t.val = 0)
theorem starts_iff : ∀ t : Fin cfg0.N, starts (grid0.coords t) ↔ t.val < 12 :=
  (by decide +kernel : ∀ t : Fin grid0.N, starts (grid0.coords t) ↔ t.val < 12)
theorem waits_iff : ∀ t : Fin cfg0.N, waits (grid0.coords t) ↔ 0 < t.val :=
  (by decide +kernel : ∀ t : Fin grid0.N, waits (grid0.coords t) ↔ 0 < t.val)

/-! ## The buffers a point's body is handed -/

/-- Window 0's buffer at point `t`, a whole buffer. -/
abbrev bf0 (t : Fin cfg0.N) : Memref sig .tc .vmem S320x1024 .f32 := win0_0.stage (cfg0.slots t 0)
abbrev hb0 (t : Fin cfg0.N) : (bf0 t).IsWhole := hstage0_0 ((cfg0.slots t 0).cast nbuf0_0)
/-- Window 1's buffer at point `t`, a whole buffer. -/
abbrev bf1 (t : Fin cfg0.N) : Memref sig .tc .vmem S320x512 .bf16 := win0_1.stage (cfg0.slots t 1)
abbrev hb1 (t : Fin cfg0.N) : (bf1 t).IsWhole := hstage0_1 ((cfg0.slots t 1).cast nbuf0_1)
/-- Window 2's buffer at point `t`, a whole buffer. -/
abbrev bf2 (t : Fin cfg0.N) : Memref sig .tc .vmem S320x512 .bf16 := win0_2.stage (cfg0.slots t 2)
abbrev hb2 (t : Fin cfg0.N) : (bf2 t).IsWhole := hstage0_2 ((cfg0.slots t 2).cast nbuf0_2)
/-- Window 3's buffer at point `t`, a whole buffer. -/
abbrev bf3 (t : Fin cfg0.N) : Memref sig .tc .vmem S1024x1024 .bf16 := win0_3.stage (cfg0.slots t 3)
abbrev hb3 (t : Fin cfg0.N) : (bf3 t).IsWhole := hstage0_3 ((cfg0.slots t 3).cast nbuf0_3)
/-- Window 4's buffer at point `t`, a whole buffer. -/
abbrev bf4 (t : Fin cfg0.N) : Memref sig .tc .vmem S1x1024 .f32 := win0_4.stage (cfg0.slots t 4)
abbrev hb4 (t : Fin cfg0.N) : (bf4 t).IsWhole := hstage0_4 ((cfg0.slots t 4).cast nbuf0_4)
/-- Window 5's buffer at point `t`, a whole buffer. -/
abbrev bf5 (t : Fin cfg0.N) : Memref sig .tc .vmem S1024x5632 .bf16 := win0_5.stage (cfg0.slots t 5)
abbrev hb5 (t : Fin cfg0.N) : (bf5 t).IsWhole := hstage0_5 ((cfg0.slots t 5).cast nbuf0_5)
/-- Window 6's buffer at point `t`, a whole buffer. -/
abbrev bf6 (t : Fin cfg0.N) : Memref sig .tc .vmem S2816x1024 .bf16 := win0_6.stage (cfg0.slots t 6)
abbrev hb6 (t : Fin cfg0.N) : (bf6 t).IsWhole := hstage0_6 ((cfg0.slots t 6).cast nbuf0_6)
/-- Window 7's buffer at point `t`, a whole buffer. -/
abbrev bf7 (t : Fin cfg0.N) : Memref sig .tc .vmem S1x1024 .f32 := win0_7.stage (cfg0.slots t 7)
abbrev hb7 (t : Fin cfg0.N) : (bf7 t).IsWhole := hstage0_7 ((cfg0.slots t 7).cast nbuf0_7)
/-- Window 8's buffer at point `t`, a whole buffer. -/
abbrev bf8 (t : Fin cfg0.N) : Memref sig .tc .vmem S320x1024 .f32 := win0_8.stage (cfg0.slots t 8)
abbrev hb8 (t : Fin cfg0.N) : (bf8 t).IsWhole := hstage0_8 ((cfg0.slots t 8).cast nbuf0_8)
/-- Window 9's buffer at point `t`, a whole buffer. -/
abbrev bf9 (t : Fin cfg0.N) : Memref sig .tc .vmem S320x1024 .bf16 := win0_9.stage (cfg0.slots t 9)
abbrev hb9 (t : Fin cfg0.N) : (bf9 t).IsWhole := hstage0_9 ((cfg0.slots t 9).cast nbuf0_9)
/-- Window 10's buffer at point `t`, a whole buffer. -/
abbrev bf10 (t : Fin cfg0.N) : Memref sig .tc .vmem S320x1024 .bf16 := win0_10.stage (cfg0.slots t 10)
abbrev hb10 (t : Fin cfg0.N) : (bf10 t).IsWhole := hstage0_10 ((cfg0.slots t 10).cast nbuf0_10)
/-- Window 11's buffer at point `t`, a whole buffer. -/
abbrev bf11 (t : Fin cfg0.N) : Memref sig .tc .vmem S320x5632 .bf16 := win0_11.stage (cfg0.slots t 11)
abbrev hb11 (t : Fin cfg0.N) : (bf11 t).IsWhole := hstage0_11 ((cfg0.slots t 11).cast nbuf0_11)
/-- Window 12's buffer at point `t`, a whole buffer. -/
abbrev bf12 (t : Fin cfg0.N) : Memref sig .tc .vmem S320x2816 .bf16 := win0_12.stage (cfg0.slots t 12)
abbrev hb12 (t : Fin cfg0.N) : (bf12 t).IsWhole := hstage0_12 ((cfg0.slots t 12).cast nbuf0_12)
/-- Window 13's buffer at point `t`, a whole buffer. -/
abbrev bf13 (t : Fin cfg0.N) : Memref sig .tc .vmem S320x1024 .f32 := win0_13.stage (cfg0.slots t 13)
abbrev hb13 (t : Fin cfg0.N) : (bf13 t).IsWhole := hstage0_13 ((cfg0.slots t 13).cast nbuf0_13)
/-- Window 14's buffer at point `t`, a whole buffer. -/
abbrev bf14 (t : Fin cfg0.N) : Memref sig .tc .vmem S320x1024 .bf16 := win0_14.stage (cfg0.slots t 14)
abbrev hb14 (t : Fin cfg0.N) : (bf14 t).IsWhole := hstage0_14 ((cfg0.slots t 14).cast nbuf0_14)
/-- Window 15's buffer at point `t`, a whole buffer. -/
abbrev bf15 (t : Fin cfg0.N) : Memref sig .tc .vmem S1x1 .f32 := win0_15.stage (cfg0.slots t 15)
abbrev hb15 (t : Fin cfg0.N) : (bf15 t).IsWhole := hstage0_15 ((cfg0.slots t 15).cast nbuf0_15)
/-- Window 16's buffer at point `t`, a whole buffer. -/
abbrev bf16 (t : Fin cfg0.N) : Memref sig .tc .vmem S1x1024 .f32 := win0_16.stage (cfg0.slots t 16)
abbrev hb16 (t : Fin cfg0.N) : (bf16 t).IsWhole := hstage0_16 ((cfg0.slots t 16).cast nbuf0_16)
/-- The two-slot buffer of target rows. -/
abbrev scr : Memref sig .tc .vmem S2x320x1024 .f32 := Memref.whole cc0_scratch0
/-- The target array, which the kernel fetches from by itself. -/
abbrev tgt : Memref sig .tc .hbm S4096x1024 .f32 := Memref.whole main_arg7

/-- Reading back a list of stores through one fixed buffer of the shape, over contents nothing is known of. -/
abbrev back {s : Shape} {e : EltTy} (m : Memref sig .tc .vmem s e) (L : List (View.Piece (Elt F) s e)) : Vec F s e :=
  m.view.read (Elt F) (m.view.writes (Elt F) m.view.junk L)

/-- A memref's buffer on core `c`, and a whole buffer held at `f`. -/
abbrev Cont (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : Cont (F := F) c M) : sProp 𝕄 :=
  M.view.loc (c : Thread nD τ) ↦{fullShare} f

/-! ## The slots, the target's blocks and the counters -/

instance : NeZero grid0.N := ⟨by rw [N_0]; decide⟩
theorem slot_inb (s : Fin 2) : ∀ a, (![s.val, 0, 0] : Fin 3 → Nat) a + S1x320x1024.size a ≤ S2x320x1024.size a := by
  have := s.isLt; intro a; fin_cases a <;> simp <;> omega
theorem rows_inb (b : Fin 12) : ∀ a, (![320 * b.val + 256, 0] : Fin 2 → Nat) a + S320x1024.size a ≤ S4096x1024.size a := by
  have := b.isLt; intro a; fin_cases a <;> simp <;> omega
theorem cell_inb (s : Fin 2) : ∀ a, (![s.val] : Fin 1 → Nat) a + S1.size a ≤ S2.size a := by
  have := s.isLt; intro a; fin_cases a <;> simp <;> omega

/-- Slot `s`. -/
def slot (s : Fin 2) : Memref sig .tc .vmem S320x1024 .f32 :=
  (scr.slice (Rect.unit (s := S2x320x1024) ![s.val, 0, 0] S1x320x1024.size (slot_inb s)) (fun _ => rfl)).squeeze S320x1024 squeezes_S1x320x1024_S320x1024
/-- Target rows `320 b + 256` to `320 b + 576`: what point `b + 1` fetches whole. -/
def rows (b : Fin 12) : Memref sig .tc .hbm S320x1024 .f32 :=
  tgt.slice (Rect.unit (s := S4096x1024) ![320 * b.val + 256, 0] S320x1024.size (rows_inb b)) (fun _ => rfl)
/-- The counter of slot `s`. -/
def cnt (s : Fin 2) : DmaSems sig S_ := (cc0_scratch1.slice (Rect.unit (s := S2) ![s.val] S1.size (cell_inb s))).squeeze S_ squeezes_S1_S_
abbrev cntLoc (s : Fin 2) : SemLoc sig := SemLoc.dma (cnt s).sem
abbrev cntNo (j : Fin 2) : SemLoc sig := (![SemLoc.dma 27, SemLoc.dma 28] : Fin 2 → SemLoc sig) j
theorem cntLoc_eq : ∀ s, cntLoc s = cntNo s := by decide
theorem ownCounters : Pipeline.OwnSemFacts spec0 cntNo := by decide

section Pieces
variable (c : Dev nD) (W : Cont (F := F) c tgt)
/-- Each slot borrows from its own read share of the target. -/
abbrev part (s : Fin 2) : PosShare TreeShare := if s.val = 0 then fullShare.left else fullShare.right
/-- Slot `s` at contents `f`. -/
abbrev slotAt (s : Fin 2) (f : Cont (F := F) c (slot s)) : sProp 𝕄 := (slot s).view.loc (c : Thread nD τ) ↦[(slot s).view.set]{fullShare} f
/-- Slot `s`'s counter at zero. -/
abbrev cntAt (s : Fin 2) : sProp 𝕄 := semVal ((c : Thread nD τ), cntLoc s) 0
/-- Block `b` of slot `s`'s share of the target, the rest of that share, and the share whole. -/
abbrev rowsAt (s : Fin 2) (b : Fin 12) : sProp 𝕄 := (rows b).view.loc (c : Thread nD τ) ↦[(rows b).view.set]{part s} W
def restAt (s : Fin 2) (b : Fin 12) : sProp 𝕄 := ((c : Thread nD τ).loc main_arg7) ↦[Finset.univ \ (rows b).view.set]{part s} W
abbrev allAt (s : Fin 2) : sProp 𝕄 := ((c : Thread nD τ).loc main_arg7) ↦[Finset.univ]{part s} W
/-- Slot `s` once block `b` has landed in it. -/
abbrev filled (s : Fin 2) (b : Fin 12) (f : Cont (F := F) c (slot s)) : Cont (F := F) c (slot s) :=
  (slot s).view.writes (Elt F) f [⟨Rect.whole S320x1024, ReadAs.same.apply ((rows b).view.read (Elt F) W)⟩]
/-- Block `b` on its way into slot `s`. -/
abbrev flying (s : Fin 2) (b : Fin 12) (f : Cont (F := F) c (slot s)) : sProp 𝕄 :=
  Transfers.Flight countersEmb (c : Thread nD τ) (cntLoc s) default ((slot s).view.amount (cntLoc s))
    iprop(slotAt c s (filled c W s b f) ∗ rowsAt c W s b)
/-- What lies with a slot nothing is on its way into, -/
def idle (s : Fin 2) : sProp 𝕄 := iprop(cntAt (F := F) c s ∗ (∃ f, slotAt c s f) ∗ allAt c W s)
/-- and with one that block `b` is on its way into. -/
def busy (s : Fin 2) (b : Fin 12) : sProp 𝕄 := iprop((∃ f, flying c W s b f) ∗ restAt c W s b)

theorem split_rows (s : Fin 2) (b : Fin 12) : allAt (F := F) c W s ⊣⊢ iprop(rowsAt c W s b ∗ restAt c W s b) := by
  unfold restAt; exact pointsTo_split_subset (Finset.subset_univ _)
theorem split_shares : (held c tgt W : sProp 𝕄) ⊣⊢ iprop(allAt c W 0 ∗ allAt c W 1) :=
  pointsTo_share (PosShare.mem_left_op_right fullShare)
end Pieces

/-! ## The two slots are the buffer -/

abbrev slotSet (s : Fin 2) : Finset S2x320x1024.Idx := (Rect.unit (s := S2x320x1024) ![s.val, 0, 0] S1x320x1024.size (slot_inb s)).set
theorem slotSet_eq (s : Fin 2) : (slot s).view.set = slotSet s := by
  simp only [slot, Memref.view_squeeze, View.set_reshape]; exact View.set_slice_whole _ _
theorem slots_disjoint (s s' : Fin 2) (h : s ≠ s') : Disjoint (slotSet s) (slotSet s') :=
  Ring.lead_disjoint (s := S2x320x1024) (0 : Fin 3) 1 (fun s : Fin 2 => (![s.val, 0, 0] : Fin 3 → Nat)) S1x320x1024.size slot_inb (fun s => by simp) rfl s s' h
theorem slots_cover : Finset.univ.biUnion slotSet = Finset.univ :=
  Ring.lead_cover (s := S2x320x1024) (0 : Fin 3) 1 (fun s : Fin 2 => (![s.val, 0, 0] : Fin 3 → Nat)) S1x320x1024.size slot_inb (fun s => by simp)
    (fun s a ha => by fin_cases a <;> first | exact absurd rfl ha | rfl) rfl (fun a ha => by fin_cases a <;> first | exact absurd rfl ha | rfl) rfl
theorem slotAt_eq (c : Dev nD) (s : Fin 2) (f) : slotAt (F := F) c s f = (((c : Thread nD τ).loc cc0_scratch0) ↦[slotSet s]{fullShare} f : sProp 𝕄) := by
  unfold slotAt; rw [slotSet_eq]; rfl

/-- The launch's pieces are two idle slots, -/
theorem two_idle (c : Dev nD) (W : Cont (F := F) c tgt) :
    iprop((∃ d, owns (c : Thread nD τ) scr fullShare d) ∗ (semVal ((c : Thread nD τ), cntNo 0) 0 ∗ semVal ((c : Thread nD τ), cntNo 1) 0) ∗ held c tgt W)
      ⊢ (iprop(idle c W 0 ∗ idle c W 1) : sProp 𝕄) := by
  unfold idle
  simp only [cntAt, cntLoc_eq, scr, owns_whole]
  iintro ⟨HS, ⟨H0, H1⟩, HW⟩
  ihave HS' := (Ring.slots2_split (U := Pipeline.UD sig nD τ) (ℓ := (c : Thread nD τ).loc cc0_scratch0) (q := fullShare) slotSet slots_disjoint slots_cover
    (slotAt c 0) (slotAt c 1) (slotAt_eq c 0) (slotAt_eq c 1)) $$ HS
  icases HS' with ⟨HS0, HS1⟩
  ihave HW' := (split_shares (F := F) c W).1 $$ HW
  icases HW' with ⟨HW0, HW1⟩
  isplitl [H0 HS0 HW0]
  · isplitl [H0]; · iexact H0
    isplitl [HS0]; · iexact HS0
    iexact HW0
  · isplitl [H1]; · iexact H1
    isplitl [HS1]; · iexact HS1
    iexact HW1

/-- and two idle slots are the launch's pieces. -/
theorem of_two_idle (c : Dev nD) (W : Cont (F := F) c tgt) :
    (iprop(idle c W 0 ∗ idle c W 1) : sProp 𝕄)
      ⊢ iprop((∃ d, owns (c : Thread nD τ) scr fullShare d) ∗ (semVal ((c : Thread nD τ), cntNo 0) 0 ∗ semVal ((c : Thread nD τ), cntNo 1) 0) ∗ held c tgt W) := by
  unfold idle
  simp only [cntAt, cntLoc_eq, scr, owns_whole]
  iintro ⟨⟨H0, HS0, HW0⟩, H1, HS1, HW1⟩
  isplitl [HS0 HS1]
  · iapply (Ring.slots2_join (U := Pipeline.UD sig nD τ) (ℓ := (c : Thread nD τ).loc cc0_scratch0) (q := fullShare) slotSet slots_disjoint slots_cover
      (slotAt c 0) (slotAt c 1) (slotAt_eq c 0) (slotAt_eq c 1))
    isplitl [HS0]; · iexact HS0
    iexact HS1
  isplitl [H0 H1]
  · isplitl [H0]; · iexact H0
    iexact H1
  iapply (split_shares (F := F) c W).2
  isplitl [HW0]; · iexact HW0
  iexact HW1

/-! ## The body's own spellings of slots, blocks and counters -/

section Spellings
omit [FloatOps F]
/-- The slot and the counter of a point, and of the next. -/
abbrev par (n : ℕ) : Fin 2 := Ring.sl 2 n
/-- The block fetched for point `n + 1`. -/
abbrev blkNo (n : ℕ) : Fin 12 := Ring.bk 12 n

theorem off_cnt0 : (![0] : Fin 1 → Nat) = ![(0 : Fin 2).val] := rfl
@[sl_canon] theorem spell_cnt0 :
    (cc0_scratch1.slice (Rect.unit (s := S2) ![0] S1.size inb_S2_S1_0)).squeeze S_ squeezes_S1_S_ = cnt 0 := rfl
set_option synthInstance.maxSize 4096 in
theorem off_slotN : ∀ t : Fin grid0.N, k0_off2 (grid0.coords t) = ![(par (t.val + 1)).val, 0, 0] := by decide +kernel
@[sl_canon] theorem spell_slotN (t : Fin grid0.N) (h : starts (grid0.coords t)) :
    (scr.slice (Rect.unit (s := S2x320x1024) (k0_off2 (grid0.coords t)) S1x320x1024.size (k0_off2_inb (grid0.coords t) h)) (fun _ => rfl)).squeeze S320x1024 squeezes_S1x320x1024_S320x1024 = slot (par (t.val + 1)) :=
  congrArg (fun M : Memref sig .tc .vmem S1x320x1024 .f32 => M.squeeze S320x1024 squeezes_S1x320x1024_S320x1024) (Memref.slice_unit_congr _ (off_slotN t) _ _ (fun _ => rfl) (fun _ => rfl))
set_option synthInstance.maxSize 4096 in
theorem off_cntN : ∀ t : Fin grid0.N, k0_off1 (grid0.coords t) = ![(par (t.val + 1)).val] := by decide +kernel
@[sl_canon] theorem spell_cntN (t : Fin grid0.N) (h : starts (grid0.coords t)) :
    (cc0_scratch1.slice (Rect.unit (s := S2) (k0_off1 (grid0.coords t)) S1.size (k0_off1_inb (grid0.coords t) h))).squeeze S_ squeezes_S1_S_ = cnt (par (t.val + 1)) :=
  congrArg (fun A : DmaSems sig S1 => A.squeeze S_ squeezes_S1_S_) (SemArray.slice_unit_congr _ (off_cntN t) _ _)
set_option synthInstance.maxSize 4096 in
theorem off_rowsN : ∀ t : Fin grid0.N, starts (grid0.coords t) → k0_off3 (grid0.coords t) = ![320 * (blkNo t.val).val + 256, 0] := by decide +kernel
@[sl_canon] theorem spell_rowsN (t : Fin grid0.N) (h : starts (grid0.coords t)) :
    tgt.slice (Rect.unit (s := S4096x1024) (k0_off3 (grid0.coords t)) S320x1024.size (k0_off3_inb (grid0.coords t) h)) (fun _ => rfl) = rows (blkNo t.val) :=
  Memref.slice_unit_congr _ (off_rowsN t h) _ _ (fun _ => rfl) (fun _ => rfl)
set_option synthInstance.maxSize 4096 in
theorem off_slot : ∀ t : Fin grid0.N, k0_off5 (grid0.coords t) = ![(par t.val).val, 0, 0] := by decide +kernel
@[sl_canon] theorem spell_slot (t : Fin grid0.N) (h : waits (grid0.coords t)) :
    (scr.slice (Rect.unit (s := S2x320x1024) (k0_off5 (grid0.coords t)) S1x320x1024.size (k0_off5_inb (grid0.coords t) h)) (fun _ => rfl)).squeeze S320x1024 squeezes_S1x320x1024_S320x1024 = slot (par t.val) :=
  congrArg (fun M : Memref sig .tc .vmem S1x320x1024 .f32 => M.squeeze S320x1024 squeezes_S1x320x1024_S320x1024) (Memref.slice_unit_congr _ (off_slot t) _ _ (fun _ => rfl) (fun _ => rfl))
set_option synthInstance.maxSize 4096 in
theorem off_cnt : ∀ t : Fin grid0.N, k0_off4 (grid0.coords t) = ![(par t.val).val] := by decide +kernel
@[sl_canon] theorem spell_cnt (t : Fin grid0.N) (h : waits (grid0.coords t)) :
    (cc0_scratch1.slice (Rect.unit (s := S2) (k0_off4 (grid0.coords t)) S1.size (k0_off4_inb (grid0.coords t) h))).squeeze S_ squeezes_S1_S_ = cnt (par t.val) :=
  congrArg (fun A : DmaSems sig S1 => A.squeeze S_ squeezes_S1_S_) (SemArray.slice_unit_congr _ (off_cnt t) _ _)
set_option synthInstance.maxSize 4096 in
theorem off_rows : ∀ t : Fin grid0.N, waits (grid0.coords t) → k0_off6 (grid0.coords t) = ![320 * (blkNo (t.val - 1)).val + 256, 0] := by decide +kernel
@[sl_canon] theorem spell_rows (t : Fin grid0.N) (h : waits (grid0.coords t)) :
    tgt.slice (Rect.unit (s := S4096x1024) (k0_off6 (grid0.coords t)) S320x1024.size (k0_off6_inb (grid0.coords t) h)) (fun _ => rfl) = rows (blkNo (t.val - 1)) :=
  Memref.slice_unit_congr _ (off_rows t h) _ _ (fun _ => rfl) (fun _ => rfl)
set_option synthInstance.maxSize 4096 in
theorem off_load : ∀ t : Fin grid0.N, k0_off7 (grid0.coords t) = ![(par t.val).val, 0, 0] := by decide +kernel
instance (priority := high) closedOff_load (t : Fin grid0.N) : ClosedOff (k0_off7 (grid0.coords t)) := ⟨![(par t.val).val, 0, 0], off_load t⟩
end Spellings

end Cert.FwdKernelIdeal.Fw

end
-- ==== Proof.FwdHead.lean ====
/- The first point fills slot 0 in two pieces, its first 64 rows with zeros and the rows below with the target's first
   256, and reads it whole: the two pieces and what they hold together. -/
module

public import proofs.«01_k».proof.Proof.FwdSetup
public import Idealize.ShloMosaic.Lib.ValueIdxCore
public import Idealize.ShloMosaic.Lib.ValueLayout
public import Idealize.ShloMosaic.Lib.VecWindow

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

open Idealize.ShloMosaic.ValueIdx

/-- The target's first 256 rows, which the first point fetches, -/
def headRows : Memref sig .tc .hbm S256x1024 .f32 :=
  tgt.slice (Rect.unit (s := S4096x1024) ![0, 0] S256x1024.size inb_S4096x1024_S256x1024_0_0) (fun _ => rfl)
@[sl_canon] theorem spell_head :
    tgt.slice (Rect.unit (s := S4096x1024) ![0, 0] S256x1024.size inb_S4096x1024_S256x1024_0_0) (fun _ => rfl) = headRows := rfl
/-- the rows of slot 0 below its first 64, -/
def below : Memref sig .tc .vmem S256x1024 .f32 :=
  (scr.slice (Rect.unit (s := S2x320x1024) ![0, 64, 0] S1x256x1024.size inb_S2x320x1024_S1x256x1024_0_64_0) (fun _ => rfl)).squeeze S256x1024 squeezes_S1x256x1024_S256x1024
@[sl_canon] theorem spell_below :
    (scr.slice (Rect.unit (s := S2x320x1024) ![0, 64, 0] S1x256x1024.size inb_S2x320x1024_S1x256x1024_0_64_0) (fun _ => rfl)).squeeze S256x1024 squeezes_S1x256x1024_S256x1024 = below := rfl
/-- and those 64. -/
def top : Memref sig .tc .vmem S1x64x1024 .f32 :=
  scr.slice (Rect.unit (s := S2x320x1024) ![0, 0, 0] S1x64x1024.size inb_S2x320x1024_S1x64x1024_0_0_0) (fun _ => rfl)
@[sl_canon] theorem spell_top :
    scr.slice (Rect.unit (s := S2x320x1024) ![0, 0, 0] S1x64x1024.size inb_S2x320x1024_S1x64x1024_0_0_0) (fun _ => rfl) = top := rfl

/-- A slot's share of the target, the head rows apart. -/
def headAt (c : Dev nD) (W : Cont (F := F) c tgt) (s : Fin 2) : sProp 𝕄 := headRows.view.loc (c : Thread nD τ) ↦[headRows.view.set]{part s} W
def pastHead (c : Dev nD) (W : Cont (F := F) c tgt) (s : Fin 2) : sProp 𝕄 := ((c : Thread nD τ).loc main_arg7) ↦[Finset.univ \ headRows.view.set]{part s} W
theorem split_head (c : Dev nD) (W : Cont (F := F) c tgt) (s : Fin 2) : allAt (F := F) c W s ⊣⊢ iprop(headAt c W s ∗ pastHead c W s) :=
  pointsTo_split_subset (Finset.subset_univ _)

/-- A slot once its 320 rows hold `P`, whatever lay in it. -/
abbrev landed (c : Dev nD) (s : Fin 2) (P : Vec F S320x1024 .f32) : Cont (F := F) c (slot s) :=
  (slot s).view.writes (Elt F) (slot s).view.junk [⟨Rect.whole S320x1024, P⟩]
/-- What slot 0 holds at the first point. -/
def firstRows {c : Dev nD} (W : Cont (F := F) c tgt) : Vec F S320x1024 .f32 := fun y =>
  if h : (y 0).val < 64 then k0_pay3 (F := F) (ix3 (n0 := 1) (n1 := 64) (n2 := 1024) 0 ⟨(y 0).val, h⟩ (y 1))
  else headRows.view.read (Elt F) W (ix2 (n0 := 256) (n1 := 1024) ⟨(y 0).val - 64, by have := (y 0).isLt; simp at this; omega⟩ (y 1))

abbrev topRect : Rect S2x320x1024 := Rect.unit (s := S2x320x1024) ![0, 0, 0] S1x64x1024.size inb_S2x320x1024_S1x64x1024_0_0_0
abbrev belowRect : Rect S2x320x1024 := Rect.unit (s := S2x320x1024) ![0, 64, 0] S1x256x1024.size inb_S2x320x1024_S1x256x1024_0_64_0
theorem top_set : top.view.set = topRect.set := View.set_slice_whole _ _
theorem below_set : below.view.set = belowRect.set := by
  simp only [below, Memref.view_squeeze, View.set_reshape]; exact View.set_slice_whole _ _
theorem mem_top (i : S2x320x1024.Idx) : i ∈ topRect.set ↔ (i 0).val = 0 ∧ (i 1).val < 64 := by
  have h0 := (i 0).isLt; have h1 := (i 1).isLt; have h2 := (i 2).isLt; simp at h0 h1 h2
  rw [Rect.mem_set_unit]
  constructor
  · intro h; have a := h 0; have b := h 1; simp at a b; omega
  · rintro ⟨a, b⟩ k; fin_cases k <;> simp <;> omega
theorem mem_below (i : S2x320x1024.Idx) : i ∈ belowRect.set ↔ (i 0).val = 0 ∧ 64 ≤ (i 1).val := by
  have h0 := (i 0).isLt; have h1 := (i 1).isLt; have h2 := (i 2).isLt; simp at h0 h1 h2
  rw [Rect.mem_set_unit]
  constructor
  · intro h; have a := h 0; have b := h 1; simp at a b; omega
  · rintro ⟨a, b⟩ k; fin_cases k <;> simp <;> omega
theorem mem_slot (i : S2x320x1024.Idx) : i ∈ slotSet 0 ↔ (i 0).val = 0 := by
  have h0 := (i 0).isLt; have h1 := (i 1).isLt; have h2 := (i 2).isLt; simp at h0 h1 h2
  rw [Rect.mem_set_unit]
  constructor
  · intro h; have a := h 0; simp at a; omega
  · intro a k; fin_cases k <;> simp <;> omega
theorem two_parts : (slot 0).view.set = below.view.set ∪ top.view.set := by
  rw [slotSet_eq, below_set, top_set]
  have : (slotSet 0 : Finset S2x320x1024.Idx) = belowRect.set ∪ topRect.set := by
    ext i; rw [Finset.mem_union, mem_top, mem_below, mem_slot]; omega
  exact this
theorem parts_disjoint : Disjoint below.view.set top.view.set := by
  rw [below_set, top_set]
  have : Disjoint (belowRect.set : Finset S2x320x1024.Idx) topRect.set := by
    rw [Finset.disjoint_left]; intro i h; rw [mem_below] at h; rw [mem_top]; omega
  exact this

theorem split_top (c : Dev nD) (s : Fin 2) (hs : s = 0) (f : Cont (F := F) c (slot s)) : slotAt c s f ⊢
    iprop((below.view.loc (c : Thread nD τ) ↦[below.view.set]{fullShare} f) ∗ (top.view.loc (c : Thread nD τ) ↦[top.view.set]{fullShare} f)) := by
  subst hs; unfold slotAt; rw [two_parts]; exact (pointsTo_union parts_disjoint).1

/-- Where the slot's views put their rows in the buffer. -/
theorem emb_slot (s : Fin 2) (y : S320x1024.Idx) : (slot s).view.emb y = (ix3 s (y 0) (y 1) : S2x320x1024.Idx) := by
  obtain ⟨a, b, rfl⟩ : ∃ (a : Fin 320) (b : Fin 1024), y = (ix2 a b : S320x1024.Idx) := ⟨y 0, y 1, eq_ix2 (n0 := 320) (n1 := 1024) y⟩
  show (Rect.unit (s := S2x320x1024) ![s.val, 0, 0] S1x320x1024.size (slot_inb s)).emb (Shape.reshapeEquiv squeezes_S1x320x1024_S320x1024.numel_eq (ix2 a b)) = _
  rw [show Shape.reshapeEquiv squeezes_S1x320x1024_S320x1024.numel_eq (ix2 a b) = (ix3 0 a b : S1x320x1024.Idx) from reshapeEquiv_ix2_1ab _ a b]
  funext k; fin_cases k <;> apply Fin.ext <;> simp [Rect.unit, Rect.emb]
theorem emb_below (y : S256x1024.Idx) : below.view.emb y
    = (ix3 (n0 := 2) (n1 := 320) (n2 := 1024) 0 ⟨(y 0).val + 64, by have := (y 0).isLt; simp at this; omega⟩ (y 1) : S2x320x1024.Idx) := by
  obtain ⟨a, b, rfl⟩ : ∃ (a : Fin 256) (b : Fin 1024), y = (ix2 a b : S256x1024.Idx) := ⟨y 0, y 1, eq_ix2 (n0 := 256) (n1 := 1024) y⟩
  show belowRect.emb (Shape.reshapeEquiv squeezes_S1x256x1024_S256x1024.numel_eq (ix2 a b)) = _
  rw [show Shape.reshapeEquiv squeezes_S1x256x1024_S256x1024.numel_eq (ix2 a b) = (ix3 0 a b : S1x256x1024.Idx) from reshapeEquiv_ix2_1ab _ a b]
  funext k; fin_cases k <;> apply Fin.ext <;> first | (simp [Rect.unit, Rect.emb]; done) | (show 64 + 1 * a.val = a.val + 64; omega)
theorem emb_top (y : S1x64x1024.Idx) : top.view.emb y
    = (ix3 (n0 := 2) (n1 := 320) (n2 := 1024) 0 ⟨(y 1).val, by have := (y 1).isLt; simp at this; omega⟩ (y 2) : S2x320x1024.Idx) := by
  show topRect.emb y = _
  have h0 : (y 0).val = 0 := by have := (y 0).isLt; simp at this; omega
  funext k; fin_cases k <;> apply Fin.ext <;> simp [Rect.unit, Rect.emb, h0]

theorem of_read {sp : Space} {S : Shape} (M : Memref sig .tc sp S .f32) (f : M.view.ty.Contents (Elt F)) (y : S.Idx) (v : F .f32)
    (h : M.view.read (Elt F) f y = v) : HEq (f (M.view.emb y)) v :=
  (cast_heq _ _).symm.trans (heq_of_eq h)
theorem landed_at (c : Dev nD) (s : Fin 2) (P : Vec F S320x1024 .f32) (y : S320x1024.Idx) :
    HEq (landed c s P ((slot s).view.emb y)) (P y) :=
  of_read (slot s) _ y _ (congrFun (View.read_writes_whole (Val := Elt F) (slot s).view (slot s).view.junk P) y)

/-- The two pieces, at contents of which the reads are known, are the slot at what it is to hold. -/
theorem join_top (c : Dev nD) (W : Cont (F := F) c tgt) (s : Fin 2) (hs : s = 0) (a : Cont (F := F) c below) (b : Cont (F := F) c top)
    (ha : below.view.read (Elt F) a = headRows.view.read (Elt F) W) (hb : top.view.read (Elt F) b = k0_pay3) :
    iprop((below.view.loc (c : Thread nD τ) ↦[below.view.set]{fullShare} a) ∗ (top.view.loc (c : Thread nD τ) ↦[top.view.set]{fullShare} b))
      ⊢ (slotAt c s (landed c s (firstRows W)) : sProp 𝕄) := by
  subst hs
  refine (pointsTo_join parts_disjoint).trans ?_
  unfold slotAt; rw [two_parts]
  refine (pointsTo_congr fun i hi => ?_).le
  by_cases ht : i ∈ top.view.set
  · refine Eq.trans (if_pos ht) ?_
    obtain ⟨y, -, rfl⟩ := Finset.mem_map.mp ht
    have h1 : (y 1).val < 64 := by have := (y 1).isLt; simp at this; omega
    have e : top.view.emb y = (slot 0).view.emb (ix2 (n0 := 320) (n1 := 1024) ⟨(y 1).val, by omega⟩ (y 2) : S320x1024.Idx) :=
      (emb_top y).trans (emb_slot 0 (ix2 (n0 := 320) (n1 := 1024) ⟨(y 1).val, by omega⟩ (y 2) : S320x1024.Idx)).symm
    have hr := landed_at (F := F) c 0 (firstRows W) (ix2 (n0 := 320) (n1 := 1024) ⟨(y 1).val, by omega⟩ (y 2) : S320x1024.Idx)
    have hp : firstRows W (ix2 (n0 := 320) (n1 := 1024) ⟨(y 1).val, by omega⟩ (y 2) : S320x1024.Idx) = k0_pay3 (F := F) y := by
      unfold firstRows
      refine (dif_pos (show ((ix2 (n0 := 320) (n1 := 1024) ⟨(y 1).val, by omega⟩ (y 2) : S320x1024.Idx) 0).val < 64 from h1)).trans (congrArg k0_pay3 ?_)
      funext k; fin_cases k <;> apply Fin.ext
      · have := (y 0).isLt; simp at this ⊢; omega
      · rfl
      · rfl
    have hl : HEq (landed c 0 (firstRows W) (top.view.emb y)) (k0_pay3 (F := F) y) := by
      rw [show (top.view.emb y : S2x320x1024.Idx) = _ from e]; exact hr.trans (heq_of_eq hp)
    exact eq_of_heq ((of_read top b y _ (congrFun hb y)).trans hl.symm)
  · refine Eq.trans (if_neg ht) ?_
    have hb' := (Finset.mem_union.mp hi).resolve_right ht
    obtain ⟨y, -, rfl⟩ := Finset.mem_map.mp hb'
    have h1 : (y 0).val < 256 := by have := (y 0).isLt; simp at this; omega
    have e : below.view.emb y = (slot 0).view.emb (ix2 (n0 := 320) (n1 := 1024) ⟨(y 0).val + 64, by omega⟩ (y 1) : S320x1024.Idx) :=
      (emb_below y).trans (emb_slot 0 (ix2 (n0 := 320) (n1 := 1024) ⟨(y 0).val + 64, by omega⟩ (y 1) : S320x1024.Idx)).symm
    have hr := landed_at (F := F) c 0 (firstRows W) (ix2 (n0 := 320) (n1 := 1024) ⟨(y 0).val + 64, by omega⟩ (y 1) : S320x1024.Idx)
    have hp : firstRows W (ix2 (n0 := 320) (n1 := 1024) ⟨(y 0).val + 64, by omega⟩ (y 1) : S320x1024.Idx) = headRows.view.read (Elt F) W y := by
      unfold firstRows
      refine (dif_neg (show ¬((ix2 (n0 := 320) (n1 := 1024) ⟨(y 0).val + 64, by omega⟩ (y 1) : S320x1024.Idx) 0).val < 64 from by simp)).trans (congrArg _ ?_)
      funext k; fin_cases k <;> apply Fin.ext
      · simp
      · rfl
    have hl : HEq (landed c 0 (firstRows W) (below.view.emb y)) (headRows.view.read (Elt F) W y) := by
      rw [show (below.view.emb y : S2x320x1024.Idx) = _ from e]; exact hr.trans (heq_of_eq hp)
    exact eq_of_heq ((of_read below a y _ (congrFun ha y)).trans hl.symm)

end Cert.FwdKernelIdeal.Fw

end
-- ==== Proof.FwdRes.lean ====
/- What one point of the forward call leaves in its nine outputs' buffers, as a function of the blocks it is handed, the
   target rows in its slot and the two running totals. -/
module

public import proofs.«01_k».proof.Proof.FwdHead

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

open Idealize.ShloMosaic.ValueIdx

/-- The two halves of a block's rows side by side. -/
def beside (a b : Vec F S320x512 .bf16) : Vec F S320x1024 .bf16 := fun y =>
  if h : (y 1).val < 512 then a (ix2 (n0 := 320) (n1 := 512) (y 0) ⟨(y 1).val, h⟩)
  else b (ix2 (n0 := 320) (n1 := 512) (y 0) ⟨(y 1).val - 512, by have := (y 1).isLt; simp at this; omega⟩)
theorem read_beside {sp : Space} (v : View sig .tc sp S320x1024 .bf16) (f : v.ty.Contents (Elt F)) (a b : Vec F S320x512 .bf16) :
    v.read (Elt F) (v.writes (Elt F) f [⟨Rect.unit ![0, 512] S320x512.size inb_S320x1024_S320x512_0_512, b⟩,
      ⟨Rect.unit ![0, 0] S320x512.size inb_S320x1024_S320x512_0_0, a⟩]) = beside a b := by
  funext y
  have h1 := (y 1).isLt; simp at h1
  unfold beside
  by_cases h : (y 1).val < 512
  · rw [dif_pos h]
    refine (View.read_writes_cons_unit_of_not_mem v f _ b _ y rfl (1 : Fin 2) (Or.inl ?_)).trans ?_
    · simpa using h
    · refine View.read_writes_cons_unit_of_mem v f _ a [] y (ix2 (n0 := 320) (n1 := 512) (y 0) ⟨(y 1).val, h⟩) rfl fun k => ?_
      fin_cases k <;> simp
  · rw [dif_neg h]
    refine View.read_writes_cons_unit_of_mem v f _ b _ y (ix2 (n0 := 320) (n1 := 512) (y 0) ⟨(y 1).val - 512, _⟩) rfl fun k => ?_
    fin_cases k <;> simp <;> omega

/-- The load of a point's slot, its 320 rows holding `P`. -/
def loaded (P : Vec F S320x1024 .f32) : Vec F S1x320x1024 .f32 := fun z => P (ix2 (n0 := 320) (n1 := 1024) (z 1) (z 2))
theorem load_of {sp : Space} {S : Shape} (M : Memref sig .tc sp S .f32) (r : Rect S) (f : M.view.ty.Contents (Elt F)) (z : r.shape.Idx)
    (j : M.view.ty.Idx) (v : F .f32) (e : M.view.emb (r.emb z) = j) (h : HEq (f j) v) : View.readAt (Elt F) M.view r.toLoadRect f z = v := by
  subst e; exact eq_of_heq ((cast_heq _ _).trans h)
theorem load_landed (c : Dev nD) (t : Fin cfg0.N) (P : Vec F S320x1024 .f32) :
    View.readAt (Elt F) scr.view (Rect.unit (s := S2x320x1024) (k0_off7 (grid0.coords t)) S1x320x1024.size (k0_off7_inb (grid0.coords t))).toLoadRect
      (landed c (par t.val) P) = loaded P := by
  funext z
  have h0 : (z 0).val = 0 := by have := (z 0).isLt; simp at this; omega
  have e : (Rect.unit (s := S2x320x1024) (k0_off7 (grid0.coords t)) S1x320x1024.size (k0_off7_inb (grid0.coords t))).emb z
      = (slot (par t.val)).view.emb (ix2 (n0 := 320) (n1 := 1024) (z 1) (z 2) : S320x1024.Idx) := by
    refine Eq.trans ?_ (emb_slot (par t.val) (ix2 (n0 := 320) (n1 := 1024) (z 1) (z 2) : S320x1024.Idx)).symm
    have ho := off_load t
    funext k; apply Fin.ext
    refine Eq.trans (b := k0_off7 (grid0.coords t) k + 1 * (z k).val) rfl ?_
    refine (congrArg (· + 1 * (z k).val) (congrFun ho k)).trans ?_
    fin_cases k
    · simp [h0]
    · simp
    · simp
  have hl := landed_at (F := F) c (par t.val) P (ix2 (n0 := 320) (n1 := 1024) (z 1) (z 2) : S320x1024.Idx)
  exact load_of scr _ _ _ _ _ e hl

/-- What a point leaves in the nine outputs' buffers. -/
structure Res (F : FTy → Type) where
  h1 : Vec F S320x1024 .f32
  v : Vec F S320x1024 .bf16
  y : Vec F S320x1024 .bf16
  gu : Vec F S320x5632 .bf16
  act : Vec F S320x2816 .bf16
  dh : Vec F S320x1024 .f32
  dhb : Vec F S320x1024 .bf16
  loss : Vec F S1x1 .f32
  gg : Vec F S1x1024 .f32

section
variable (i : BitVec 32) (x0 : Vec F S320x1024 .f32) (x1 x2 : Vec F S320x512 .bf16) (x3 : Vec F S1024x1024 .bf16) (x4 : Vec F S1x1024 .f32)
  (x5 : Vec F S1024x5632 .bf16) (x6 : Vec F S2816x1024 .bf16) (x7 : Vec F S1x1024 .f32) (P : Vec F S320x1024 .f32)
  (q : Vec F S1x1 .f32) (r : Vec F S1x1024 .f32)
/-- The rows the output projection is given. -/
abbrev ys : Vec F S320x1024 .bf16 := beside (k0_pay4 x1) (k0_pay5 x2)
/-- The rows' error: what the target differs by, over the number of entries. -/
abbrev err : FVec F S320x1024 .f32 :=
  k0_pay16 i (k0_pay6 x0 (ys x1 x2) x3) (k0_pay8 x0 (ys x1 x2) x3 x4 x5) (k0_pay10 x0 (ys x1 x2) x3 x4 x5) k0_pay11 x6 x7 (loaded P)
/-- The final rows' inverse scales, and the rows scaled. -/
abbrev invs : FVec F S320x1 .f32 :=
  k0_pay14 (k0_pay6 x0 (ys x1 x2) x3) (k0_pay8 x0 (ys x1 x2) x3 x4 x5) (k0_pay10 x0 (ys x1 x2) x3 x4 x5) k0_pay11 x6
abbrev scaled : FVec F S320x1024 .f32 :=
  k0_pay15 (k0_pay6 x0 (ys x1 x2) x3) (k0_pay8 x0 (ys x1 x2) x3 x4 x5) (k0_pay10 x0 (ys x1 x2) x3 x4 x5) k0_pay11 x6
/-- One point's results, from the running totals `q` and `r`. -/
def res : Res F where
  h1 := k0_pay6 x0 (ys x1 x2) x3
  v := k0_pay7 x0 (ys x1 x2) x3 x4
  y := ys x1 x2
  gu := k0_pay9 x0 (ys x1 x2) x3 x4 x5
  act := k0_pay12 (k0_pay8 x0 (ys x1 x2) x3 x4 x5) (k0_pay10 x0 (ys x1 x2) x3 x4 x5) k0_pay11
  dh := k0_pay20 (invs x0 x1 x2 x3 x4 x5 x6) (scaled x0 x1 x2 x3 x4 x5 x6) x7 (err i x0 x1 x2 x3 x4 x5 x6 x7 P)
  dhb := k0_pay21 (invs x0 x1 x2 x3 x4 x5 x6) (scaled x0 x1 x2 x3 x4 x5 x6) x7 (err i x0 x1 x2 x3 x4 x5 x6 x7 P)
  loss := k0_pay17 (err i x0 x1 x2 x3 x4 x5 x6 x7 P) q
  gg := k0_pay19 (scaled x0 x1 x2 x3 x4 x5 x6) (err i x0 x1 x2 x3 x4 x5 x6 x7 P) r
end

/-- Slot 0, however it is spelled. -/
theorem slot_first (c : Dev nD) (s : Fin 2) (hs : s = 0) (f : Cont (F := F) c (slot s)) : slotAt c s f ⊢ (iprop(∃ g, slotAt c 0 g) : sProp 𝕄) := by
  subst hs; iintro H; iexists f; iexact H

/-- A whole buffer held at what reads `x`, loaded whole. -/
theorem load_whole {sp : Space} {S : Shape} {e : EltTy} {M : Memref sig .tc sp S e} (h : M.IsWhole) (x : Vec F S e) {off : Fin S.rank → ℕ}
    (inb : ∀ a, off a + S.size a ≤ S.size a) : View.readAt (Elt F) M.view (Rect.unit off S.size inb).toLoadRect (h.unread x) = x :=
  (View.readAt_full _ _ _).trans (h.read_unread x)
theorem load_beside {sp : Space} (v : View sig .tc sp S320x1024 .bf16) (a b : Vec F S320x512 .bf16) :
    v.readCov [⟨Rect.unit ![0, 512] S320x512.size inb_S320x1024_S320x512_0_512, b⟩,
      ⟨Rect.unit ![0, 0] S320x512.size inb_S320x1024_S320x512_0_0, a⟩] (Rect.unit ![0, 0] S320x1024.size inb_S320x1024_S320x1024_0_0).toLoadRect = beside a b :=
  (View.readAt_full _ _ _).trans (read_beside v _ a b)

end Cert.FwdKernelIdeal.Fw

end
-- ==== Proof.FwdRunA.lean ====
/- The run of the forward call's body at the first point. -/
module

public import proofs.«01_k».proof.Proof.FwdRes

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

set_option maxHeartbeats 1600000 in
/-- The body at the first point, on whole buffers: from the inputs at their contents, the slots as the
    point finds them and the other outputs at anything, it runs to the continuation with the inputs as they were,
    every output at its result and the slots as the next point finds them. -/
theorem runA (c : Dev nD) (t : Fin cfg0.N) (arg1 : Memref sig .tc .vmem S320x1024 .f32) (harg1 : arg1.IsWhole) (arg2 : Memref sig .tc .vmem S320x512 .bf16) (harg2 : arg2.IsWhole) (arg3 : Memref sig .tc .vmem S320x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg10 : Memref sig .tc .vmem S320x1024 .f32) (harg10 : arg10.IsWhole) (arg11 : Memref sig .tc .vmem S320x1024 .bf16) (harg11 : arg11.IsWhole) (arg12 : Memref sig .tc .vmem S320x1024 .bf16) (harg12 : arg12.IsWhole) (arg13 : Memref sig .tc .vmem S320x5632 .bf16) (harg13 : arg13.IsWhole) (arg14 : Memref sig .tc .vmem S320x2816 .bf16) (harg14 : arg14.IsWhole) (arg15 : Memref sig .tc .vmem S320x1024 .f32) (harg15 : arg15.IsWhole) (arg16 : Memref sig .tc .vmem S320x1024 .bf16) (harg16 : arg16.IsWhole) (arg17 : Memref sig .tc .vmem S1x1 .f32) (harg17 : arg17.IsWhole) (arg18 : Memref sig .tc .vmem S1x1024 .f32) (harg18 : arg18.IsWhole)
    (hF : atFirst (grid0.coords t)) (hS : starts (grid0.coords t)) (hW : ¬waits (grid0.coords t)) (ht : t.val = 0)
    (x0 : Vec F S320x1024 .f32) (x1 : Vec F S320x512 .bf16) (x2 : Vec F S320x512 .bf16) (x3 : Vec F S1024x1024 .bf16) (x4 : Vec F S1x1024 .f32) (x5 : Vec F S1024x5632 .bf16) (x6 : Vec F S2816x1024 .bf16) (x7 : Vec F S1x1024 .f32) (W : Cont (F := F) c tgt) :
      ∀ (w : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ idle c W 0 ∗ idle c W (par (t.val + 1)) ∗ owes (c : Thread nD τ) 0 w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (res (BitVec.ofNat 32 (grid0.coords t 0).val) x0 x1 x2 x3 x4 x5 x6 x7 (firstRows W) k0_pay1 k0_pay2).h1 ∗ owns (c : Thread nD τ) arg11 fullShare (res (BitVec.ofNat 32 (grid0.coords t 0).val) x0 x1 x2 x3 x4 x5 x6 x7 (firstRows W) k0_pay1 k0_pay2).v ∗ owns (c : Thread nD τ) arg12 fullShare (res (BitVec.ofNat 32 (grid0.coords t 0).val) x0 x1 x2 x3 x4 x5 x6 x7 (firstRows W) k0_pay1 k0_pay2).y ∗ owns (c : Thread nD τ) arg13 fullShare (res (BitVec.ofNat 32 (grid0.coords t 0).val) x0 x1 x2 x3 x4 x5 x6 x7 (firstRows W) k0_pay1 k0_pay2).gu ∗ owns (c : Thread nD τ) arg14 fullShare (res (BitVec.ofNat 32 (grid0.coords t 0).val) x0 x1 x2 x3 x4 x5 x6 x7 (firstRows W) k0_pay1 k0_pay2).act ∗ owns (c : Thread nD τ) arg15 fullShare (res (BitVec.ofNat 32 (grid0.coords t 0).val) x0 x1 x2 x3 x4 x5 x6 x7 (firstRows W) k0_pay1 k0_pay2).dh ∗ owns (c : Thread nD τ) arg16 fullShare (res (BitVec.ofNat 32 (grid0.coords t 0).val) x0 x1 x2 x3 x4 x5 x6 x7 (firstRows W) k0_pay1 k0_pay2).dhb ∗ owns (c : Thread nD τ) arg17 fullShare (res (BitVec.ofNat 32 (grid0.coords t 0).val) x0 x1 x2 x3 x4 x5 x6 x7 (firstRows W) k0_pay1 k0_pay2).loss ∗ owns (c : Thread nD τ) arg18 fullShare (res (BitVec.ofNat 32 (grid0.coords t 0).val) x0 x1 x2 x3 x4 x5 x6 x7 (firstRows W) k0_pay1 k0_pay2).gg ∗ idle c W 0 ∗ busy c W (par (t.val + 1)) (blkNo t.val) ∗ (∃ w', owes (c : Thread nD τ) 0 w')) -∗ K ⟨⟩))
          ⊢ wp frame (wpE (defs₀ (F := F)) Variants.none c none) Set.univ (cc0_ffn_fwd (grid0.coords t) arg1 harg1 arg2 harg2 arg3 harg3 arg4 harg4 arg5 harg5 arg6 harg6 arg7 harg7 arg8 harg8 (Memref.whole main_arg7) (Memref.isWhole_whole _) arg10 harg10 arg11 harg11 arg12 harg12 arg13 harg13 arg14 harg14 arg15 harg15 arg16 harg16 arg17 harg17 arg18 harg18 scr (Memref.isWhole_whole _) cc0_scratch1) K := by
    intro w K
    haveI : Fact (atFirst (grid0.coords t)) := ⟨hF⟩
    haveI : Fact (starts (grid0.coords t)) := ⟨hS⟩
    haveI : Fact (¬waits (grid0.coords t)) := ⟨hW⟩
    simp only [cc0_ffn_fwd_eq_skeleton]; unfold cc0_ffn_fwd_skel
    simp only [k0_part1_eq_skeleton, k0_part2_eq_skeleton, k0_part3_eq_skeleton, k0_part4_eq_skeleton]
    unfold owns busy idle
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d0, %g0, -, G0⟩, ⟨%d1, %g1, -, G1⟩, ⟨%d2, %g2, -, G2⟩, ⟨%d3, %g3, -, G3⟩, ⟨%d4, %g4, -, G4⟩, ⟨%d5, %g5, -, G5⟩, ⟨%d6, %g6, -, G6⟩, ⟨%d7, %g7, -, G7⟩, ⟨%d8, %g8, -, G8⟩, ⟨Hcnt0, ⟨%fs0, Hslot0⟩, Hall0⟩, ⟨Hcnt, ⟨%fs, Hslot⟩, Hall⟩, Hw, Hk⟩
    ihave Hsp := (split_rows c W (par (t.val + 1)) (blkNo t.val)).1 $$ Hall
    icases Hsp with ⟨Hrows, Hrest1⟩
    ihave Hsp0 := (split_head c W 0).1 $$ Hall0
    icases Hsp0 with ⟨Hhead, Hrest0⟩
    unfold headAt
    ihave Htb := split_top c 0 rfl fs0 $$ Hslot0
    icases Htb with ⟨Hbelow, Htop⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have e1 := load_whole harg1 x0 inb_S320x1024_S320x1024_0_0
    have e2 := load_whole harg2 x1 inb_S320x512_S320x512_0_0
    have e3 := load_whole harg3 x2 inb_S320x512_S320x512_0_0
    have e4 := load_whole harg4 x3 inb_S1024x1024_S1024x1024_0_0
    have e5 := load_whole harg5 x4 inb_S1x1024_S1x1024_0_0
    have e6 := load_whole harg6 x5 inb_S1024x5632_S1024x5632_0_0
    have e7 := load_whole harg7 x6 inb_S2816x1024_S2816x1024_0_0
    have e8 := load_whole harg8 x7 inb_S1x1024_S1x1024_0_0
    sl_exec (disch := first | sl_exact hF | sl_exact hS | sl_exact hW)
    have hb : top.view.read (Elt F) (runA.sl.Htop_w1 c fs0) = k0_pay3 := by
      delta runA.sl.Htop_w1; first | exact View.read_write_univ _ _ | exact View.read_writes_whole _ _ _ | (refine (View.read_writes_full _ _ _ _ _).trans ?_; rfl)
    have ha : below.view.read (Elt F) (below.view.writes (Elt F) fs0 [⟨Rect.whole S256x1024, runA.sl.dma0 c W⟩]) = headRows.view.read (Elt F) W := View.read_writes_whole _ _ _
    ihave Hslot0 := (join_top c W (par t.val) (by rw [ht]; rfl) _ _ ha hb) $$ [Hbelow Htop]
    · isplitl [Hbelow]; · iexact Hbelow
      iexact Htop
    sl_exec (disch := first | sl_exact hF | sl_exact hS | sl_exact hW)
    have e17 : arg17.view.readCov (Val := Elt F) [⟨Rect.unit ![0, 0] S1x1.size inb_S1x1_S1x1_0_0, k0_pay1⟩] (Rect.unit ![0, 0] S1x1.size inb_S1x1_S1x1_0_0).toLoadRect = k0_pay1 := View.readCov_full _ _ _ _ _
    have e18 : arg18.view.readCov (Val := Elt F) [⟨Rect.unit ![0, 0] S1x1024.size inb_S1x1024_S1x1024_0_0, k0_pay2⟩] (Rect.unit ![0, 0] S1x1024.size inb_S1x1024_S1x1024_0_0).toLoadRect = k0_pay2 := View.readCov_full _ _ _ _ _
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [G0]
    · iexists _; isplitr; swap; · iexact G0
      ipureintro
      refine (View.read_writes_full arg10.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside]; rfl
    isplitl [G1]
    · iexists _; isplitr; swap; · iexact G1
      ipureintro
      refine (View.read_writes_full arg11.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside]; rfl
    isplitl [G2]
    · iexists _; isplitr; swap; · iexact G2
      ipureintro
      delta runA.sl.r runA.sl.r_1 runA.sl.r_2 runA.sl.r_3 runA.sl.r_4 runA.sl.r_5 runA.sl.r_6 runA.sl.v33 runA.sl.G2_2 runA.sl.v104 runA.sl.v119; exact read_beside _ _ _ _
    isplitl [G3]
    · iexists _; isplitr; swap; · iexact G3
      ipureintro
      refine (View.read_writes_full arg13.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside]; rfl
    isplitl [G4]
    · iexists _; isplitr; swap; · iexact G4
      ipureintro
      refine (View.read_writes_full arg14.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside]; rfl
    isplitl [G5]
    · iexists _; isplitr; swap; · iexact G5
      ipureintro
      refine (View.read_writes_full arg15.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside, load_landed c]; rfl
    isplitl [G6]
    · iexists _; isplitr; swap; · iexact G6
      ipureintro
      refine (View.read_writes_full arg16.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside, load_landed c]; rfl
    isplitl [G7]
    · iexists _; isplitr; swap; · iexact G7
      ipureintro
      refine (View.read_writes_full arg17.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside, load_landed c, e17]; rfl
    isplitl [G8]
    · iexists _; isplitr; swap; · iexact G8
      ipureintro
      refine (View.read_writes_full arg18.view _ _ _ _).trans ?_
      delta runA.sl.r runA.sl.r_1 runA.sl.r_2 runA.sl.r_3 runA.sl.r_4 runA.sl.r_5 runA.sl.r_6 runA.sl.v33 runA.sl.G2_2 runA.sl.v104 runA.sl.v119
      rw [load_beside, load_landed c, e18]; rfl
    isplitl [Hcnt0 Hslot0 Hhead Hrest0]
    · isplitl [Hcnt0]; · iexact Hcnt0
      isplitl [Hslot0]; · iapply (slot_first c (par t.val) (by rw [ht]; rfl) _); iexact Hslot0
      iapply (split_head c W 0).2
      isplitl [Hhead]; · unfold headAt; iexact Hhead
      iexact Hrest0
    isplitr [Hw]
    · isplitl [Hcnt]; · iexists fs; iexact Hcnt
      iexact Hrest1
    iexists _; iexact Hw

end Cert.FwdKernelIdeal.Fw

end
-- ==== Proof.FwdRunB.lean ====
/- The run of the forward call's body at a point between the first and the last. -/
module

public import proofs.«01_k».proof.Proof.FwdRes

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

set_option maxHeartbeats 1600000 in
/-- The body at a point between the first and the last, on whole buffers: from the inputs at their contents, the two running totals at theirs, the slots as the
    point finds them and the other outputs at anything, it runs to the continuation with the inputs as they were,
    every output at its result and the slots as the next point finds them. -/
theorem runB (c : Dev nD) (t : Fin cfg0.N) (arg1 : Memref sig .tc .vmem S320x1024 .f32) (harg1 : arg1.IsWhole) (arg2 : Memref sig .tc .vmem S320x512 .bf16) (harg2 : arg2.IsWhole) (arg3 : Memref sig .tc .vmem S320x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg10 : Memref sig .tc .vmem S320x1024 .f32) (harg10 : arg10.IsWhole) (arg11 : Memref sig .tc .vmem S320x1024 .bf16) (harg11 : arg11.IsWhole) (arg12 : Memref sig .tc .vmem S320x1024 .bf16) (harg12 : arg12.IsWhole) (arg13 : Memref sig .tc .vmem S320x5632 .bf16) (harg13 : arg13.IsWhole) (arg14 : Memref sig .tc .vmem S320x2816 .bf16) (harg14 : arg14.IsWhole) (arg15 : Memref sig .tc .vmem S320x1024 .f32) (harg15 : arg15.IsWhole) (arg16 : Memref sig .tc .vmem S320x1024 .bf16) (harg16 : arg16.IsWhole) (arg17 : Memref sig .tc .vmem S1x1 .f32) (harg17 : arg17.IsWhole) (arg18 : Memref sig .tc .vmem S1x1024 .f32) (harg18 : arg18.IsWhole)
    (hF : ¬atFirst (grid0.coords t)) (hS : starts (grid0.coords t)) (hW : waits (grid0.coords t))
    (x0 : Vec F S320x1024 .f32) (x1 : Vec F S320x512 .bf16) (x2 : Vec F S320x512 .bf16) (x3 : Vec F S1024x1024 .bf16) (x4 : Vec F S1x1024 .f32) (x5 : Vec F S1024x5632 .bf16) (x6 : Vec F S2816x1024 .bf16) (x7 : Vec F S1x1024 .f32) (q : Vec F S1x1 .f32) (r : Vec F S1x1024 .f32) (W : Cont (F := F) c tgt) :
      ∀ (w : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare q ∗ owns (c : Thread nD τ) arg18 fullShare r ∗ busy c W (par t.val) (blkNo (t.val - 1)) ∗ idle c W (par (t.val + 1)) ∗ owes (c : Thread nD τ) 0 w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (res (BitVec.ofNat 32 (grid0.coords t 0).val) x0 x1 x2 x3 x4 x5 x6 x7 ((rows (blkNo (t.val - 1))).view.read (Elt F) W) q r).h1 ∗ owns (c : Thread nD τ) arg11 fullShare (res (BitVec.ofNat 32 (grid0.coords t 0).val) x0 x1 x2 x3 x4 x5 x6 x7 ((rows (blkNo (t.val - 1))).view.read (Elt F) W) q r).v ∗ owns (c : Thread nD τ) arg12 fullShare (res (BitVec.ofNat 32 (grid0.coords t 0).val) x0 x1 x2 x3 x4 x5 x6 x7 ((rows (blkNo (t.val - 1))).view.read (Elt F) W) q r).y ∗ owns (c : Thread nD τ) arg13 fullShare (res (BitVec.ofNat 32 (grid0.coords t 0).val) x0 x1 x2 x3 x4 x5 x6 x7 ((rows (blkNo (t.val - 1))).view.read (Elt F) W) q r).gu ∗ owns (c : Thread nD τ) arg14 fullShare (res (BitVec.ofNat 32 (grid0.coords t 0).val) x0 x1 x2 x3 x4 x5 x6 x7 ((rows (blkNo (t.val - 1))).view.read (Elt F) W) q r).act ∗ owns (c : Thread nD τ) arg15 fullShare (res (BitVec.ofNat 32 (grid0.coords t 0).val) x0 x1 x2 x3 x4 x5 x6 x7 ((rows (blkNo (t.val - 1))).view.read (Elt F) W) q r).dh ∗ owns (c : Thread nD τ) arg16 fullShare (res (BitVec.ofNat 32 (grid0.coords t 0).val) x0 x1 x2 x3 x4 x5 x6 x7 ((rows (blkNo (t.val - 1))).view.read (Elt F) W) q r).dhb ∗ owns (c : Thread nD τ) arg17 fullShare (res (BitVec.ofNat 32 (grid0.coords t 0).val) x0 x1 x2 x3 x4 x5 x6 x7 ((rows (blkNo (t.val - 1))).view.read (Elt F) W) q r).loss ∗ owns (c : Thread nD τ) arg18 fullShare (res (BitVec.ofNat 32 (grid0.coords t 0).val) x0 x1 x2 x3 x4 x5 x6 x7 ((rows (blkNo (t.val - 1))).view.read (Elt F) W) q r).gg ∗ idle c W (par t.val) ∗ busy c W (par (t.val + 1)) (blkNo t.val) ∗ (∃ w', owes (c : Thread nD τ) 0 w')) -∗ K ⟨⟩))
          ⊢ wp frame (wpE (defs₀ (F := F)) Variants.none c none) Set.univ (cc0_ffn_fwd (grid0.coords t) arg1 harg1 arg2 harg2 arg3 harg3 arg4 harg4 arg5 harg5 arg6 harg6 arg7 harg7 arg8 harg8 (Memref.whole main_arg7) (Memref.isWhole_whole _) arg10 harg10 arg11 harg11 arg12 harg12 arg13 harg13 arg14 harg14 arg15 harg15 arg16 harg16 arg17 harg17 arg18 harg18 scr (Memref.isWhole_whole _) cc0_scratch1) K := by
    intro w K
    haveI : Fact (¬atFirst (grid0.coords t)) := ⟨hF⟩
    haveI : Fact (starts (grid0.coords t)) := ⟨hS⟩
    haveI : Fact (waits (grid0.coords t)) := ⟨hW⟩
    simp only [cc0_ffn_fwd_eq_skeleton]; unfold cc0_ffn_fwd_skel
    simp only [k0_part1_eq_skeleton, k0_part2_eq_skeleton, k0_part3_eq_skeleton, k0_part4_eq_skeleton]
    unfold owns busy idle
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d0, %g0, -, G0⟩, ⟨%d1, %g1, -, G1⟩, ⟨%d2, %g2, -, G2⟩, ⟨%d3, %g3, -, G3⟩, ⟨%d4, %g4, -, G4⟩, ⟨%d5, %g5, -, G5⟩, ⟨%d6, %g6, -, G6⟩, ⟨%g7, %hg7, G7⟩, ⟨%g8, %hg8, G8⟩, ⟨⟨%fb, Hfly⟩, Hrest⟩, ⟨Hcnt, ⟨%fs, Hslot⟩, Hall⟩, Hw, Hk⟩
    ihave Hsp := (split_rows c W (par (t.val + 1)) (blkNo t.val)).1 $$ Hall
    icases Hsp with ⟨Hrows, Hrest1⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg17.eq_unread hg7; obtain rfl := harg18.eq_unread hg8
    have e1 := load_whole harg1 x0 inb_S320x1024_S320x1024_0_0
    have e2 := load_whole harg2 x1 inb_S320x512_S320x512_0_0
    have e3 := load_whole harg3 x2 inb_S320x512_S320x512_0_0
    have e4 := load_whole harg4 x3 inb_S1024x1024_S1024x1024_0_0
    have e5 := load_whole harg5 x4 inb_S1x1024_S1x1024_0_0
    have e6 := load_whole harg6 x5 inb_S1024x5632_S1024x5632_0_0
    have e7 := load_whole harg7 x6 inb_S2816x1024_S2816x1024_0_0
    have e8 := load_whole harg8 x7 inb_S1x1024_S1x1024_0_0
    have e17 := load_whole harg17 q inb_S1x1_S1x1_0_0
    have e18 := load_whole harg18 r inb_S1x1024_S1x1024_0_0
    sl_exec (disch := first | sl_exact hF | sl_exact hS | sl_exact hW)
    have e97 : runB.sl.v97 c t W = loaded ((rows (blkNo (t.val - 1))).view.read (Elt F) W) := by
      delta runB.sl.v97
      exact load_landed c t _
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [G0]
    · iexists _; isplitr; swap; · iexact G0
      ipureintro
      refine (View.read_writes_full arg10.view _ _ _ _).trans ?_
      delta runB.sl.r runB.sl.r_1 runB.sl.r_2 runB.sl.r_3 runB.sl.r_4 runB.sl.r_5 runB.sl.r_6 runB.sl.v33 runB.sl.G2_2
      rw [load_beside]; rfl
    isplitl [G1]
    · iexists _; isplitr; swap; · iexact G1
      ipureintro
      refine (View.read_writes_full arg11.view _ _ _ _).trans ?_
      delta runB.sl.r runB.sl.r_1 runB.sl.r_2 runB.sl.r_3 runB.sl.r_4 runB.sl.r_5 runB.sl.r_6 runB.sl.v33 runB.sl.G2_2
      rw [load_beside]; rfl
    isplitl [G2]
    · iexists _; isplitr; swap; · iexact G2
      ipureintro
      delta runB.sl.r runB.sl.r_1 runB.sl.r_2 runB.sl.r_3 runB.sl.r_4 runB.sl.r_5 runB.sl.r_6 runB.sl.v33 runB.sl.G2_2; exact read_beside _ _ _ _
    isplitl [G3]
    · iexists _; isplitr; swap; · iexact G3
      ipureintro
      refine (View.read_writes_full arg13.view _ _ _ _).trans ?_
      delta runB.sl.r runB.sl.r_1 runB.sl.r_2 runB.sl.r_3 runB.sl.r_4 runB.sl.r_5 runB.sl.r_6 runB.sl.v33 runB.sl.G2_2
      rw [load_beside]; rfl
    isplitl [G4]
    · iexists _; isplitr; swap; · iexact G4
      ipureintro
      refine (View.read_writes_full arg14.view _ _ _ _).trans ?_
      delta runB.sl.r runB.sl.r_1 runB.sl.r_2 runB.sl.r_3 runB.sl.r_4 runB.sl.r_5 runB.sl.r_6 runB.sl.v33 runB.sl.G2_2
      rw [load_beside]; rfl
    isplitl [G5]
    · iexists _; isplitr; swap; · iexact G5
      ipureintro
      refine (View.read_writes_full arg15.view _ _ _ _).trans ?_
      delta runB.sl.r runB.sl.r_1 runB.sl.r_2 runB.sl.r_3 runB.sl.r_4 runB.sl.r_5 runB.sl.r_6 runB.sl.v33 runB.sl.G2_2
      rw [load_beside, e97]; rfl
    isplitl [G6]
    · iexists _; isplitr; swap; · iexact G6
      ipureintro
      refine (View.read_writes_full arg16.view _ _ _ _).trans ?_
      delta runB.sl.r runB.sl.r_1 runB.sl.r_2 runB.sl.r_3 runB.sl.r_4 runB.sl.r_5 runB.sl.r_6 runB.sl.v33 runB.sl.G2_2
      rw [load_beside, e97]; rfl
    isplitl [G7]
    · iexists _; isplitr; swap; · iexact G7
      ipureintro
      refine (View.read_writes_full arg17.view _ _ _ _).trans ?_
      delta runB.sl.r runB.sl.r_1 runB.sl.r_2 runB.sl.r_3 runB.sl.r_4 runB.sl.r_5 runB.sl.r_6 runB.sl.v33 runB.sl.G2_2
      rw [load_beside, e97]; rfl
    isplitl [G8]
    · iexists _; isplitr; swap; · iexact G8
      ipureintro
      refine (View.read_writes_full arg18.view _ _ _ _).trans ?_
      delta runB.sl.r runB.sl.r_1 runB.sl.r_2 runB.sl.r_3 runB.sl.r_4 runB.sl.r_5 runB.sl.r_6 runB.sl.v33 runB.sl.G2_2
      rw [load_beside, e97]; rfl
    isplitl [Hfly Hfly_dst Hfly_src Hrest]
    · isplitl [Hfly]; · iexact Hfly
      isplitl [Hfly_dst]; · iexists _; iexact Hfly_dst
      iapply (split_rows c W (par t.val) (blkNo (t.val - 1))).2
      isplitl [Hfly_src]; · iexact Hfly_src
      iexact Hrest
    isplitr [Hw]
    · isplitl [Hcnt]; · iexists fs; iexact Hcnt
      iexact Hrest1
    iexists _; iexact Hw

end Cert.FwdKernelIdeal.Fw

end
-- ==== Proof.FwdRunC.lean ====
/- The run of the forward call's body at the last point. -/
module

public import proofs.«01_k».proof.Proof.FwdRes

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

set_option maxHeartbeats 1600000 in
/-- The body at the last point, on whole buffers: from the inputs at their contents, the two running totals at theirs, the slots as the
    point finds them and the other outputs at anything, it runs to the continuation with the inputs as they were,
    every output at its result and the slots as the next point finds them. -/
theorem runC (c : Dev nD) (t : Fin cfg0.N) (arg1 : Memref sig .tc .vmem S320x1024 .f32) (harg1 : arg1.IsWhole) (arg2 : Memref sig .tc .vmem S320x512 .bf16) (harg2 : arg2.IsWhole) (arg3 : Memref sig .tc .vmem S320x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg10 : Memref sig .tc .vmem S320x1024 .f32) (harg10 : arg10.IsWhole) (arg11 : Memref sig .tc .vmem S320x1024 .bf16) (harg11 : arg11.IsWhole) (arg12 : Memref sig .tc .vmem S320x1024 .bf16) (harg12 : arg12.IsWhole) (arg13 : Memref sig .tc .vmem S320x5632 .bf16) (harg13 : arg13.IsWhole) (arg14 : Memref sig .tc .vmem S320x2816 .bf16) (harg14 : arg14.IsWhole) (arg15 : Memref sig .tc .vmem S320x1024 .f32) (harg15 : arg15.IsWhole) (arg16 : Memref sig .tc .vmem S320x1024 .bf16) (harg16 : arg16.IsWhole) (arg17 : Memref sig .tc .vmem S1x1 .f32) (harg17 : arg17.IsWhole) (arg18 : Memref sig .tc .vmem S1x1024 .f32) (harg18 : arg18.IsWhole)
    (hF : ¬atFirst (grid0.coords t)) (hS : ¬starts (grid0.coords t)) (hW : waits (grid0.coords t))
    (x0 : Vec F S320x1024 .f32) (x1 : Vec F S320x512 .bf16) (x2 : Vec F S320x512 .bf16) (x3 : Vec F S1024x1024 .bf16) (x4 : Vec F S1x1024 .f32) (x5 : Vec F S1024x5632 .bf16) (x6 : Vec F S2816x1024 .bf16) (x7 : Vec F S1x1024 .f32) (q : Vec F S1x1 .f32) (r : Vec F S1x1024 .f32) (W : Cont (F := F) c tgt) :
      ∀ (w : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare q ∗ owns (c : Thread nD τ) arg18 fullShare r ∗ busy c W (par t.val) (blkNo (t.val - 1)) ∗ owes (c : Thread nD τ) 0 w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (res (BitVec.ofNat 32 (grid0.coords t 0).val) x0 x1 x2 x3 x4 x5 x6 x7 ((rows (blkNo (t.val - 1))).view.read (Elt F) W) q r).h1 ∗ owns (c : Thread nD τ) arg11 fullShare (res (BitVec.ofNat 32 (grid0.coords t 0).val) x0 x1 x2 x3 x4 x5 x6 x7 ((rows (blkNo (t.val - 1))).view.read (Elt F) W) q r).v ∗ owns (c : Thread nD τ) arg12 fullShare (res (BitVec.ofNat 32 (grid0.coords t 0).val) x0 x1 x2 x3 x4 x5 x6 x7 ((rows (blkNo (t.val - 1))).view.read (Elt F) W) q r).y ∗ owns (c : Thread nD τ) arg13 fullShare (res (BitVec.ofNat 32 (grid0.coords t 0).val) x0 x1 x2 x3 x4 x5 x6 x7 ((rows (blkNo (t.val - 1))).view.read (Elt F) W) q r).gu ∗ owns (c : Thread nD τ) arg14 fullShare (res (BitVec.ofNat 32 (grid0.coords t 0).val) x0 x1 x2 x3 x4 x5 x6 x7 ((rows (blkNo (t.val - 1))).view.read (Elt F) W) q r).act ∗ owns (c : Thread nD τ) arg15 fullShare (res (BitVec.ofNat 32 (grid0.coords t 0).val) x0 x1 x2 x3 x4 x5 x6 x7 ((rows (blkNo (t.val - 1))).view.read (Elt F) W) q r).dh ∗ owns (c : Thread nD τ) arg16 fullShare (res (BitVec.ofNat 32 (grid0.coords t 0).val) x0 x1 x2 x3 x4 x5 x6 x7 ((rows (blkNo (t.val - 1))).view.read (Elt F) W) q r).dhb ∗ owns (c : Thread nD τ) arg17 fullShare (res (BitVec.ofNat 32 (grid0.coords t 0).val) x0 x1 x2 x3 x4 x5 x6 x7 ((rows (blkNo (t.val - 1))).view.read (Elt F) W) q r).loss ∗ owns (c : Thread nD τ) arg18 fullShare (res (BitVec.ofNat 32 (grid0.coords t 0).val) x0 x1 x2 x3 x4 x5 x6 x7 ((rows (blkNo (t.val - 1))).view.read (Elt F) W) q r).gg ∗ idle c W (par t.val) ∗ (∃ w', owes (c : Thread nD τ) 0 w')) -∗ K ⟨⟩))
          ⊢ wp frame (wpE (defs₀ (F := F)) Variants.none c none) Set.univ (cc0_ffn_fwd (grid0.coords t) arg1 harg1 arg2 harg2 arg3 harg3 arg4 harg4 arg5 harg5 arg6 harg6 arg7 harg7 arg8 harg8 (Memref.whole main_arg7) (Memref.isWhole_whole _) arg10 harg10 arg11 harg11 arg12 harg12 arg13 harg13 arg14 harg14 arg15 harg15 arg16 harg16 arg17 harg17 arg18 harg18 scr (Memref.isWhole_whole _) cc0_scratch1) K := by
    intro w K
    haveI : Fact (¬atFirst (grid0.coords t)) := ⟨hF⟩
    haveI : Fact (¬starts (grid0.coords t)) := ⟨hS⟩
    haveI : Fact (waits (grid0.coords t)) := ⟨hW⟩
    simp only [cc0_ffn_fwd_eq_skeleton]; unfold cc0_ffn_fwd_skel
    simp only [k0_part1_eq_skeleton, k0_part2_eq_skeleton, k0_part3_eq_skeleton, k0_part4_eq_skeleton]
    unfold owns busy idle
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d0, %g0, -, G0⟩, ⟨%d1, %g1, -, G1⟩, ⟨%d2, %g2, -, G2⟩, ⟨%d3, %g3, -, G3⟩, ⟨%d4, %g4, -, G4⟩, ⟨%d5, %g5, -, G5⟩, ⟨%d6, %g6, -, G6⟩, ⟨%g7, %hg7, G7⟩, ⟨%g8, %hg8, G8⟩, ⟨⟨%fb, Hfly⟩, Hrest⟩, Hw, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg17.eq_unread hg7; obtain rfl := harg18.eq_unread hg8
    have e1 := load_whole harg1 x0 inb_S320x1024_S320x1024_0_0
    have e2 := load_whole harg2 x1 inb_S320x512_S320x512_0_0
    have e3 := load_whole harg3 x2 inb_S320x512_S320x512_0_0
    have e4 := load_whole harg4 x3 inb_S1024x1024_S1024x1024_0_0
    have e5 := load_whole harg5 x4 inb_S1x1024_S1x1024_0_0
    have e6 := load_whole harg6 x5 inb_S1024x5632_S1024x5632_0_0
    have e7 := load_whole harg7 x6 inb_S2816x1024_S2816x1024_0_0
    have e8 := load_whole harg8 x7 inb_S1x1024_S1x1024_0_0
    have e17 := load_whole harg17 q inb_S1x1_S1x1_0_0
    have e18 := load_whole harg18 r inb_S1x1024_S1x1024_0_0
    sl_exec (disch := first | sl_exact hF | sl_exact hS | sl_exact hW)
    have e97 : runC.sl.v97 c t W = loaded ((rows (blkNo (t.val - 1))).view.read (Elt F) W) := by
      delta runC.sl.v97
      exact load_landed c t _
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [G0]
    · iexists _; isplitr; swap; · iexact G0
      ipureintro
      refine (View.read_writes_full arg10.view _ _ _ _).trans ?_
      delta runC.sl.r runC.sl.r_1 runC.sl.r_2 runC.sl.r_3 runC.sl.r_4 runC.sl.r_5 runC.sl.r_6 runC.sl.v33 runC.sl.G2_2
      rw [load_beside]; rfl
    isplitl [G1]
    · iexists _; isplitr; swap; · iexact G1
      ipureintro
      refine (View.read_writes_full arg11.view _ _ _ _).trans ?_
      delta runC.sl.r runC.sl.r_1 runC.sl.r_2 runC.sl.r_3 runC.sl.r_4 runC.sl.r_5 runC.sl.r_6 runC.sl.v33 runC.sl.G2_2
      rw [load_beside]; rfl
    isplitl [G2]
    · iexists _; isplitr; swap; · iexact G2
      ipureintro
      delta runC.sl.r runC.sl.r_1 runC.sl.r_2 runC.sl.r_3 runC.sl.r_4 runC.sl.r_5 runC.sl.r_6 runC.sl.v33 runC.sl.G2_2; exact read_beside _ _ _ _
    isplitl [G3]
    · iexists _; isplitr; swap; · iexact G3
      ipureintro
      refine (View.read_writes_full arg13.view _ _ _ _).trans ?_
      delta runC.sl.r runC.sl.r_1 runC.sl.r_2 runC.sl.r_3 runC.sl.r_4 runC.sl.r_5 runC.sl.r_6 runC.sl.v33 runC.sl.G2_2
      rw [load_beside]; rfl
    isplitl [G4]
    · iexists _; isplitr; swap; · iexact G4
      ipureintro
      refine (View.read_writes_full arg14.view _ _ _ _).trans ?_
      delta runC.sl.r runC.sl.r_1 runC.sl.r_2 runC.sl.r_3 runC.sl.r_4 runC.sl.r_5 runC.sl.r_6 runC.sl.v33 runC.sl.G2_2
      rw [load_beside]; rfl
    isplitl [G5]
    · iexists _; isplitr; swap; · iexact G5
      ipureintro
      refine (View.read_writes_full arg15.view _ _ _ _).trans ?_
      delta runC.sl.r runC.sl.r_1 runC.sl.r_2 runC.sl.r_3 runC.sl.r_4 runC.sl.r_5 runC.sl.r_6 runC.sl.v33 runC.sl.G2_2
      rw [load_beside, e97]; rfl
    isplitl [G6]
    · iexists _; isplitr; swap; · iexact G6
      ipureintro
      refine (View.read_writes_full arg16.view _ _ _ _).trans ?_
      delta runC.sl.r runC.sl.r_1 runC.sl.r_2 runC.sl.r_3 runC.sl.r_4 runC.sl.r_5 runC.sl.r_6 runC.sl.v33 runC.sl.G2_2
      rw [load_beside, e97]; rfl
    isplitl [G7]
    · iexists _; isplitr; swap; · iexact G7
      ipureintro
      refine (View.read_writes_full arg17.view _ _ _ _).trans ?_
      delta runC.sl.r runC.sl.r_1 runC.sl.r_2 runC.sl.r_3 runC.sl.r_4 runC.sl.r_5 runC.sl.r_6 runC.sl.v33 runC.sl.G2_2
      rw [load_beside, e97]; rfl
    isplitl [G8]
    · iexists _; isplitr; swap; · iexact G8
      ipureintro
      refine (View.read_writes_full arg18.view _ _ _ _).trans ?_
      delta runC.sl.r runC.sl.r_1 runC.sl.r_2 runC.sl.r_3 runC.sl.r_4 runC.sl.r_5 runC.sl.r_6 runC.sl.v33 runC.sl.G2_2
      rw [load_beside, e97]; rfl
    isplitr [Hw]
    · isplitl [Hfly]; · iexact Hfly
      isplitl [Hfly_dst]; · iexists _; iexact Hfly_dst
      iapply (split_rows c W (par t.val) (blkNo (t.val - 1))).2
      isplitl [Hfly_src]; · iexact Hfly_src
      iexact Hrest
    iexists _; iexact Hw

end Cert.FwdKernelIdeal.Fw

end
-- ==== Proof.FwdRegion.lean ====
/- The thirteen points of the forward call one after the other: what each leaves for the next, the pipeline's data,
   and that every run ends with the arrays at what the points left. -/
module

public import proofs.«01_k».proof.Proof.FwdRunA
public import proofs.«01_k».proof.Proof.FwdRunB
public import proofs.«01_k».proof.Proof.FwdRunC

@[expose] public section

set_option maxRecDepth 16384

noncomputable section

namespace Cert.FwdKernelIdeal.Fw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The target rows, as the call finds them. -/
abbrev tg (c : Dev nD) : Cont (F := F) c tgt := V m c main_arg7

/-- What the points up to `n` leave, by recursion over the points. -/
def outs (c : Dev nD) : (n : ℕ) → n < cfg0.N → Res F
  | 0, hn => res (BitVec.ofNat 32 (grid0.coords ⟨0, hn⟩ 0).val) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (firstRows (tg m c)) k0_pay1 k0_pay2
  | n + 1, hn => res (BitVec.ofNat 32 (grid0.coords ⟨n + 1, hn⟩ 0).val) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((rows (blkNo n)).view.read (Elt F) (tg m c)) (outs c n (Nat.lt_of_succ_lt hn)).loss (outs c n (Nat.lt_of_succ_lt hn)).gg

/-- What the point before `t` left. -/
abbrev prev (c : Dev nD) (t : Fin cfg0.N) : Res F := outs m c (t.val - 1) (Nat.lt_of_le_of_lt (Nat.sub_le _ _) t.isLt)

theorem outs_first (c : Dev nD) (t : Fin cfg0.N) (h : t.val = 0) :
    outs m c t.val t.isLt = res (BitVec.ofNat 32 (grid0.coords t 0).val) (iblk m c 0 t) (iblk m c 1 t) (iblk m c 2 t) (iblk m c 3 t) (iblk m c 4 t) (iblk m c 5 t) (iblk m c 6 t) (iblk m c 7 t) (firstRows (tg m c)) k0_pay1 k0_pay2 := by
  obtain ⟨n, hn⟩ := t
  cases n with
  | zero => rfl
  | succ n => exact absurd h (Nat.succ_ne_zero n)

theorem outs_next (c : Dev nD) (t : Fin cfg0.N) (h : ¬t.val = 0) :
    outs m c t.val t.isLt = res (BitVec.ofNat 32 (grid0.coords t 0).val) (iblk m c 0 t) (iblk m c 1 t) (iblk m c 2 t) (iblk m c 3 t) (iblk m c 4 t) (iblk m c 5 t) (iblk m c 6 t) (iblk m c 7 t) ((rows (blkNo (t.val - 1))).view.read (Elt F) (tg m c)) (prev m c t).loss (prev m c t).gg := by
  obtain ⟨n, hn⟩ := t
  cases n with
  | zero => exact absurd rfl h
  | succ n => rfl

/-- The slots before point `n`: both idle at the two ends, in between the point's own on its way and the next one's idle. -/
def slots (c : Dev nD) (n : ℕ) : sProp 𝕄 :=
  if 1 ≤ n ∧ n ≤ 12 then iprop(busy c (tg m c) (par n) (blkNo (n - 1)) ∗ idle c (tg m c) (par (n + 1)))
  else iprop(idle c (tg m c) 0 ∗ idle c (tg m c) 1)

theorem slots_first (c : Dev nD) (n : ℕ) (h : n = 0) :
    slots m c n = iprop(idle c (tg m c) 0 ∗ idle c (tg m c) (par (n + 1))) := by
  subst h; exact if_neg (by omega)
theorem slots_here (c : Dev nD) (n : ℕ) (h1 : 1 ≤ n) (h2 : n ≤ 12) :
    slots m c n = iprop(busy c (tg m c) (par n) (blkNo (n - 1)) ∗ idle c (tg m c) (par (n + 1))) := if_pos ⟨h1, h2⟩
theorem slots_next (c : Dev nD) (n : ℕ) (h : n < 12) :
    slots m c (n + 1) = iprop(busy c (tg m c) (par (n + 1)) (blkNo n) ∗ idle c (tg m c) (par n)) := by
  rw [slots_here m c (n + 1) (by omega) (by omega), show par (n + 1 + 1) = par n from Ring.sl_add 2 n]; rfl
theorem slots_last (c : Dev nD) (n : ℕ) (h : n = 12) :
    slots m c (n + 1) = iprop(idle c (tg m c) (par n) ∗ idle c (tg m c) (par (n + 1))) := by
  subst h; exact if_neg (by omega)

/-- Between two points: the slots, and the generator register at some state. -/
def Between (c : Dev nD) (n : ℕ) : sProp 𝕄 := iprop(slots m c n ∗ (∃ r, prngReg c r))

/-- The pipeline's data on core `c`: the arrays as the region finds them; after a point each input's buffer at its
    block and each output's at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).h1
    | ⟨9, _⟩ => (outs m c t.val t.isLt).v
    | ⟨10, _⟩ => (outs m c t.val t.isLt).y
    | ⟨11, _⟩ => (outs m c t.val t.isLt).gu
    | ⟨12, _⟩ => (outs m c t.val t.isLt).act
    | ⟨13, _⟩ => (outs m c t.val t.isLt).dh
    | ⟨14, _⟩ => (outs m c t.val t.isLt).dhb
    | ⟨15, _⟩ => (outs m c t.val t.isLt).loss
    | ⟨16, _⟩ => (outs m c t.val t.isLt).gg
    | ⟨_ + 17, h⟩ => absurd h (Nat.not_lt.2 (Nat.le_add_left _ _))
  Φ t := Between m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).h1 := by dsimp only [dats]
theorem after0_9 (c : Dev nD) (t : Fin cfg0.N) : (dats m 0 c).after 9 t = (outs m c t.val t.isLt).v := by dsimp only [dats]
theorem after0_10 (c : Dev nD) (t : Fin cfg0.N) : (dats m 0 c).after 10 t = (outs m c t.val t.isLt).y := by dsimp only [dats]
theorem after0_11 (c : Dev nD) (t : Fin cfg0.N) : (dats m 0 c).after 11 t = (outs m c t.val t.isLt).gu := by dsimp only [dats]
theorem after0_12 (c : Dev nD) (t : Fin cfg0.N) : (dats m 0 c).after 12 t = (outs m c t.val t.isLt).act := by dsimp only [dats]
theorem after0_13 (c : Dev nD) (t : Fin cfg0.N) : (dats m 0 c).after 13 t = (outs m c t.val t.isLt).dh := by dsimp only [dats]
theorem after0_14 (c : Dev nD) (t : Fin cfg0.N) : (dats m 0 c).after 14 t = (outs m c t.val t.isLt).dhb := by dsimp only [dats]
theorem after0_15 (c : Dev nD) (t : Fin cfg0.N) : (dats m 0 c).after 15 t = (outs m c t.val t.isLt).loss := by dsimp only [dats]
theorem after0_16 (c : Dev nD) (t : Fin cfg0.N) : (dats m 0 c).after 16 t = (outs m c t.val t.isLt).gg := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; rfl)
theorem before0_15 (c : Dev nD) (t : Fin cfg0.N) (h0 : ¬t.val = 0) (d) : (dats m 0 c).before 15 t d = (prev m c t).loss := by
  have hN : t.val < 13 := lt_of_lt_of_eq t.isLt (show cfg0.N = 13 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16 (c : Dev nD) (t : Fin cfg0.N) (h0 : ¬t.val = 0) (d) : (dats m 0 c).before 16 t d = (prev m c t).gg := by
  have hN : t.val < 13 := lt_of_lt_of_eq t.isLt (show cfg0.N = 13 from N_0)
  rw [Dat.before_out_kept _ 16 rfl t (by omega) (Bool.eq_false_iff.mpr fun h => by have := (flush0_16 _).mp h; dsimp only at this; omega)
    (fun _ => rfl) (fun _ _ => rfl)]
  dsimp only [dats]
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (bf0 t) fullShare ((dats m 0 c).before 0 t d))
    ∗ (∃ d, owns (c : Thread nD τ) (bf1 t) fullShare ((dats m 0 c).before 1 t d))
    ∗ (∃ d, owns (c : Thread nD τ) (bf2 t) fullShare ((dats m 0 c).before 2 t d))
    ∗ (∃ d, owns (c : Thread nD τ) (bf3 t) fullShare ((dats m 0 c).before 3 t d))
    ∗ (∃ d, owns (c : Thread nD τ) (bf4 t) fullShare ((dats m 0 c).before 4 t d))
    ∗ (∃ d, owns (c : Thread nD τ) (bf5 t) fullShare ((dats m 0 c).before 5 t d))
    ∗ (∃ d, owns (c : Thread nD τ) (bf6 t) fullShare ((dats m 0 c).before 6 t d))
    ∗ (∃ d, owns (c : Thread nD τ) (bf7 t) fullShare ((dats m 0 c).before 7 t d))
    ∗ (∃ d, owns (c : Thread nD τ) (bf8 t) fullShare ((dats m 0 c).before 8 t d))
    ∗ (∃ d, owns (c : Thread nD τ) (bf9 t) fullShare ((dats m 0 c).before 9 t d))
    ∗ (∃ d, owns (c : Thread nD τ) (bf10 t) fullShare ((dats m 0 c).before 10 t d))
    ∗ (∃ d, owns (c : Thread nD τ) (bf11 t) fullShare ((dats m 0 c).before 11 t d))
    ∗ (∃ d, owns (c : Thread nD τ) (bf12 t) fullShare ((dats m 0 c).before 12 t d))
    ∗ (∃ d, owns (c : Thread nD τ) (bf13 t) fullShare ((dats m 0 c).before 13 t d))
    ∗ (∃ d, owns (c : Thread nD τ) (bf14 t) fullShare ((dats m 0 c).before 14 t d))
    ∗ (∃ d, owns (c : Thread nD τ) (bf15 t) fullShare ((dats m 0 c).before 15 t d))
    ∗ (∃ d, owns (c : Thread nD τ) (bf16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 4000000 in
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  have hN : t.val < 13 := lt_of_lt_of_eq t.isLt (show cfg0.N = 13 from N_0)
  simp only [before0_0, before0_1, before0_2, before0_3, before0_4, before0_5, before0_6, before0_7]
  rw [show (dats m 0 c).leavesExact 0 t = owns (c : Thread nD τ) (bf0 t) fullShare ((dats m 0 c).after 0 t) from by
    unfold Dat.leavesExact; rw [liveAt0_0 t], after0_0]
  rw [show (dats m 0 c).leavesExact 1 t = owns (c : Thread nD τ) (bf1 t) fullShare ((dats m 0 c).after 1 t) from by
    unfold Dat.leavesExact; rw [liveAt0_1 t], after0_1]
  rw [show (dats m 0 c).leavesExact 2 t = owns (c : Thread nD τ) (bf2 t) fullShare ((dats m 0 c).after 2 t) from by
    unfold Dat.leavesExact; rw [liveAt0_2 t], after0_2]
  rw [show (dats m 0 c).leavesExact 3 t = owns (c : Thread nD τ) (bf3 t) fullShare ((dats m 0 c).after 3 t) from by
    unfold Dat.leavesExact; rw [liveAt0_3 t], after0_3]
  rw [show (dats m 0 c).leavesExact 4 t = owns (c : Thread nD τ) (bf4 t) fullShare ((dats m 0 c).after 4 t) from by
    unfold Dat.leavesExact; rw [liveAt0_4 t], after0_4]
  rw [show (dats m 0 c).leavesExact 5 t = owns (c : Thread nD τ) (bf5 t) fullShare ((dats m 0 c).after 5 t) from by
    unfold Dat.leavesExact; rw [liveAt0_5 t], after0_5]
  rw [show (dats m 0 c).leavesExact 6 t = owns (c : Thread nD τ) (bf6 t) fullShare ((dats m 0 c).after 6 t) from by
    unfold Dat.leavesExact; rw [liveAt0_6 t], after0_6]
  rw [show (dats m 0 c).leavesExact 7 t = owns (c : Thread nD τ) (bf7 t) fullShare ((dats m 0 c).after 7 t) from by
    unfold Dat.leavesExact; rw [liveAt0_7 t], after0_7]
  rw [show (dats m 0 c).leavesExact 8 t = owns (c : Thread nD τ) (bf8 t) fullShare ((dats m 0 c).after 8 t) from by
    unfold Dat.leavesExact; rw [liveAt0_8 t], after0_8]
  rw [show (dats m 0 c).leavesExact 9 t = owns (c : Thread nD τ) (bf9 t) fullShare ((dats m 0 c).after 9 t) from by
    unfold Dat.leavesExact; rw [liveAt0_9 t], after0_9]
  rw [show (dats m 0 c).leavesExact 10 t = owns (c : Thread nD τ) (bf10 t) fullShare ((dats m 0 c).after 10 t) from by
    unfold Dat.leavesExact; rw [liveAt0_10 t], after0_10]
  rw [show (dats m 0 c).leavesExact 11 t = owns (c : Thread nD τ) (bf11 t) fullShare ((dats m 0 c).after 11 t) from by
    unfold Dat.leavesExact; rw [liveAt0_11 t], after0_11]
  rw [show (dats m 0 c).leavesExact 12 t = owns (c : Thread nD τ) (bf12 t) fullShare ((dats m 0 c).after 12 t) from by
    unfold Dat.leavesExact; rw [liveAt0_12 t], after0_12]
  rw [show (dats m 0 c).leavesExact 13 t = owns (c : Thread nD τ) (bf13 t) fullShare ((dats m 0 c).after 13 t) from by
    unfold Dat.leavesExact; rw [liveAt0_13 t], after0_13]
  rw [show (dats m 0 c).leavesExact 14 t = owns (c : Thread nD τ) (bf14 t) fullShare ((dats m 0 c).after 14 t) from by
    unfold Dat.leavesExact; rw [liveAt0_14 t], after0_14]
  rw [show (dats m 0 c).leavesExact 15 t = owns (c : Thread nD τ) (bf15 t) fullShare ((dats m 0 c).after 15 t) from by
    unfold Dat.leavesExact; rw [liveAt0_15 t], after0_15]
  rw [show (dats m 0 c).leavesExact 16 t = owns (c : Thread nD τ) (bf16 t) fullShare ((dats m 0 c).after 16 t) from by
    unfold Dat.leavesExact; rw [liveAt0_16 t], after0_16]
  have hp : par t.val = 0 := by rw [h]; rfl
  rw [show (dats m 0 c).Φ t.castSucc = iprop(slots m c t.val ∗ (∃ r, prngReg c r)) from rfl,
    show (dats m 0 c).Φ t.succ = iprop(slots m c (t.val + 1) ∗ (∃ r, prngReg c r)) from rfl, slots_next m c _ (by omega), slots_first m c _ h]
  unfold Dat.owesAt Pipeline.owesWithin
  rw [show (dats m 0 c).owed t.castSucc = 0 from rfl, show (dats m 0 c).owed t.succ = 0 from rfl]
  rw [outs_first m c t h]
  rw [hp]
  iintro ⟨⟨⟨S0, S1⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runA c t (bf0 t) (hb0 t) (bf1 t) (hb1 t) (bf2 t) (hb2 t) (bf3 t) (hb3 t) (bf4 t) (hb4 t) (bf5 t) (hb5 t) (bf6 t) (hb6 t) (bf7 t) (hb7 t) (bf8 t) (hb8 t) (bf9 t) (hb9 t) (bf10 t) (hb10 t) (bf11 t) (hb11 t) (bf12 t) (hb12 t) (bf13 t) (hb13 t) (bf14 t) (hb14 t) (bf15 t) (hb15 t) (bf16 t) (hb16 t) ((atFirst_iff t).mpr h) ((starts_iff t).mpr (by omega)) (fun hw => by have := (waits_iff t).mp hw; omega) h (iblk m c 0 t) (iblk m c 1 t) (iblk m c 2 t) (iblk m c 3 t) (iblk m c 4 t) (iblk m c 5 t) (iblk m c 6 t) (iblk m c 7 t) (tg m c) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  isplitl [HW]; · iexact HW
  iintro ⟨H0, H1, H2, H3, H4, H5, H6, H7, H8, H9, H10, H11, H12, H13, H14, H15, H16, Q0, Q1, ⟨%W', HW'⟩⟩
  isplitl [Q0 Q1 Hg]
  · isplitl [Q0 Q1]
    · isplitl [Q1]; · iexact Q1
      iexact Q0
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem sound_B (c : Dev nD) (t : Fin cfg0.N) (h0 : ¬t.val = 0) (h1 : t.val < 12) :
    bodyPre m c t ⊢ wp frame (wpE (defs₀ (F := F)) Variants.none c none) Set.univ (bodyAt0 t) (fun _ => bodyPost m c t) := by
  unfold bodyPre bodyPost bodyAt0
  have hN : t.val < 13 := lt_of_lt_of_eq t.isLt (show cfg0.N = 13 from N_0)
  simp only [before0_0, before0_1, before0_2, before0_3, before0_4, before0_5, before0_6, before0_7]
  simp only [before0_15 m c t h0, before0_16 m c t h0]
  rw [show (dats m 0 c).leavesExact 0 t = owns (c : Thread nD τ) (bf0 t) fullShare ((dats m 0 c).after 0 t) from by
    unfold Dat.leavesExact; rw [liveAt0_0 t], after0_0]
  rw [show (dats m 0 c).leavesExact 1 t = owns (c : Thread nD τ) (bf1 t) fullShare ((dats m 0 c).after 1 t) from by
    unfold Dat.leavesExact; rw [liveAt0_1 t], after0_1]
  rw [show (dats m 0 c).leavesExact 2 t = owns (c : Thread nD τ) (bf2 t) fullShare ((dats m 0 c).after 2 t) from by
    unfold Dat.leavesExact; rw [liveAt0_2 t], after0_2]
  rw [show (dats m 0 c).leavesExact 3 t = owns (c : Thread nD τ) (bf3 t) fullShare ((dats m 0 c).after 3 t) from by
    unfold Dat.leavesExact; rw [liveAt0_3 t], after0_3]
  rw [show (dats m 0 c).leavesExact 4 t = owns (c : Thread nD τ) (bf4 t) fullShare ((dats m 0 c).after 4 t) from by
    unfold Dat.leavesExact; rw [liveAt0_4 t], after0_4]
  rw [show (dats m 0 c).leavesExact 5 t = owns (c : Thread nD τ) (bf5 t) fullShare ((dats m 0 c).after 5 t) from by
    unfold Dat.leavesExact; rw [liveAt0_5 t], after0_5]
  rw [show (dats m 0 c).leavesExact 6 t = owns (c : Thread nD τ) (bf6 t) fullShare ((dats m 0 c).after 6 t) from by
    unfold Dat.leavesExact; rw [liveAt0_6 t], after0_6]
  rw [show (dats m 0 c).leavesExact 7 t = owns (c : Thread nD τ) (bf7 t) fullShare ((dats m 0 c).after 7 t) from by
    unfold Dat.leavesExact; rw [liveAt0_7 t], after0_7]
  rw [show (dats m 0 c).leavesExact 8 t = owns (c : Thread nD τ) (bf8 t) fullShare ((dats m 0 c).after 8 t) from by
    unfold Dat.leavesExact; rw [liveAt0_8 t], after0_8]
  rw [show (dats m 0 c).leavesExact 9 t = owns (c : Thread nD τ) (bf9 t) fullShare ((dats m 0 c).after 9 t) from by
    unfold Dat.leavesExact; rw [liveAt0_9 t], after0_9]
  rw [show (dats m 0 c).leavesExact 10 t = owns (c : Thread nD τ) (bf10 t) fullShare ((dats m 0 c).after 10 t) from by
    unfold Dat.leavesExact; rw [liveAt0_10 t], after0_10]
  rw [show (dats m 0 c).leavesExact 11 t = owns (c : Thread nD τ) (bf11 t) fullShare ((dats m 0 c).after 11 t) from by
    unfold Dat.leavesExact; rw [liveAt0_11 t], after0_11]
  rw [show (dats m 0 c).leavesExact 12 t = owns (c : Thread nD τ) (bf12 t) fullShare ((dats m 0 c).after 12 t) from by
    unfold Dat.leavesExact; rw [liveAt0_12 t], after0_12]
  rw [show (dats m 0 c).leavesExact 13 t = owns (c : Thread nD τ) (bf13 t) fullShare ((dats m 0 c).after 13 t) from by
    unfold Dat.leavesExact; rw [liveAt0_13 t], after0_13]
  rw [show (dats m 0 c).leavesExact 14 t = owns (c : Thread nD τ) (bf14 t) fullShare ((dats m 0 c).after 14 t) from by
    unfold Dat.leavesExact; rw [liveAt0_14 t], after0_14]
  rw [show (dats m 0 c).leavesExact 15 t = owns (c : Thread nD τ) (bf15 t) fullShare ((dats m 0 c).after 15 t) from by
    unfold Dat.leavesExact; rw [liveAt0_15 t], after0_15]
  rw [show (dats m 0 c).leavesExact 16 t = owns (c : Thread nD τ) (bf16 t) fullShare ((dats m 0 c).after 16 t) from by
    unfold Dat.leavesExact; rw [liveAt0_16 t], after0_16]
  rw [show (dats m 0 c).Φ t.castSucc = iprop(slots m c t.val ∗ (∃ r, prngReg c r)) from rfl,
    show (dats m 0 c).Φ t.succ = iprop(slots m c (t.val + 1) ∗ (∃ r, prngReg c r)) from rfl, slots_next m c _ h1, slots_here m c _ (by omega) (by omega)]
  unfold Dat.owesAt Pipeline.owesWithin
  rw [show (dats m 0 c).owed t.castSucc = 0 from rfl, show (dats m 0 c).owed t.succ = 0 from rfl]
  rw [outs_next m c t h0]
  iintro ⟨⟨⟨S0, S1⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runB c t (bf0 t) (hb0 t) (bf1 t) (hb1 t) (bf2 t) (hb2 t) (bf3 t) (hb3 t) (bf4 t) (hb4 t) (bf5 t) (hb5 t) (bf6 t) (hb6 t) (bf7 t) (hb7 t) (bf8 t) (hb8 t) (bf9 t) (hb9 t) (bf10 t) (hb10 t) (bf11 t) (hb11 t) (bf12 t) (hb12 t) (bf13 t) (hb13 t) (bf14 t) (hb14 t) (bf15 t) (hb15 t) (bf16 t) (hb16 t) (fun hf => h0 ((atFirst_iff t).mp hf)) ((starts_iff t).mpr h1) ((waits_iff t).mpr (by omega)) (iblk m c 0 t) (iblk m c 1 t) (iblk m c 2 t) (iblk m c 3 t) (iblk m c 4 t) (iblk m c 5 t) (iblk m c 6 t) (iblk m c 7 t) (prev m c t).loss (prev m c t).gg (tg m c) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [S0]; · iexact S0
  isplitl [S1]; · iexact S1
  isplitl [HW]; · iexact HW
  iintro ⟨H0, H1, H2, H3, H4, H5, H6, H7, H8, H9, H10, H11, H12, H13, H14, H15, H16, Q0, Q1, ⟨%W', HW'⟩⟩
  isplitl [Q0 Q1 Hg]
  · isplitl [Q0 Q1]
    · isplitl [Q1]; · iexact Q1
      iexact Q0
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem sound_C (c : Dev nD) (t : Fin cfg0.N) (h : t.val = 12) :
    bodyPre m c t ⊢ wp frame (wpE (defs₀ (F := F)) Variants.none c none) Set.univ (bodyAt0 t) (fun _ => bodyPost m c t) := by
  unfold bodyPre bodyPost bodyAt0
  have hN : t.val < 13 := lt_of_lt_of_eq t.isLt (show cfg0.N = 13 from N_0)
  simp only [before0_0, before0_1, before0_2, before0_3, before0_4, before0_5, before0_6, before0_7]
  simp only [before0_15 m c t (by omega), before0_16 m c t (by omega)]
  rw [show (dats m 0 c).leavesExact 0 t = owns (c : Thread nD τ) (bf0 t) fullShare ((dats m 0 c).after 0 t) from by
    unfold Dat.leavesExact; rw [liveAt0_0 t], after0_0]
  rw [show (dats m 0 c).leavesExact 1 t = owns (c : Thread nD τ) (bf1 t) fullShare ((dats m 0 c).after 1 t) from by
    unfold Dat.leavesExact; rw [liveAt0_1 t], after0_1]
  rw [show (dats m 0 c).leavesExact 2 t = owns (c : Thread nD τ) (bf2 t) fullShare ((dats m 0 c).after 2 t) from by
    unfold Dat.leavesExact; rw [liveAt0_2 t], after0_2]
  rw [show (dats m 0 c).leavesExact 3 t = owns (c : Thread nD τ) (bf3 t) fullShare ((dats m 0 c).after 3 t) from by
    unfold Dat.leavesExact; rw [liveAt0_3 t], after0_3]
  rw [show (dats m 0 c).leavesExact 4 t = owns (c : Thread nD τ) (bf4 t) fullShare ((dats m 0 c).after 4 t) from by
    unfold Dat.leavesExact; rw [liveAt0_4 t], after0_4]
  rw [show (dats m 0 c).leavesExact 5 t = owns (c : Thread nD τ) (bf5 t) fullShare ((dats m 0 c).after 5 t) from by
    unfold Dat.leavesExact; rw [liveAt0_5 t], after0_5]
  rw [show (dats m 0 c).leavesExact 6 t = owns (c : Thread nD τ) (bf6 t) fullShare ((dats m 0 c).after 6 t) from by
    unfold Dat.leavesExact; rw [liveAt0_6 t], after0_6]
  rw [show (dats m 0 c).leavesExact 7 t = owns (c : Thread nD τ) (bf7 t) fullShare ((dats m 0 c).after 7 t) from by
    unfold Dat.leavesExact; rw [liveAt0_7 t], after0_7]
  rw [show (dats m 0 c).leavesExact 8 t = owns (c : Thread nD τ) (bf8 t) fullShare ((dats m 0 c).after 8 t) from by
    unfold Dat.leavesExact; rw [liveAt0_8 t], after0_8]
  rw [show (dats m 0 c).leavesExact 9 t = owns (c : Thread nD τ) (bf9 t) fullShare ((dats m 0 c).after 9 t) from by
    unfold Dat.leavesExact; rw [liveAt0_9 t], after0_9]
  rw [show (dats m 0 c).leavesExact 10 t = owns (c : Thread nD τ) (bf10 t) fullShare ((dats m 0 c).after 10 t) from by
    unfold Dat.leavesExact; rw [liveAt0_10 t], after0_10]
  rw [show (dats m 0 c).leavesExact 11 t = owns (c : Thread nD τ) (bf11 t) fullShare ((dats m 0 c).after 11 t) from by
    unfold Dat.leavesExact; rw [liveAt0_11 t], after0_11]
  rw [show (dats m 0 c).leavesExact 12 t = owns (c : Thread nD τ) (bf12 t) fullShare ((dats m 0 c).after 12 t) from by
    unfold Dat.leavesExact; rw [liveAt0_12 t], after0_12]
  rw [show (dats m 0 c).leavesExact 13 t = owns (c : Thread nD τ) (bf13 t) fullShare ((dats m 0 c).after 13 t) from by
    unfold Dat.leavesExact; rw [liveAt0_13 t], after0_13]
  rw [show (dats m 0 c).leavesExact 14 t = owns (c : Thread nD τ) (bf14 t) fullShare ((dats m 0 c).after 14 t) from by
    unfold Dat.leavesExact; rw [liveAt0_14 t], after0_14]
  rw [show (dats m 0 c).leavesExact 15 t = owns (c : Thread nD τ) (bf15 t) fullShare ((dats m 0 c).after 15 t) from by
    unfold Dat.leavesExact; rw [liveAt0_15 t], after0_15]
  rw [show (dats m 0 c).leavesExact 16 t = owns (c : Thread nD τ) (bf16 t) fullShare ((dats m 0 c).after 16 t) from by
    unfold Dat.leavesExact; rw [liveAt0_16 t], after0_16]
  rw [show (dats m 0 c).Φ t.castSucc = iprop(slots m c t.val ∗ (∃ r, prngReg c r)) from rfl,
    show (dats m 0 c).Φ t.succ = iprop(slots m c (t.val + 1) ∗ (∃ r, prngReg c r)) from rfl, slots_last m c _ h, slots_here m c _ (by omega) (by omega)]
  unfold Dat.owesAt Pipeline.owesWithin
  rw [show (dats m 0 c).owed t.castSucc = 0 from rfl, show (dats m 0 c).owed t.succ = 0 from rfl]
  rw [outs_next m c t (by omega)]
  iintro ⟨⟨⟨S0, S1⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runC c t (bf0 t) (hb0 t) (bf1 t) (hb1 t) (bf2 t) (hb2 t) (bf3 t) (hb3 t) (bf4 t) (hb4 t) (bf5 t) (hb5 t) (bf6 t) (hb6 t) (bf7 t) (hb7 t) (bf8 t) (hb8 t) (bf9 t) (hb9 t) (bf10 t) (hb10 t) (bf11 t) (hb11 t) (bf12 t) (hb12 t) (bf13 t) (hb13 t) (bf14 t) (hb14 t) (bf15 t) (hb15 t) (bf16 t) (hb16 t) (fun hf => by have := (atFirst_iff t).mp hf; omega) (fun hs => by have := (starts_iff t).mp hs; omega) ((waits_iff t).mpr (by omega)) (iblk m c 0 t) (iblk m c 1 t) (iblk m c 2 t) (iblk m c 3 t) (iblk m c 4 t) (iblk m c 5 t) (iblk m c 6 t) (iblk m c 7 t) (prev m c t).loss (prev m c t).gg (tg m c) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [S0]; · iexact S0
  isplitl [HW]; · iexact HW
  iintro ⟨H0, H1, H2, H3, H4, H5, H6, H7, H8, H9, H10, H11, H12, H13, H14, H15, H16, Q0, ⟨%W', HW'⟩⟩
  isplitl [Q0 S1 Hg]
  · isplitl [Q0 S1]
    · isplitl [Q0]; · iexact Q0
      iexact S1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem sound_body (c : Dev nD) (t : Fin cfg0.N) :
    bodyPre m c t ⊢ wp frame (wpE (defs₀ (F := F)) Variants.none c none) Set.univ (bodyAt0 t) (fun _ => bodyPost m c t) := by
  have hN : t.val < 13 := lt_of_lt_of_eq t.isLt (show cfg0.N = 13 from N_0)
  by_cases h0 : t.val = 0
  · exact sound_A m c t h0
  · by_cases h1 : t.val < 12
    · exact sound_B m c t h0 h1
    · exact sound_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The one array the kernel fetches from by itself. -/
def H0 : Finset (Ref sig .tc) := {main_arg7}
theorem H0_sub : H0 ⊆ Pipeline.restRefs sig spec0 := by decide

theorem handed_eq (c : Dev nD) :
    (Pipeline.ΦD cntNo spec0 H0 (V m) c : sProp 𝕄)
      = iprop((∃ d, owns (c : Thread nD τ) scr fullShare d) ∗ (∃ r, prngReg c r)
          ∗ (semVal ((c : Thread nD τ), cntNo 0) 0 ∗ semVal ((c : Thread nD τ), cntNo 1) 0) ∗ held c tgt (tg m c)) := by
  rw [Pipeline.ΦD_eq, scopedRest0_eq, Pipeline.ownSems0_eq_of_list c cntNo [0, 1] (by decide) (by decide),
    show (bigSep H0 (fun b => ((c : Thread nD τ).loc b) ↦{fullShare} V m c b) : sProp 𝕄) = held c tgt (tg m c) from by
      rw [BI.bigSep_eq_bigSepL_of_eq [main_arg7] (by decide) (by decide)]; rfl]
  simp only [scr, owns_whole]; rfl

theorem hin (c : Dev nD) : Pipeline.ΦD cntNo spec0 H0 (V m) c ⊢ (dats m 0 c).Φ 0 := by
  rw [handed_eq, show (dats m 0 c).Φ 0 = iprop(slots m c 0 ∗ (∃ r, prngReg c r)) from rfl,
    show slots m c 0 = iprop(idle c (tg m c) 0 ∗ idle c (tg m c) 1) from slots_first m c 0 rfl]
  iintro ⟨HS, Hg, HC, HW⟩
  isplitr [Hg]
  · iapply (two_idle c (tg m c))
    isplitl [HS]; · iexact HS
    isplitl [HC]; · iexact HC
    iexact HW
  iexact Hg

theorem hout (c : Dev nD) : (dats m 0 c).Φ (Fin.last cfg0.N) ⊢ Pipeline.ΦD cntNo spec0 H0 (V m) c := by
  rw [handed_eq, show (dats m 0 c).Φ (Fin.last cfg0.N) = iprop(slots m c 13 ∗ (∃ r, prngReg c r)) from by
      show Between m c (Fin.last cfg0.N).val = _
      rw [show (Fin.last cfg0.N).val = 13 from N_0]; rfl,
    show slots m c 13 = iprop(idle c (tg m c) 0 ∗ idle c (tg m c) 1) from slots_last m c 12 rfl]
  iintro ⟨HI, Hg⟩
  ihave HI' := (of_two_idle c (tg m c)) $$ HI
  icases HI' with ⟨HS, HC, HW⟩
  isplitl [HS]; · iexact HS
  isplitl [Hg]; · iexact Hg
  isplitl [HC]; · iexact HC
  iexact HW

set_option maxHeartbeats 800000 in
theorem begins (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with every array at what the points left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cntNo defs₀ Variants.none ownCounters H0 H0_sub m ρ main
    (hbody := fun c => (body_obligation m c).loose) (hshare := fun c => (dats m 0 c).share_full fun _ => rfl)
    (howed := fun _ _ => rfl) (V := V m) (hmain := begins m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run of the kernel leaves its arguments and ends with every semaphore counter at zero. -/
theorem frame : θ_run (defs (F := F)) (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).1 4).trans (((dats m 0 c).arrAt_in 4 rfl _).trans ((A_eq m c 4).trans (V_main_arg3 m c))),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).1 7).trans (((dats m 0 c).arrAt_in 7 rfl _).trans ((A_eq m c 7).trans (V_main_arg6 m c))),
    ((h.1 c).2 main_arg7 (Pipeline.mem_restRefs_of main_arg7 (by decide) (by decide))).trans (V_main_arg7 m c)⟩, h.2⟩) (run_main_quiescent m ρ)

end Cert.FwdKernelIdeal.Fw

end
-- ==== Proof.FwdMath.lean ====
/- The mathematics of the forward call on real numbers: the block's output, the loss against the target rows, and the
   gradient that the loss hands back. -/
module

public import proofs.«01_k».proof.Proof.FfnMath

@[expose] public section

noncomputable section

namespace Cert.Fwd

open Idealize.ShloMosaic
open Cert.Ffn (inv sig lo hi)

theorem ofBits_half32 : Ideal.ofBits .f32 0x3F000000#32 = ((1 / 2 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

/-- A row through the output projection. -/
def proj (y : Fin 1024 → ℝ) (w : Fin 1024 → Fin 1024 → ℝ) (j : Fin 1024) : ℝ := ∑ k, y k * w k j

/-- The gated product of a row's two halves. -/
def gate (p : Fin 5632 → ℝ) (f : Fin 2816) : ℝ := p (lo f) * sig (p (lo f)) * p (hi f)

/-- A row through the last product of the block. -/
def down (a : Fin 2816 → ℝ) (w : Fin 2816 → Fin 1024 → ℝ) (j : Fin 1024) : ℝ := ∑ f, a f * w f j

/-- What the loss hands back at a row `x` of the block's output, from the row's error. -/
def back (e g x : Fin 1024 → ℝ) (j : Fin 1024) : ℝ :=
  inv x * (e j * (1 / 1024) * g j - x j * inv x * ((∑ k, e k * (1 / 1024) * g k * (x k * inv x)) / 1024))

/-- The mean of the squares of a row's error. -/
def meanErr (e : Fin 1024 → ℝ) : ℝ := (∑ k, e k * e k) / 1024

/-- What the call is given, as real numbers. -/
structure Data where
  /-- The residual rows. -/
  H0 : Fin 4160 → Fin 1024 → ℝ
  /-- The rows before the output projection. -/
  Y : Fin 4160 → Fin 1024 → ℝ
  /-- The weights of the output projection. -/
  Wo : Fin 1024 → Fin 1024 → ℝ
  /-- The weights of the norm before the two halves. -/
  G2 : Fin 1024 → ℝ
  /-- The weights of the two halves. -/
  Wgu : Fin 1024 → Fin 5632 → ℝ
  /-- The weights of the product after the gate. -/
  Wd : Fin 2816 → Fin 1024 → ℝ
  /-- The weights of the final norm. -/
  Gf : Fin 1024 → ℝ
  /-- The target rows. -/
  Tg : Fin 4096 → Fin 1024 → ℝ

/-- The rows after the output projection. -/
def Data.H1 (d : Data) (i : Fin 4160) (j : Fin 1024) : ℝ := d.H0 i j + proj (d.Y i) d.Wo j
/-- The rows normed and weighted. -/
def Data.X (d : Data) (i : Fin 4160) (j : Fin 1024) : ℝ := d.H1 i j * inv (d.H1 i) * d.G2 j
/-- The two halves. -/
def Data.P (d : Data) (i : Fin 4160) : Fin 5632 → ℝ := Cert.Ffn.gu (d.H1 i) d.G2 d.Wgu
/-- The gated product. -/
def Data.A (d : Data) (i : Fin 4160) : Fin 2816 → ℝ := gate (d.P i)
/-- The block's output. -/
def Data.H2 (d : Data) (i : Fin 4160) (j : Fin 1024) : ℝ := d.H1 i j + down (d.A i) d.Wd j
/-- The error of a row whose target is `y`. -/
def Data.D (d : Data) (i : Fin 4160) (y : Fin 1024 → ℝ) (j : Fin 1024) : ℝ := d.H2 i j * inv (d.H2 i) * d.Gf j - y j
/-- The error, none in the first 64 rows, which have no target. -/
def Data.E (d : Data) (i : Fin 4160) (j : Fin 1024) : ℝ :=
  if h : 64 ≤ i.val then d.D i (d.Tg ⟨i.val - 64, by omega⟩) j else 0
/-- One row's part of the loss. -/
def Data.S (d : Data) (i : Fin 4160) : ℝ := 1 / 2 * meanErr (d.E i)
/-- The loss. -/
def Data.L (d : Data) : ℝ := ∑ i, d.S i
/-- One row's part of the gradient of the final norm's weights. -/
def Data.T (d : Data) (i : Fin 4160) (j : Fin 1024) : ℝ := d.E i j * (1 / 1024) * (d.H2 i j * inv (d.H2 i))
/-- The gradient of the final norm's weights. -/
def Data.N (d : Data) (j : Fin 1024) : ℝ := ∑ i, d.T i j
/-- The gradient of the block's output. -/
def Data.B (d : Data) (i : Fin 4160) : Fin 1024 → ℝ := back (d.E i) d.Gf (d.H2 i)

/-- A sum over all the rows of terms that vanish in the first 64 is the sum over the others. -/
theorem sum_past (f : Fin 4160 → ℝ) (h : ∀ i : Fin 4160, i.val < 64 → f i = 0) :
    ∑ i, f i = ∑ i : Fin 4096, f ⟨i.val + 64, by omega⟩ := by
  refine (Fin.sum_univ_add (a := 64) (b := 4096) f).trans ?_
  rw [Finset.sum_eq_zero fun i _ => h _ i.isLt, zero_add]
  exact Finset.sum_congr rfl fun i _ => congrArg f (Fin.ext (Nat.add_comm 64 i.val))

end Cert.Fwd

end

end
-- ==== Proof.FwdPay.lean ====
/- The forward call: what one point computes from its blocks, as real numbers. -/
module

public import proofs.«01_k».proof.Defs
public import proofs.«01_k».proof.Proof.FwdMath
public import proofs.«01_k».proof.Proof.Gen.FwdKernelIdeal.Skeleton
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FwdKernelIdeal.Fw

open Cert.FwdKernelIdeal Cert.FwdKernelIdeal.Gen Idealize.ShloMosaic Idealize.ShloMosaic.TcCoe Idealize.SL.Sem
open Cert.Ffn (sum_coe div_coe' inv sig lo hi)
open Cert.Fwd

section Payloads

variable {H0 Y H H2 E : Fin 320 → Fin 1024 → ℝ} {P : Fin 320 → Fin 5632 → ℝ} {A : Fin 320 → Fin 2816 → ℝ} {Wd : Fin 2816 → Fin 1024 → ℝ}
  {Wgu : Fin 1024 → Fin 5632 → ℝ} {G Gf : Fin 1024 → ℝ} {Wo : Fin 1024 → Fin 1024 → ℝ}
  {x0 h6 x13 x15 xe : Vec Ideal S320x1024 .f32} {xy : Vec Ideal S320x1024 .bf16} {x3 : Vec Ideal S1024x1024 .bf16}
  {x4 x7 : Vec Ideal S1x1024 .f32} {x5 : Vec Ideal S1024x5632 .bf16} {x6 : Vec Ideal S2816x1024 .bf16}
  {p8 : FVec Ideal S320x5632 .f32} {p10 p11 : FVec Ideal S320x2816 .f32} {x14 : FVec Ideal S320x1 .f32}

theorem pay6_real (h0 : ∀ r k, x0 (ix2 r k) = ((H0 r k : ℝ) : EReal)) (hy : ∀ r k, xy (ix2 r k) = ((Y r k : ℝ) : EReal))
    (hwo : ∀ j k, x3 (ix2 j k) = ((Wo j k : ℝ) : EReal)) (r : Fin 320) (j : Fin 1024) :
    k0_pay6 x0 xy x3 (ix2 r j) = ((H0 r j + proj (Y r) Wo j : ℝ) : EReal) := by
  pointwise [k0_pay6]
  simp only [h0, hy, hwo, ← EReal.coe_mul, sum_coe, ← EReal.coe_add]
  rfl

theorem pay7_real (hh : ∀ r j, k0_pay6 x0 xy x3 (ix2 r j) = ((H r j : ℝ) : EReal)) (hg : ∀ (l : Fin 1) k, x4 (ix2 l k) = ((G k : ℝ) : EReal))
    (r : Fin 320) (j : Fin 1024) : k0_pay7 x0 xy x3 x4 (ix2 r j) = ((H r j * inv (H r) * G j : ℝ) : EReal) := by
  pointwise [k0_pay7]
  simp only [hh, hg, ← EReal.coe_mul, sum_coe, Cert.Ffn.ofBits_1024, Cert.Ffn.ofBits_eps, div_coe' _ (show (1024 : ℝ) ≠ 0 by norm_num),
    ← EReal.coe_add, Cert.Ffn.rsqrt_mean]

theorem pay8_real (hh : ∀ r j, k0_pay6 x0 xy x3 (ix2 r j) = ((H r j : ℝ) : EReal)) (hg : ∀ (l : Fin 1) k, x4 (ix2 l k) = ((G k : ℝ) : EReal))
    (hw : ∀ j f, x5 (ix2 j f) = ((Wgu j f : ℝ) : EReal)) (r : Fin 320) (f : Fin 5632) :
    k0_pay8 x0 xy x3 x4 x5 (ix2 r f) = ((Cert.Ffn.gu (H r) G Wgu f : ℝ) : EReal) := by
  pointwise [k0_pay8]
  simp only [pay7_real hh hg, hw, ← EReal.coe_mul, sum_coe]
  rfl

theorem pay9_real (hh : ∀ r j, k0_pay6 x0 xy x3 (ix2 r j) = ((H r j : ℝ) : EReal)) (hg : ∀ (l : Fin 1) k, x4 (ix2 l k) = ((G k : ℝ) : EReal))
    (hw : ∀ j f, x5 (ix2 j f) = ((Wgu j f : ℝ) : EReal)) (r : Fin 320) (f : Fin 5632) :
    k0_pay9 x0 xy x3 x4 x5 (ix2 r f) = ((Cert.Ffn.gu (H r) G Wgu f : ℝ) : EReal) := by
  pointwise [k0_pay9]
  exact pay8_real hh hg hw r f

theorem pay10_real (hp : ∀ r f, k0_pay8 x0 xy x3 x4 x5 (ix2 r f) = ((P r f : ℝ) : EReal)) (r : Fin 320) (f : Fin 2816) :
    k0_pay10 x0 xy x3 x4 x5 (ix2 r f) = ((P r (lo f) : ℝ) : EReal) := by
  pointwise [k0_pay10]
  exact hp r _

theorem pay11_real (r : Fin 320) (f : Fin 2816) : k0_pay11 (F := Ideal) (ix2 r f) = ((1 / 2 : ℝ) : EReal) := by
  pointwise [k0_pay11]
  exact ofBits_half32

theorem pay12_real (h8 : ∀ r f, p8 (ix2 r f) = ((P r f : ℝ) : EReal)) (h10 : ∀ r f, p10 (ix2 r f) = ((P r (lo f) : ℝ) : EReal))
    (h11 : ∀ r f, p11 (ix2 r f) = ((1 / 2 : ℝ) : EReal)) (r : Fin 320) (f : Fin 2816) :
    k0_pay12 p8 p10 p11 (ix2 r f) = ((gate (P r) f : ℝ) : EReal) := by
  pointwise [k0_pay12]
  simp only [h8, h10, h11, ofBits_half32, ← EReal.coe_mul, ← EReal.coe_add, Ideal.tanh_coe, Cert.Ffn.sig_tanh]
  rfl

theorem pay13_real (hh : ∀ r j, h6 (ix2 r j) = ((H r j : ℝ) : EReal)) (ha : ∀ r f, k0_pay12 p8 p10 p11 (ix2 r f) = ((A r f : ℝ) : EReal))
    (hw : ∀ f j, x6 (ix2 f j) = ((Wd f j : ℝ) : EReal)) (r : Fin 320) (j : Fin 1024) :
    k0_pay13 h6 p8 p10 p11 x6 (ix2 r j) = ((H r j + down (A r) Wd j : ℝ) : EReal) := by
  pointwise [k0_pay13]
  simp only [hh, ha, hw, ← EReal.coe_mul, sum_coe, ← EReal.coe_add]
  rfl

theorem pay14_real (h2 : ∀ r j, k0_pay13 h6 p8 p10 p11 x6 (ix2 r j) = ((H2 r j : ℝ) : EReal)) (r : Fin 320) (l : Fin 1) :
    k0_pay14 h6 p8 p10 p11 x6 (ix2 r l) = ((inv (H2 r) : ℝ) : EReal) := by
  pointwise [k0_pay14]
  simp only [h2, ← EReal.coe_mul, sum_coe, Cert.Ffn.ofBits_1024, Cert.Ffn.ofBits_eps, div_coe' _ (show (1024 : ℝ) ≠ 0 by norm_num),
    ← EReal.coe_add]
  exact Cert.Ffn.rsqrt_meanSq (H2 r)

theorem pay15_real (h2 : ∀ r j, k0_pay13 h6 p8 p10 p11 x6 (ix2 r j) = ((H2 r j : ℝ) : EReal)) (r : Fin 320) (j : Fin 1024) :
    k0_pay15 h6 p8 p10 p11 x6 (ix2 r j) = ((H2 r j * inv (H2 r) : ℝ) : EReal) := by
  pointwise [k0_pay15]
  rw [pay14_real h2, h2, ← EReal.coe_mul]

/-- Which rows have a target. -/
theorem past_head : ∀ (t : Fin 13) (r : Fin 320),
    IntOp.cmpi .sge (IntOp.addi (Scalar.muli (BitVec.ofNat 32 t.val) 320#32) (BitVec.ofNat 32 r.val)) 64#32
      = if 64 ≤ t.val * 320 + r.val then 1#1 else 0#1 := by decide +kernel

theorem pay16_real {xt : Vec Ideal S1x320x1024 .f32} {T : Fin 320 → Fin 1024 → ℝ} (t : Fin 13)
    (h2 : ∀ r j, k0_pay13 h6 p8 p10 p11 x6 (ix2 r j) = ((H2 r j : ℝ) : EReal))
    (hg : ∀ (l : Fin 1) k, x7 (ix2 l k) = ((Gf k : ℝ) : EReal))
    (ht : ∀ (l : Fin 1) r j, xt (ix3 l r j) = ((T r j : ℝ) : EReal)) (r : Fin 320) (j : Fin 1024) :
    k0_pay16 (BitVec.ofNat 32 t.val) h6 p8 p10 p11 x6 x7 xt (ix2 r j)
      = ((if 64 ≤ t.val * 320 + r.val then H2 r j * inv (H2 r) * Gf j - T r j else 0 : ℝ) : EReal) := by
  pointwise [k0_pay16]
  simp only [pay15_real h2, hg, ht, ← EReal.coe_mul, ← EReal.coe_sub]
  rw [past_head t r]
  by_cases h : 64 ≤ t.val * 320 + r.val
  · rw [if_pos h, if_pos h]; rfl
  · rw [if_neg h, if_neg h, EReal.coe_zero]; rfl

theorem pay17_real {xq : Vec Ideal S1x1 .f32} (he : ∀ r j, xe (ix2 r j) = ((E r j : ℝ) : EReal)) (l k : Fin 1) :
    k0_pay17 xe xq (ix2 l k) = xq (ix2 l k) + ((∑ r, 1 / 2 * meanErr (E r) : ℝ) : EReal) := by
  pointwise [k0_pay17]
  simp only [he, ← EReal.coe_mul, sum_coe, Cert.Ffn.ofBits_1024, ofBits_half32, div_coe' _ (show (1024 : ℝ) ≠ 0 by norm_num), Finset.mul_sum]
  rfl

theorem pay18_real (he : ∀ r j, xe (ix2 r j) = ((E r j : ℝ) : EReal)) (r : Fin 320) (j : Fin 1024) :
    k0_pay18 (F := Ideal) xe (ix2 r j) = ((E r j * (1 / 1024) : ℝ) : EReal) := by
  pointwise [k0_pay18]
  simp only [he, ofBits_inv1024, ← EReal.coe_mul]

theorem pay19_real {xr : Vec Ideal S1x1024 .f32} (hs : ∀ r j, x15 (ix2 r j) = ((H2 r j * inv (H2 r) : ℝ) : EReal))
    (he : ∀ r j, xe (ix2 r j) = ((E r j : ℝ) : EReal)) (l : Fin 1) (j : Fin 1024) :
    k0_pay19 x15 xe xr (ix2 l j) = xr (ix2 l j) + ((∑ r, E r j * (1 / 1024) * (H2 r j * inv (H2 r)) : ℝ) : EReal) := by
  pointwise [k0_pay19]
  simp only [pay18_real he, hs, ← EReal.coe_mul, sum_coe]

theorem pay20_real (hi : ∀ r (l : Fin 1), x14 (ix2 r l) = ((inv (H2 r) : ℝ) : EReal))
    (hs : ∀ r j, x15 (ix2 r j) = ((H2 r j * inv (H2 r) : ℝ) : EReal)) (hg : ∀ (l : Fin 1) k, x7 (ix2 l k) = ((Gf k : ℝ) : EReal))
    (he : ∀ r j, xe (ix2 r j) = ((E r j : ℝ) : EReal)) (r : Fin 320) (j : Fin 1024) :
    k0_pay20 x14 x15 x7 xe (ix2 r j) = ((back (E r) Gf (H2 r) j : ℝ) : EReal) := by
  pointwise [k0_pay20]
  simp only [pay18_real he, hi, hs, hg, ← EReal.coe_mul, sum_coe, Cert.Ffn.ofBits_1024, div_coe' _ (show (1024 : ℝ) ≠ 0 by norm_num),
    ← EReal.coe_sub]
  rfl

theorem pay21_real (hi : ∀ r (l : Fin 1), x14 (ix2 r l) = ((inv (H2 r) : ℝ) : EReal))
    (hs : ∀ r j, x15 (ix2 r j) = ((H2 r j * inv (H2 r) : ℝ) : EReal)) (hg : ∀ (l : Fin 1) k, x7 (ix2 l k) = ((Gf k : ℝ) : EReal))
    (he : ∀ r j, xe (ix2 r j) = ((E r j : ℝ) : EReal)) (r : Fin 320) (j : Fin 1024) :
    k0_pay21 x14 x15 x7 xe (ix2 r j) = ((back (E r) Gf (H2 r) j : ℝ) : EReal) := by
  pointwise [k0_pay21]
  exact pay20_real hi hs hg he r j

end Payloads

end Cert.FwdKernelIdeal.Fw

end

end
-- ==== Proof.FwdKern.lean ====
/- The forward call: what each point leaves in the outputs' blocks, as real numbers. -/
module

public import proofs.«01_k».proof.Proof.FwdRes
public import proofs.«01_k».proof.Proof.FwdPay

@[expose] public section

set_option maxRecDepth 16384

noncomputable section

namespace Cert.FwdKernelIdeal.Fw

open Cert.FwdKernelIdeal Cert.FwdKernelIdeal.Gen Idealize.ShloMosaic Idealize.ShloMosaic.TcCoe Idealize.SL.Sem
open Cert.Ffn (sum_coe div_coe' inv sig lo hi)
open Cert.Fwd

/-- Row `r` of the tile of point `t`. -/
def row (t : Fin cfg0.N) (r : Fin 320) : Fin 4160 := ⟨t.val * 320 + r.val, by
  have : t.val < 13 := t.isLt
  omega⟩

theorem emb0 (t : Fin cfg0.N) (r : Fin 320) (k : Fin 1024) :
    (win0_0.blk t).view.emb (ix2 r k : S320x1024.Idx) = (ix2 (row t r) k : S4160x1024.Idx) := by
  have e : ∀ t : Fin cfg0.N, win0_0.index t 0 = t.val := by decide +kernel
  have e1 : ∀ t : Fin cfg0.N, win0_0.index t 1 = 0 := by decide +kernel
  blk_ext [e t, e1 t, row]

theorem emb1 (t : Fin cfg0.N) (r : Fin 320) (k : Fin 512) :
    (win0_1.blk t).view.emb (ix2 r k : S320x512.Idx) = (ix2 (row t r) k : S4160x512.Idx) := by
  have e : ∀ t : Fin cfg0.N, win0_1.index t 0 = t.val := by decide +kernel
  have e1 : ∀ t : Fin cfg0.N, win0_1.index t 1 = 0 := by decide +kernel
  blk_ext [e t, e1 t, row]

theorem emb2 (t : Fin cfg0.N) (r : Fin 320) (k : Fin 512) :
    (win0_2.blk t).view.emb (ix2 r k : S320x512.Idx) = (ix2 (row t r) k : S4160x512.Idx) := by
  have e : ∀ t : Fin cfg0.N, win0_2.index t 0 = t.val := by decide +kernel
  have e1 : ∀ t : Fin cfg0.N, win0_2.index t 1 = 0 := by decide +kernel
  blk_ext [e t, e1 t, row]

theorem emb3 (t : Fin cfg0.N) (r : Fin 1024) (k : Fin 1024) :
    (win0_3.blk t).view.emb (ix2 r k : S1024x1024.Idx) = (ix2 r k : S1024x1024.Idx) := by
  have e : ∀ t : Fin cfg0.N, win0_3.index t 0 = 0 := by decide +kernel
  have e1 : ∀ t : Fin cfg0.N, win0_3.index t 1 = 0 := by decide +kernel
  blk_ext [e t, e1 t, row]

theorem emb4 (t : Fin cfg0.N) (r : Fin 1) (k : Fin 1024) :
    (win0_4.blk t).view.emb (ix2 r k : S1x1024.Idx) = (ix2 r k : S1x1024.Idx) := by
  have e : ∀ t : Fin cfg0.N, win0_4.index t 0 = 0 := by decide +kernel
  have e1 : ∀ t : Fin cfg0.N, win0_4.index t 1 = 0 := by decide +kernel
  blk_ext [e t, e1 t, row]

theorem emb5 (t : Fin cfg0.N) (r : Fin 1024) (k : Fin 5632) :
    (win0_5.blk t).view.emb (ix2 r k : S1024x5632.Idx) = (ix2 r k : S1024x5632.Idx) := by
  have e : ∀ t : Fin cfg0.N, win0_5.index t 0 = 0 := by decide +kernel
  have e1 : ∀ t : Fin cfg0.N, win0_5.index t 1 = 0 := by decide +kernel
  blk_ext [e t, e1 t, row]

theorem emb6 (t : Fin cfg0.N) (r : Fin 2816) (k : Fin 1024) :
    (win0_6.blk t).view.emb (ix2 r k : S2816x1024.Idx) = (ix2 r k : S2816x1024.Idx) := by
  have e : ∀ t : Fin cfg0.N, win0_6.index t 0 = 0 := by decide +kernel
  have e1 : ∀ t : Fin cfg0.N, win0_6.index t 1 = 0 := by decide +kernel
  blk_ext [e t, e1 t, row]

theorem emb7 (t : Fin cfg0.N) (r : Fin 1) (k : Fin 1024) :
    (win0_7.blk t).view.emb (ix2 r k : S1x1024.Idx) = (ix2 r k : S1x1024.Idx) := by
  have e : ∀ t : Fin cfg0.N, win0_7.index t 0 = 0 := by decide +kernel
  have e1 : ∀ t : Fin cfg0.N, win0_7.index t 1 = 0 := by decide +kernel
  blk_ext [e t, e1 t, row]

theorem emb8 (t : Fin cfg0.N) (r : Fin 320) (k : Fin 1024) :
    (win0_8.blk t).view.emb (ix2 r k : S320x1024.Idx) = (ix2 (row t r) k : S4160x1024.Idx) := by
  have e : ∀ t : Fin cfg0.N, win0_8.index t 0 = t.val := by decide +kernel
  have e1 : ∀ t : Fin cfg0.N, win0_8.index t 1 = 0 := by decide +kernel
  blk_ext [e t, e1 t, row]

theorem emb9 (t : Fin cfg0.N) (r : Fin 320) (k : Fin 1024) :
    (win0_9.blk t).view.emb (ix2 r k : S320x1024.Idx) = (ix2 (row t r) k : S4160x1024.Idx) := by
  have e : ∀ t : Fin cfg0.N, win0_9.index t 0 = t.val := by decide +kernel
  have e1 : ∀ t : Fin cfg0.N, win0_9.index t 1 = 0 := by decide +kernel
  blk_ext [e t, e1 t, row]

theorem emb10 (t : Fin cfg0.N) (r : Fin 320) (k : Fin 1024) :
    (win0_10.blk t).view.emb (ix2 r k : S320x1024.Idx) = (ix2 (row t r) k : S4160x1024.Idx) := by
  have e : ∀ t : Fin cfg0.N, win0_10.index t 0 = t.val := by decide +kernel
  have e1 : ∀ t : Fin cfg0.N, win0_10.index t 1 = 0 := by decide +kernel
  blk_ext [e t, e1 t, row]

theorem emb11 (t : Fin cfg0.N) (r : Fin 320) (k : Fin 5632) :
    (win0_11.blk t).view.emb (ix2 r k : S320x5632.Idx) = (ix2 (row t r) k : S4160x5632.Idx) := by
  have e : ∀ t : Fin cfg0.N, win0_11.index t 0 = t.val := by decide +kernel
  have e1 : ∀ t : Fin cfg0.N, win0_11.index t 1 = 0 := by decide +kernel
  blk_ext [e t, e1 t, row]

theorem emb12 (t : Fin cfg0.N) (r : Fin 320) (k : Fin 2816) :
    (win0_12.blk t).view.emb (ix2 r k : S320x2816.Idx) = (ix2 (row t r) k : S4160x2816.Idx) := by
  have e : ∀ t : Fin cfg0.N, win0_12.index t 0 = t.val := by decide +kernel
  have e1 : ∀ t : Fin cfg0.N, win0_12.index t 1 = 0 := by decide +kernel
  blk_ext [e t, e1 t, row]

theorem emb13 (t : Fin cfg0.N) (r : Fin 320) (k : Fin 1024) :
    (win0_13.blk t).view.emb (ix2 r k : S320x1024.Idx) = (ix2 (row t r) k : S4160x1024.Idx) := by
  have e : ∀ t : Fin cfg0.N, win0_13.index t 0 = t.val := by decide +kernel
  have e1 : ∀ t : Fin cfg0.N, win0_13.index t 1 = 0 := by decide +kernel
  blk_ext [e t, e1 t, row]

theorem emb14 (t : Fin cfg0.N) (r : Fin 320) (k : Fin 1024) :
    (win0_14.blk t).view.emb (ix2 r k : S320x1024.Idx) = (ix2 (row t r) k : S4160x1024.Idx) := by
  have e : ∀ t : Fin cfg0.N, win0_14.index t 0 = t.val := by decide +kernel
  have e1 : ∀ t : Fin cfg0.N, win0_14.index t 1 = 0 := by decide +kernel
  blk_ext [e t, e1 t, row]

theorem emb15 (t : Fin cfg0.N) (r : Fin 1) (k : Fin 1) :
    (win0_15.blk t).view.emb (ix2 r k : S1x1.Idx) = (ix2 r k : S1x1.Idx) := by
  have e : ∀ t : Fin cfg0.N, win0_15.index t 0 = 0 := by decide +kernel
  have e1 : ∀ t : Fin cfg0.N, win0_15.index t 1 = 0 := by decide +kernel
  blk_ext [e t, e1 t, row]

theorem emb16 (t : Fin cfg0.N) (r : Fin 1) (k : Fin 1024) :
    (win0_16.blk t).view.emb (ix2 r k : S1x1024.Idx) = (ix2 r k : S1x1024.Idx) := by
  have e : ∀ t : Fin cfg0.N, win0_16.index t 0 = 0 := by decide +kernel
  have e1 : ∀ t : Fin cfg0.N, win0_16.index t 1 = 0 := by decide +kernel
  blk_ext [e t, e1 t, row]

section Blocks

variable (m : (ℓ : Loc nD τ sig) → Buf (Elt Ideal) ℓ) (c : Dev nD) (d : Data)

/-- The arguments in memory are the given real numbers. -/
structure Holds : Prop where
  h : ∀ i k, m ((c : Thread nD τ).loc main_arg0) (ix2 i k : S4160x1024.Idx) = ((d.H0 i k : ℝ) : EReal)
  y : ∀ i k, m ((c : Thread nD τ).loc main_arg1) (ix2 i k : S4160x1024.Idx) = ((d.Y i k : ℝ) : EReal)
  wo : ∀ i j, m ((c : Thread nD τ).loc main_arg2) (ix2 i j : S1024x1024.Idx) = ((d.Wo i j : ℝ) : EReal)
  g2 : ∀ (l : Fin 1) k, m ((c : Thread nD τ).loc main_arg3) (ix2 l k : S1x1024.Idx) = ((d.G2 k : ℝ) : EReal)
  wgu : ∀ j f, m ((c : Thread nD τ).loc main_arg4) (ix2 j f : S1024x5632.Idx) = ((d.Wgu j f : ℝ) : EReal)
  wd : ∀ f j, m ((c : Thread nD τ).loc main_arg5) (ix2 f j : S2816x1024.Idx) = ((d.Wd f j : ℝ) : EReal)
  gf : ∀ (l : Fin 1) k, m ((c : Thread nD τ).loc main_arg6) (ix2 l k : S1x1024.Idx) = ((d.Gf k : ℝ) : EReal)
  tg : ∀ i k, m ((c : Thread nD τ).loc main_arg7) (ix2 i k : S4096x1024.Idx) = ((d.Tg i k : ℝ) : EReal)

variable {m c d} (hm : Holds m c d)
include hm

theorem blk0 (t : Fin cfg0.N) (r : Fin 320) (k : Fin 1024) :
    (iblk m c 0 t : Vec Ideal S320x1024 .f32) (ix2 r k) = ((d.H0 (row t r) k : ℝ) : EReal) := by
  blk_simp [iblk]
  rw [emb0, V_main_arg0]
  exact hm.h _ _

theorem blk1 (t : Fin cfg0.N) (r : Fin 320) (k : Fin 512) :
    (iblk m c 1 t : Vec Ideal S320x512 .bf16) (ix2 r k) = ((d.Y (row t r) ⟨k.val, by omega⟩ : ℝ) : EReal) := by
  blk_simp [iblk]
  rw [emb1]
  unfold V
  after_reads_at
  exact hm.y _ _

theorem blk2 (t : Fin cfg0.N) (r : Fin 320) (k : Fin 512) :
    (iblk m c 2 t : Vec Ideal S320x512 .bf16) (ix2 r k) = ((d.Y (row t r) ⟨512 + k.val, by omega⟩ : ℝ) : EReal) := by
  blk_simp [iblk]
  rw [emb2]
  unfold V
  after_reads_at
  exact hm.y _ _

theorem blk3 (t : Fin cfg0.N) (r : Fin 1024) (k : Fin 1024) :
    (iblk m c 3 t : Vec Ideal S1024x1024 .bf16) (ix2 r k) = ((d.Wo r k : ℝ) : EReal) := by
  blk_simp [iblk]
  rw [emb3]
  unfold V
  after_reads_at
  exact hm.wo _ _

theorem blk4 (t : Fin cfg0.N) (r : Fin 1) (k : Fin 1024) :
    (iblk m c 4 t : Vec Ideal S1x1024 .f32) (ix2 r k) = ((d.G2 k : ℝ) : EReal) := by
  blk_simp [iblk]
  rw [emb4, V_main_arg3]
  exact hm.g2 _ _

theorem blk5 (t : Fin cfg0.N) (r : Fin 1024) (k : Fin 5632) :
    (iblk m c 5 t : Vec Ideal S1024x5632 .bf16) (ix2 r k) = ((d.Wgu r k : ℝ) : EReal) := by
  blk_simp [iblk]
  rw [emb5]
  unfold V
  after_reads_at
  exact hm.wgu _ _

theorem blk6 (t : Fin cfg0.N) (r : Fin 2816) (k : Fin 1024) :
    (iblk m c 6 t : Vec Ideal S2816x1024 .bf16) (ix2 r k) = ((d.Wd r k : ℝ) : EReal) := by
  blk_simp [iblk]
  rw [emb6]
  unfold V
  after_reads_at
  exact hm.wd _ _

theorem blk7 (t : Fin cfg0.N) (r : Fin 1) (k : Fin 1024) :
    (iblk m c 7 t : Vec Ideal S1x1024 .f32) (ix2 r k) = ((d.Gf k : ℝ) : EReal) := by
  blk_simp [iblk]
  rw [emb7, V_main_arg6]
  exact hm.gf _ _

/-- The rows given to the output projection. -/
theorem ys_real (t : Fin cfg0.N) (r : Fin 320) (k : Fin 1024) :
    ys (iblk m c 1 t) (iblk m c 2 t) (ix2 r k : S320x1024.Idx) = ((d.Y (row t r) k : ℝ) : EReal) := by
  by_cases h : k.val < 512
  · refine (dif_pos (show ((ix2 r k : S320x1024.Idx) 1).val < 512 from h)).trans ?_
    pointwise [k0_pay4]
    exact blk1 hm t r ⟨k.val, h⟩
  · refine (dif_neg (show ¬((ix2 r k : S320x1024.Idx) 1).val < 512 from h)).trans ?_
    pointwise [k0_pay5]
    refine (blk2 hm t r ⟨k.val - 512, by omega⟩).trans ?_
    have e : (⟨512 + (k.val - 512), by omega⟩ : Fin 1024) = k := Fin.ext (by show 512 + (k.val - 512) = k.val; omega)
    rw [e]

theorem h1_real (t : Fin cfg0.N) (r : Fin 320) (j : Fin 1024) :
    k0_pay6 (iblk m c 0 t) (ys (iblk m c 1 t) (iblk m c 2 t)) (iblk m c 3 t) (ix2 r j) = ((d.H1 (row t r) j : ℝ) : EReal) :=
  pay6_real (blk0 hm t) (ys_real hm t) (blk3 hm t) r j

theorem p_real (t : Fin cfg0.N) (r : Fin 320) (f : Fin 5632) :
    k0_pay8 (iblk m c 0 t) (ys (iblk m c 1 t) (iblk m c 2 t)) (iblk m c 3 t) (iblk m c 4 t) (iblk m c 5 t) (ix2 r f)
      = ((d.P (row t r) f : ℝ) : EReal) :=
  pay8_real (h1_real hm t) (blk4 hm t) (blk5 hm t) r f

theorem a_real (t : Fin cfg0.N) (r : Fin 320) (f : Fin 2816) :
    k0_pay12 (k0_pay8 (iblk m c 0 t) (ys (iblk m c 1 t) (iblk m c 2 t)) (iblk m c 3 t) (iblk m c 4 t) (iblk m c 5 t))
      (k0_pay10 (iblk m c 0 t) (ys (iblk m c 1 t) (iblk m c 2 t)) (iblk m c 3 t) (iblk m c 4 t) (iblk m c 5 t)) k0_pay11 (ix2 r f)
      = ((d.A (row t r) f : ℝ) : EReal) :=
  pay12_real (p_real hm t) (pay10_real (p_real hm t)) pay11_real r f

theorem h2_real (t : Fin cfg0.N) (r : Fin 320) (j : Fin 1024) :
    k0_pay13 (k0_pay6 (iblk m c 0 t) (ys (iblk m c 1 t) (iblk m c 2 t)) (iblk m c 3 t))
      (k0_pay8 (iblk m c 0 t) (ys (iblk m c 1 t) (iblk m c 2 t)) (iblk m c 3 t) (iblk m c 4 t) (iblk m c 5 t))
      (k0_pay10 (iblk m c 0 t) (ys (iblk m c 1 t) (iblk m c 2 t)) (iblk m c 3 t) (iblk m c 4 t) (iblk m c 5 t)) k0_pay11 (iblk m c 6 t) (ix2 r j)
      = ((d.H2 (row t r) j : ℝ) : EReal) :=
  pay13_real (h1_real hm t) (a_real hm t) (blk6 hm t) r j

omit hm in
/-- The target of a row, none in the first 64. -/
def goal (d : Data) (i : Fin 4160) (j : Fin 1024) : ℝ := if h : 64 ≤ i.val then d.Tg ⟨i.val - 64, by omega⟩ j else 0

omit hm in
theorem coord : ∀ t : Fin cfg0.N, (grid0.coords t 0).val = t.val := by decide +kernel

/-- The error of a point's rows, from their targets. -/
theorem err_real (t : Fin cfg0.N) {P : Vec Ideal S320x1024 .f32} (hP : ∀ r j, P (ix2 r j : S320x1024.Idx) = ((goal d (row t r) j : ℝ) : EReal))
    (r : Fin 320) (j : Fin 1024) :
    err (BitVec.ofNat 32 (grid0.coords t 0).val) (iblk m c 0 t) (iblk m c 1 t) (iblk m c 2 t) (iblk m c 3 t) (iblk m c 4 t) (iblk m c 5 t)
      (iblk m c 6 t) (iblk m c 7 t) P (ix2 r j) = ((d.E (row t r) j : ℝ) : EReal) := by
  rw [coord t]
  refine (pay16_real (T := fun r j => goal d (row t r) j) t (h2_real hm t) (blk7 hm t) (fun l r j => hP r j) r j).trans (congrArg _ ?_)
  unfold Data.E Data.D goal
  by_cases h : 64 ≤ (row t r).val
  · rw [if_pos (show 64 ≤ t.val * 320 + r.val from h), dif_pos h, dif_pos h]
  · rw [if_neg (show ¬64 ≤ t.val * 320 + r.val from h), dif_neg h]

omit hm in
theorem emb_head (r : Fin 256) (j : Fin 1024) :
    headRows.view.emb (ix2 r j : S256x1024.Idx) = (ix2 (⟨r.val, by omega⟩ : Fin 4096) j : S4096x1024.Idx) := by
  show (Rect.unit (s := S4096x1024) ![0, 0] S256x1024.size inb_S4096x1024_S256x1024_0_0).emb (ix2 r j : S256x1024.Idx) = _
  funext k; fin_cases k <;> apply Fin.ext <;> simp [Rect.unit, Rect.emb]

omit hm in
theorem emb_rows (b : Fin 12) (r : Fin 320) (j : Fin 1024) :
    (rows b).view.emb (ix2 r j : S320x1024.Idx) = (ix2 (⟨320 * b.val + 256 + r.val, by omega⟩ : Fin 4096) j : S4096x1024.Idx) := by
  show (Rect.unit (s := S4096x1024) ![320 * b.val + 256, 0] S320x1024.size (rows_inb b)).emb (ix2 r j : S320x1024.Idx) = _
  funext k; fin_cases k <;> apply Fin.ext <;> simp [Rect.unit, Rect.emb]

/-- The targets at the first point. -/
theorem goal_first (t : Fin cfg0.N) (h0 : t.val = 0) (r : Fin 320) (j : Fin 1024) :
    firstRows (F := Ideal) (c := c) (V m c main_arg7) (ix2 r j : S320x1024.Idx) = ((goal d (row t r) j : ℝ) : EReal) := by
  have hr : (row t r).val = r.val := by show t.val * 320 + r.val = r.val; omega
  unfold goal
  by_cases h : r.val < 64
  · refine (dif_pos (show ((ix2 r j : S320x1024.Idx) 0).val < 64 from h)).trans ?_
    rw [dif_neg (by omega), EReal.coe_zero]
    pointwise [k0_pay3]
  · refine (dif_neg (show ¬((ix2 r j : S320x1024.Idx) 0).val < 64 from h)).trans ?_
    rw [dif_pos (show 64 ≤ (row t r).val by omega), V_main_arg7]
    refine Eq.trans ?_ (hm.tg ⟨(row t r).val - 64, by omega⟩ j)
    refine congrArg (m ((c : Thread nD τ).loc main_arg7)) ((emb_head (⟨r.val - 64, by omega⟩ : Fin 256) j).trans ?_)
    refine congrArg (fun i : Fin 4096 => (ix2 i j : S4096x1024.Idx)) (Fin.ext ?_)
    show r.val - 64 = (row t r).val - 64
    omega

/-- The targets at a later point. -/
theorem goal_next (t : Fin cfg0.N) (h0 : ¬t.val = 0) (r : Fin 320) (j : Fin 1024) :
    (rows (blkNo (t.val - 1))).view.read (Elt Ideal) (V m c main_arg7) (ix2 r j : S320x1024.Idx) = ((goal d (row t r) j : ℝ) : EReal) := by
  have hb : (blkNo (t.val - 1)).val = t.val - 1 := Nat.mod_eq_of_lt (by have : t.val < 13 := t.isLt; omega)
  have hr : (row t r).val = t.val * 320 + r.val := rfl
  unfold goal
  rw [dif_pos (show 64 ≤ (row t r).val by omega), V_main_arg7]
  refine Eq.trans ?_ (hm.tg ⟨(row t r).val - 64, by omega⟩ j)
  refine congrArg (m ((c : Thread nD τ).loc main_arg7)) ((emb_rows (blkNo (t.val - 1)) r j).trans ?_)
  refine congrArg (fun i : Fin 4096 => (ix2 i j : S4096x1024.Idx)) (Fin.ext ?_)
  show 320 * (blkNo (t.val - 1)).val + 256 + r.val = (row t r).val - 64
  omega

section Tiles

variable (t : Fin cfg0.N) {P : Vec Ideal S320x1024 .f32} (q : Vec Ideal S1x1 .f32) (r0 : Vec Ideal S1x1024 .f32)

theorem tile_h1 (r : Fin 320) (j : Fin 1024) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).h1 (ix2 r j) = ((d.H1 (row t r) j : ℝ) : EReal) :=
  h1_real hm t r j

theorem tile_v (r : Fin 320) (j : Fin 1024) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).v (ix2 r j) = ((d.X (row t r) j : ℝ) : EReal) :=
  pay7_real (h1_real hm t) (blk4 hm t) r j

theorem tile_y (r : Fin 320) (j : Fin 1024) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).y (ix2 r j) = ((d.Y (row t r) j : ℝ) : EReal) :=
  ys_real hm t r j

theorem tile_gu (r : Fin 320) (j : Fin 5632) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).gu (ix2 r j) = ((d.P (row t r) j : ℝ) : EReal) :=
  pay9_real (h1_real hm t) (blk4 hm t) (blk5 hm t) r j

theorem tile_act (r : Fin 320) (j : Fin 2816) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).act (ix2 r j) = ((d.A (row t r) j : ℝ) : EReal) :=
  a_real hm t r j

theorem tile_dh (hP : ∀ r j, P (ix2 r j : S320x1024.Idx) = ((goal d (row t r) j : ℝ) : EReal)) (r : Fin 320) (j : Fin 1024) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).dh (ix2 r j) = ((d.B (row t r) j : ℝ) : EReal) :=
  pay20_real (pay14_real (h2_real hm t)) (pay15_real (h2_real hm t)) (blk7 hm t) (err_real hm t hP) r j

theorem tile_dhb (hP : ∀ r j, P (ix2 r j : S320x1024.Idx) = ((goal d (row t r) j : ℝ) : EReal)) (r : Fin 320) (j : Fin 1024) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).dhb (ix2 r j) = ((d.B (row t r) j : ℝ) : EReal) :=
  pay21_real (pay14_real (h2_real hm t)) (pay15_real (h2_real hm t)) (blk7 hm t) (err_real hm t hP) r j

theorem tile_loss (hP : ∀ r j, P (ix2 r j : S320x1024.Idx) = ((goal d (row t r) j : ℝ) : EReal)) (r : Fin 1) (j : Fin 1) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).loss (ix2 r j) = q (ix2 r j) + ((∑ i, d.S (row t i) : ℝ) : EReal) :=
  pay17_real (err_real hm t hP) r j

theorem tile_gg (hP : ∀ r j, P (ix2 r j : S320x1024.Idx) = ((goal d (row t r) j : ℝ) : EReal)) (r : Fin 1) (j : Fin 1024) :
    (res (BitVec.ofNat 32 (grid0.coords t 0).val) (iblk m c 0 t) (iblk m c 1 t) (iblk m c 2 t) (iblk m c 3 t) (iblk m c 4 t) (iblk m c 5 t) (iblk m c 6 t) (iblk m c 7 t) P q r0).gg (ix2 r j) = r0 (ix2 r j) + ((∑ i, d.T (row t i) j : ℝ) : EReal) :=
  pay19_real (pay15_real (h2_real hm t)) (err_real hm t hP) r j

end Tiles

end Blocks

end Cert.FwdKernelIdeal.Fw

end

end
-- ==== Proof.FwdArr.lean ====
/- The forward call: the arrays after the run, as real numbers. -/
module

public import proofs.«01_k».proof.Proof.FwdRegion
public import proofs.«01_k».proof.Proof.FwdKern

@[expose] public section

set_option maxRecDepth 16384

noncomputable section

namespace Cert.FwdKernelIdeal.Fw

open Cert.FwdKernelIdeal Cert.FwdKernelIdeal.Gen Idealize.ShloMosaic Idealize.ShloMosaic.TcCoe Idealize.SL.Sem
open Idealize.ShloMosaic.Pipeline (Dat)
open Cert.Ffn (sum_coe)
open Cert.Fwd

variable {m : (ℓ : Loc nD τ sig) → Buf (Elt Ideal) ℓ} {c : Dev nD} {d : Data} (hm : Holds m c d)
include hm

/-- After the run: the block's middle. -/
theorem arr8 : (dats m 0 c).arrAt 8 cfg0.N = fun y : S4160x1024.Idx => ((d.H1 (y 0) (y 1) : ℝ) : EReal) := by
  refine (dats m 0 c).arrAt_eq_of_covers 8 _ (by decide +kernel) fun t hf y => ?_
  blk_simp
  rw [after0_8]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.H1 (y 0) (y 1) : ℝ) : EReal)) (emb8 t r f)).symm
  by_cases h0 : t.val = 0
  · rw [outs_first m c t h0]
    exact tile_h1 hm t _ _ r f
  · rw [outs_next m c t h0]
    exact tile_h1 hm t _ _ r f

/-- After the run: the normalized rows. -/
theorem arr9 : (dats m 0 c).arrAt 9 cfg0.N = fun y : S4160x1024.Idx => ((d.X (y 0) (y 1) : ℝ) : EReal) := by
  refine (dats m 0 c).arrAt_eq_of_covers 9 _ (by decide +kernel) fun t hf y => ?_
  blk_simp
  rw [after0_9]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.X (y 0) (y 1) : ℝ) : EReal)) (emb9 t r f)).symm
  by_cases h0 : t.val = 0
  · rw [outs_first m c t h0]
    exact tile_v hm t _ _ r f
  · rw [outs_next m c t h0]
    exact tile_v hm t _ _ r f

/-- After the run: the joined rows. -/
theorem arr10 : (dats m 0 c).arrAt 10 cfg0.N = fun y : S4160x1024.Idx => ((d.Y (y 0) (y 1) : ℝ) : EReal) := by
  refine (dats m 0 c).arrAt_eq_of_covers 10 _ (by decide +kernel) fun t hf y => ?_
  blk_simp
  rw [after0_10]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.Y (y 0) (y 1) : ℝ) : EReal)) (emb10 t r f)).symm
  by_cases h0 : t.val = 0
  · rw [outs_first m c t h0]
    exact tile_y hm t _ _ r f
  · rw [outs_next m c t h0]
    exact tile_y hm t _ _ r f

/-- After the run: the two halves. -/
theorem arr11 : (dats m 0 c).arrAt 11 cfg0.N = fun y : S4160x5632.Idx => ((d.P (y 0) (y 1) : ℝ) : EReal) := by
  refine (dats m 0 c).arrAt_eq_of_covers 11 _ (by decide +kernel) fun t hf y => ?_
  blk_simp
  rw [after0_11]
  obtain ⟨r, f, rfl⟩ : ∃ (r : Fin 320) (f : Fin 5632), y = (ix2 r f : S320x5632.Idx) := ⟨y 0, y 1, eq_ix2 (n0 := 320) (n1 := 5632) y⟩
  refine Eq.trans ?_ (congrArg (fun y : S4160x5632.Idx => ((d.P (y 0) (y 1) : ℝ) : EReal)) (emb11 t r f)).symm
  by_cases h0 : t.val = 0
  · rw [outs_first m c t h0]
    exact tile_gu hm t _ _ r f
  · rw [outs_next m c t h0]
    exact tile_gu hm t _ _ r f

/-- After the run: the activation. -/
theorem arr12 : (dats m 0 c).arrAt 12 cfg0.N = fun y : S4160x2816.Idx => ((d.A (y 0) (y 1) : ℝ) : EReal) := by
  refine (dats m 0 c).arrAt_eq_of_covers 12 _ (by decide +kernel) fun t hf y => ?_
  blk_simp
  rw [after0_12]
  obtain ⟨r, f, rfl⟩ : ∃ (r : Fin 320) (f : Fin 2816), y = (ix2 r f : S320x2816.Idx) := ⟨y 0, y 1, eq_ix2 (n0 := 320) (n1 := 2816) y⟩
  refine Eq.trans ?_ (congrArg (fun y : S4160x2816.Idx => ((d.A (y 0) (y 1) : ℝ) : EReal)) (emb12 t r f)).symm
  by_cases h0 : t.val = 0
  · rw [outs_first m c t h0]
    exact tile_act hm t _ _ r f
  · rw [outs_next m c t h0]
    exact tile_act hm t _ _ r f

/-- After the run: the gradient of the block's output. -/
theorem arr13 : (dats m 0 c).arrAt 13 cfg0.N = fun y : S4160x1024.Idx => ((d.B (y 0) (y 1) : ℝ) : EReal) := by
  refine (dats m 0 c).arrAt_eq_of_covers 13 _ (by decide +kernel) fun t hf y => ?_
  blk_simp
  rw [after0_13]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.B (y 0) (y 1) : ℝ) : EReal)) (emb13 t r f)).symm
  by_cases h0 : t.val = 0
  · rw [outs_first m c t h0]
    exact tile_dh hm t _ _ (goal_first hm t h0) r f
  · rw [outs_next m c t h0]
    exact tile_dh hm t _ _ (goal_next hm t h0) r f

/-- After the run: the same gradient in the shorter format. -/
theorem arr14 : (dats m 0 c).arrAt 14 cfg0.N = fun y : S4160x1024.Idx => ((d.B (y 0) (y 1) : ℝ) : EReal) := by
  refine (dats m 0 c).arrAt_eq_of_covers 14 _ (by decide +kernel) fun t hf y => ?_
  blk_simp
  rw [after0_14]
  obtain ⟨r, f, rfl⟩ : ∃ (r : Fin 320) (f : Fin 1024), y = (ix2 r f : S320x1024.Idx) := ⟨y 0, y 1, eq_ix2 (n0 := 320) (n1 := 1024) y⟩
  refine Eq.trans ?_ (congrArg (fun y : S4160x1024.Idx => ((d.B (y 0) (y 1) : ℝ) : EReal)) (emb14 t r f)).symm
  by_cases h0 : t.val = 0
  · rw [outs_first m c t h0]
    exact tile_dhb hm t _ _ (goal_first hm t h0) r f
  · rw [outs_next m c t h0]
    exact tile_dhb hm t _ _ (goal_next hm t h0) r f

omit hm in
/-- The rows of the tiles, one tile after the other, are all the rows. -/
theorem sum_rows (f : Fin 4160 → ℝ) : ∑ t : Fin cfg0.N, ∑ r : Fin 320, f (row t r) = ∑ i, f i := by
  refine Eq.trans ?_ (Equiv.sum_comp (finProdFinEquiv : Fin 13 × Fin 320 ≃ Fin 4160) f)
  rw [Fintype.sum_prod_type]
  refine Finset.sum_congr rfl fun t _ => Finset.sum_congr rfl fun r _ => congrArg f (Fin.ext ?_)
  show t.val * 320 + r.val = r.val + 320 * t.val
  omega

omit hm in
theorem pay1_zero (l : Fin 1) (f : Fin 1) : k0_pay1 (F := Ideal) (ix2 l f) = 0 := by
  pointwise [k0_pay1]

omit hm in
theorem pay2_zero (l : Fin 1) (f : Fin 1024) : k0_pay2 (F := Ideal) (ix2 l f) = 0 := by
  pointwise [k0_pay2]

omit hm in
theorem first_of_mod (t : Fin cfg0.N) (h : t.val % 13 = 0) : t.val = 0 := by
  have : t.val < 13 := t.isLt
  omega

omit hm in
theorem next_of_mod (t : Fin cfg0.N) (h : ¬t.val % 13 = 0) : ¬t.val = 0 := fun h0 => h (by rw [h0])

/-- After the last point: the loss. -/
theorem last15 (t : Fin cfg0.N) (ht : t.val % 13 = 12) (y : S1x1.Idx) :
    (outs m c t.val t.isLt).loss y = ((d.L : ℝ) : EReal) := by
  rw [Pipeline.eq_sum_of_reset_step_apply_single_of_mod (fun n h => (outs m c n h).loss) 13 (fun _ => (0 : EReal))
    (fun n _ => if hn : n < cfg0.N then ((∑ r, d.S (row ⟨n, hn⟩ r) : ℝ) : EReal) else 0)
    (fun t h0 y => ?_) (fun t h0 y => ?_) (by decide) t ht y]
  · rw [zero_add, Finset.sum_range]
    refine (Finset.sum_congr rfl fun t _ => dif_pos (show t.val < cfg0.N from t.isLt)).trans ?_
    rw [sum_coe]
    exact congrArg _ (sum_rows fun i => d.S i)
  · obtain ⟨l, f, rfl⟩ : ∃ (l : Fin 1) (f : Fin 1), y = (ix2 l f : S1x1.Idx) := ⟨y 0, y 1, eq_ix2 (n0 := 1) (n1 := 1) y⟩
    simp only [t.isLt, dif_pos]
    have hz := first_of_mod t h0
    rw [outs_first m c t hz]
    refine (tile_loss hm t _ _ (goal_first hm t hz) l f).trans ?_
    rw [pay1_zero]
  · obtain ⟨l, f, rfl⟩ : ∃ (l : Fin 1) (f : Fin 1), y = (ix2 l f : S1x1.Idx) := ⟨y 0, y 1, eq_ix2 (n0 := 1) (n1 := 1) y⟩
    simp only [t.isLt, dif_pos]
    have hz := next_of_mod t h0
    rw [outs_next m c t hz]
    exact tile_loss hm t _ _ (goal_next hm t hz) l f

/-- After the run: the loss. -/
theorem arr15 : (dats m 0 c).arrAt 15 cfg0.N = fun _ : S1x1.Idx => ((d.L : ℝ) : EReal) := by
  refine (dats m 0 c).arrAt_eq_of_covers 15 _ (by decide +kernel) fun t hf y => ?_
  blk_simp
  rw [after0_15]
  obtain ⟨l, f, rfl⟩ : ∃ (l : Fin 1) (f : Fin 1), y = (ix2 l f : S1x1.Idx) := ⟨y 0, y 1, eq_ix2 (n0 := 1) (n1 := 1) y⟩
  refine Eq.trans ?_ (congrArg (fun _ : S1x1.Idx => ((d.L : ℝ) : EReal)) (emb15 t l f)).symm
  exact last15 hm t ((flush0_15 t).mp hf) _

/-- After the last point: the gradient of the final norm's weights. -/
theorem last16 (t : Fin cfg0.N) (ht : t.val % 13 = 12) (y : S1x1024.Idx) :
    (outs m c t.val t.isLt).gg y = ((d.N (y 1) : ℝ) : EReal) := by
  rw [Pipeline.eq_sum_of_reset_step_apply_single_of_mod (fun n h => (outs m c n h).gg) 13 (fun _ => (0 : EReal))
    (fun n y => if hn : n < cfg0.N then ((∑ r, d.T (row ⟨n, hn⟩ r) (y 1) : ℝ) : EReal) else 0)
    (fun t h0 y => ?_) (fun t h0 y => ?_) (by decide) t ht y]
  · rw [zero_add, Finset.sum_range]
    refine (Finset.sum_congr rfl fun t _ => dif_pos (show t.val < cfg0.N from t.isLt)).trans ?_
    rw [sum_coe]
    exact congrArg _ (sum_rows fun i => d.T i (y 1))
  · obtain ⟨l, f, rfl⟩ : ∃ (l : Fin 1) (f : Fin 1024), y = (ix2 l f : S1x1024.Idx) := ⟨y 0, y 1, eq_ix2 (n0 := 1) (n1 := 1024) y⟩
    simp only [t.isLt, dif_pos]
    have hz := first_of_mod t h0
    rw [outs_first m c t hz]
    refine (tile_gg hm t _ _ (goal_first hm t hz) l f).trans ?_
    rw [pay2_zero]
    rfl
  · obtain ⟨l, f, rfl⟩ : ∃ (l : Fin 1) (f : Fin 1024), y = (ix2 l f : S1x1024.Idx) := ⟨y 0, y 1, eq_ix2 (n0 := 1) (n1 := 1024) y⟩
    simp only [t.isLt, dif_pos]
    have hz := next_of_mod t h0
    rw [outs_next m c t hz]
    exact tile_gg hm t _ _ (goal_next hm t hz) l f

/-- After the run: the gradient of the final norm's weights. -/
theorem arr16 : (dats m 0 c).arrAt 16 cfg0.N = fun y : S1x1024.Idx => ((d.N (y 1) : ℝ) : EReal) := by
  refine (dats m 0 c).arrAt_eq_of_covers 16 _ (by decide +kernel) fun t hf y => ?_
  blk_simp
  rw [after0_16]
  obtain ⟨l, f, rfl⟩ : ∃ (l : Fin 1) (f : Fin 1024), y = (ix2 l f : S1x1024.Idx) := ⟨y 0, y 1, eq_ix2 (n0 := 1) (n1 := 1024) y⟩
  refine Eq.trans ?_ (congrArg (fun y : S1x1024.Idx => ((d.N (y 1) : ℝ) : EReal)) (emb16 t l f)).symm
  exact last16 hm t ((flush0_16 t).mp hf) _

end Cert.FwdKernelIdeal.Fw

end

end
-- ==== Proof.FwdRef.lean ====
/- The forward call's reference: its results as real numbers. -/
module

public import proofs.«01_k».proof.Defs
public import proofs.«01_k».proof.Proof.FwdMath
public import proofs.«01_k».proof.Proof.Gen.FwdReferenceIdeal.Run
public import proofs.«01_k».proof.Proof.Gen.FwdReferenceIdeal.Read
public import Idealize.ShloMosaic.Lib.Pointwise

@[expose] public section

set_option maxRecDepth 16384

noncomputable section

namespace Cert.FwdReferenceIdeal.Fw

open Cert.FwdReferenceIdeal Cert.FwdReferenceIdeal.Gen Cert.FwdReferenceIdeal.Read Idealize.ShloMosaic Idealize.ShloMosaic.TcCoe Idealize.SL.Sem
open Cert.Ffn (sum_coe div_coe' inv lo hi meanSq)
open Cert.Fwd

variable (x0 x1 : (⟨S4160x1024, .f32⟩ : BufTy).Contents (Elt Ideal)) (x2 : (⟨S1024x1024, .f32⟩ : BufTy).Contents (Elt Ideal))
  (x3 : (⟨S1x1024, .f32⟩ : BufTy).Contents (Elt Ideal)) (x4 : (⟨S1024x5632, .f32⟩ : BufTy).Contents (Elt Ideal))
  (x5 : (⟨S2816x1024, .f32⟩ : BufTy).Contents (Elt Ideal)) (x6 : (⟨S1x1024, .f32⟩ : BufTy).Contents (Elt Ideal))
  (x7 : (⟨S4096x1024, .f32⟩ : BufTy).Contents (Elt Ideal)) (d : Data)

/-- The reference's arguments are the given real numbers. -/
structure Holds : Prop where
  h : ∀ i k, x0 (ix2 i k : S4160x1024.Idx) = ((d.H0 i k : ℝ) : EReal)
  y : ∀ i k, x1 (ix2 i k : S4160x1024.Idx) = ((d.Y i k : ℝ) : EReal)
  wo : ∀ i j, x2 (ix2 i j : S1024x1024.Idx) = ((d.Wo i j : ℝ) : EReal)
  g2 : ∀ (l : Fin 1) k, x3 (ix2 l k : S1x1024.Idx) = ((d.G2 k : ℝ) : EReal)
  wgu : ∀ j f, x4 (ix2 j f : S1024x5632.Idx) = ((d.Wgu j f : ℝ) : EReal)
  wd : ∀ f j, x5 (ix2 f j : S2816x1024.Idx) = ((d.Wd f j : ℝ) : EReal)
  gf : ∀ (l : Fin 1) k, x6 (ix2 l k : S1x1024.Idx) = ((d.Gf k : ℝ) : EReal)
  tg : ∀ i k, x7 (ix2 i k : S4096x1024.Idx) = ((d.Tg i k : ℝ) : EReal)

variable {x0 x1 x2 x3 x4 x5 x6 x7 d} (hx : Holds x0 x1 x2 x3 x4 x5 x6 x7 d)
include hx

theorem v1_real (i : Fin 4160) (j : Fin 1024) : val_main_v1 (F := Ideal) x0 x1 x2 (ix2 i j) = ((d.H1 i j : ℝ) : EReal) := by
  pointwise [val_main_v1, val_main_v0]
  simp only [hx.h, hx.y, hx.wo, ← EReal.coe_mul, sum_coe, ← EReal.coe_add]
  rfl

theorem v9_real (i : Fin 4160) (l : Fin 1) : val_main_v9 (F := Ideal) x0 x1 x2 (ix2 i l) = ((inv (d.H1 i) : ℝ) : EReal) := by
  pointwise [val_main_v9, val_main_v8, val_main_v7, val_main_v6, val_main_v5, val_main_v4, val_main_v3, val_main_v2, val_main_cst, val_main_cst_0, val_main_cst_1]
  simp only [v1_real hx, ← EReal.coe_mul, sum_coe, Cert.Ffn.ofBits_1024, Cert.Ffn.ofBits_eps, div_coe' _ (show (1024 : ℝ) ≠ 0 by norm_num),
    ← EReal.coe_add]
  exact Cert.Ffn.rsqrt_meanSq _

theorem v13_real (i : Fin 4160) (j : Fin 1024) : val_main_v13 (F := Ideal) x0 x1 x2 x3 (ix2 i j) = ((d.X i j : ℝ) : EReal) := by
  pointwise [val_main_v13, val_main_v12, val_main_v11, val_main_v10]
  rw [v9_real hx, v1_real hx, hx.g2, ← EReal.coe_mul, ← EReal.coe_mul]
  rfl

theorem v14_real (i : Fin 4160) (f : Fin 5632) : val_main_v14 (F := Ideal) x0 x1 x2 x3 x4 (ix2 i f) = ((d.P i f : ℝ) : EReal) := by
  pointwise [val_main_v14]
  simp only [v13_real hx, hx.wgu, ← EReal.coe_mul, sum_coe]
  rfl

theorem v15_real (i : Fin 4160) (f : Fin 2816) : val_main_v15 (F := Ideal) x0 x1 x2 x3 x4 (ix2 i f) = ((d.P i (lo f) : ℝ) : EReal) := by
  pointwise [val_main_v15]
  exact v14_real hx i _

theorem v17_real (i : Fin 4160) (f : Fin 2816) : val_main_v17 (F := Ideal) x0 x1 x2 x3 x4 (ix2 i f) = ((d.P i (hi f) : ℝ) : EReal) := by
  pointwise [val_main_v17]
  exact v14_real hx i _

theorem sig_real (i : Fin 4160) (f : Fin 2816) : val_main_call0_v5 (F := Ideal) x0 x1 x2 x3 x4 (ix2 i f)
    = ((Cert.Ffn.sig (d.P i (lo f)) : ℝ) : EReal) := by
  pointwise [val_main_call0_v5, val_main_call0_v4, val_main_call0_cst_0, val_main_call0_v3, val_main_call0_v2, val_main_call0_cst, val_main_call0_v1, val_main_call0_v0]
  have hp : (1 : ℝ) + Real.exp (-d.P i (lo f)) ≠ 0 := (add_pos one_pos (Real.exp_pos _)).ne'
  rw [v15_real hx, ← EReal.coe_neg, Ideal.exp_coe, ← EReal.coe_one, ← EReal.coe_add, div_coe' _ hp]
  rfl

theorem v18_real (i : Fin 4160) (f : Fin 2816) : val_main_v18 (F := Ideal) x0 x1 x2 x3 x4 (ix2 i f) = ((d.A i f : ℝ) : EReal) := by
  pointwise [val_main_v18, val_main_v16]
  rw [sig_real hx, v15_real hx, v17_real hx, ← EReal.coe_mul, ← EReal.coe_mul]
  rfl

theorem v20_real (i : Fin 4160) (j : Fin 1024) : val_main_v20 (F := Ideal) x0 x1 x2 x3 x4 x5 (ix2 i j) = ((d.H2 i j : ℝ) : EReal) := by
  pointwise [val_main_v20, val_main_v19]
  simp only [v18_real hx, v1_real hx, hx.wd, ← EReal.coe_mul, sum_coe, ← EReal.coe_add]
  rfl

theorem v27_real (i : Fin 4160) (l : Fin 1) : val_main_v27 (F := Ideal) x0 x1 x2 x3 x4 x5 (ix2 i l) = ((meanSq (d.H2 i) : ℝ) : EReal) := by
  pointwise [val_main_v27, val_main_v26, val_main_v25, val_main_v24, val_main_v23, val_main_v22, val_main_v21, val_main_cst_2, val_main_cst_3, val_main_cst_4]
  simp only [v20_real hx, ← EReal.coe_mul, sum_coe, Cert.Ffn.ofBits_1024, Cert.Ffn.ofBits_eps, div_coe' _ (show (1024 : ℝ) ≠ 0 by norm_num),
    ← EReal.coe_add]
  rfl

theorem v28_real (i : Fin 4160) (l : Fin 1) : val_main_v28 (F := Ideal) x0 x1 x2 x3 x4 x5 (ix2 i l) = ((inv (d.H2 i) : ℝ) : EReal) := by
  pointwise [val_main_v28]
  rw [v27_real hx]
  exact Cert.Ffn.rsqrt_meanSq _

theorem v31_real (i : Fin 4160) (l : Fin 1) : val_main_v31 (F := Ideal) x0 x1 x2 x3 x4 x5 (ix2 i l)
    = ((-(1 / 2) * (inv (d.H2 i) / meanSq (d.H2 i)) : ℝ) : EReal) := by
  pointwise [val_main_v31, val_main_v30, val_main_v29, val_main_cst_5]
  rw [v27_real hx, v28_real hx, Cert.Ffn.ofBits_neg_half, div_coe' _ (Cert.Ffn.meanSq_pos _).ne', ← EReal.coe_mul]

theorem v33_real (i : Fin 4160) (j : Fin 1024) : val_main_v33 (F := Ideal) x0 x1 x2 x3 x4 x5 (ix2 i j)
    = ((d.H2 i j * inv (d.H2 i) : ℝ) : EReal) := by
  pointwise [val_main_v33, val_main_v32]
  rw [v28_real hx, v20_real hx, ← EReal.coe_mul]

theorem v37_real (i : Fin 4096) (j : Fin 1024) : val_main_v37 (F := Ideal) x0 x1 x2 x3 x4 x5 x6 x7 (ix2 i j)
    = ((d.D ⟨64 + i.val, by omega⟩ (d.Tg i) j : ℝ) : EReal) := by
  pointwise [val_main_v37, val_main_v36, val_main_v35, val_main_v34]
  simp only [v33_real hx, hx.gf, hx.tg, ← EReal.coe_mul, ← EReal.coe_sub]
  rfl

omit hx in
/-- The error of a row that has a target. -/
theorem err_past (i : Fin 4096) (j : Fin 1024) : d.E ⟨64 + i.val, by omega⟩ j = d.D ⟨64 + i.val, by omega⟩ (d.Tg i) j := by
  unfold Data.E
  rw [dif_pos (show 64 ≤ (⟨64 + i.val, by omega⟩ : Fin 4160).val by show 64 ≤ 64 + i.val; omega)]
  have e : (⟨64 + i.val - 64, by omega⟩ : Fin 4096) = i := Fin.ext (by show 64 + i.val - 64 = i.val; omega)
  exact congrArg (fun q : Fin 4096 => d.D ⟨64 + i.val, by omega⟩ (d.Tg q) j) e

/-- The loss. -/
theorem v77_real (l k : Fin 1) : val_main_v77 (F := Ideal) x0 x1 x2 x3 x4 x5 x6 x7 (ix2 l k) = ((d.L : ℝ) : EReal) := by
  pointwise [val_main_v77, val_main_v45, val_main_v44, val_main_v43, val_main_v42, val_main_v41, val_main_v38, val_main_cst_7, val_main_cst_8, val_main_cst_9, val_main_cst_10]
  simp only [v37_real hx, ofBits_half32, Cert.Ffn.ofBits_1024, ← EReal.coe_mul, sum_coe, div_coe' _ (show (1024 : ℝ) ≠ 0 by norm_num)]
  refine congrArg _ ?_
  unfold Data.L
  rw [sum_past, Finset.mul_sum]
  · refine Finset.sum_congr rfl fun i _ => ?_
    have e : (⟨i.val + 64, by omega⟩ : Fin 4160) = ⟨64 + i.val, by omega⟩ := Fin.ext (Nat.add_comm _ _)
    rw [e]
    unfold Data.S meanErr
    simp only [err_past]
  · intro i h
    unfold Data.S meanErr Data.E
    simp only [dif_neg (show ¬64 ≤ i.val by omega)]
    simp

theorem v51_real (i : Fin 4096) (j : Fin 1024) : val_main_v51 (F := Ideal) x0 x1 x2 x3 x4 x5 x6 x7 (ix2 i j)
    = ((d.E ⟨64 + i.val, by omega⟩ j * (1 / 1024) : ℝ) : EReal) := by
  pointwise [val_main_v51, val_main_v50, val_main_v49, val_main_v48, val_main_v47, val_main_v46, val_main_v40, val_main_v39, val_main_cst_6, val_main_cst_11, val_main_cst_12, val_main_cst_13]
  simp only [v37_real hx, ofBits_half32, ofBits_one, Cert.Ffn.ofBits_two, Cert.Ffn.ofBits_1024, ← EReal.coe_one, ← EReal.coe_mul, div_coe' _ (show (1024 : ℝ) ≠ 0 by norm_num)]
  rw [err_past]
  refine congrArg _ ?_
  ring

theorem v52_real (i : Fin 4160) (j : Fin 1024) : val_main_v52 (F := Ideal) x0 x1 x2 x3 x4 x5 x6 x7 (ix2 i j)
    = ((d.E i j * (1 / 1024) : ℝ) : EReal) := by
  pointwise [val_main_v52, val_main_cst_14]
  by_cases hf : 64 ≤ i.val
  · have h2 : i.val - 64 < 4096 := by omega
    rw [dif_pos (show 64 ≤ i.val ∧ i.val - 64 < 4096 from ⟨hf, h2⟩)]
    refine (v51_real hx ⟨i.val - 64, h2⟩ j).trans ?_
    exact congrArg (fun q => ((d.E q j * (1 / 1024) : ℝ) : EReal)) (Fin.ext (by show 64 + (i.val - 64) = i.val; omega))
  · rw [dif_neg (show ¬(64 ≤ i.val ∧ i.val - 64 < 4096) by omega)]
    unfold Data.E
    rw [dif_neg hf, zero_mul, EReal.coe_zero]

/-- The gradient of the final norm's weights. -/
theorem v55_real (l : Fin 1) (j : Fin 1024) : val_main_v55 (F := Ideal) x0 x1 x2 x3 x4 x5 x6 x7 (ix2 l j) = ((d.N j : ℝ) : EReal) := by
  pointwise [val_main_v55, val_main_v54, val_main_v53, val_main_cst_15]
  simp only [v33_real hx, v52_real hx, ← EReal.coe_mul, sum_coe]
  unfold Data.N Data.T
  refine congrArg _ (Finset.sum_congr rfl fun i _ => ?_)
  ring

theorem v57_real (i : Fin 4160) (j : Fin 1024) : val_main_v57 (F := Ideal) x0 x1 x2 x3 x4 x5 x6 x7 (ix2 i j)
    = ((d.E i j * (1 / 1024) * d.Gf j : ℝ) : EReal) := by
  pointwise [val_main_v57, val_main_v56]
  rw [v52_real hx, hx.gf, ← EReal.coe_mul]

theorem v65_real (i : Fin 4160) (l : Fin 1) : val_main_v65 (F := Ideal) x0 x1 x2 x3 x4 x5 x6 x7 (ix2 i l)
    = (((∑ k, d.H2 i k * (d.E i k * (1 / 1024) * d.Gf k)) * (-(1 / 2) * (inv (d.H2 i) / meanSq (d.H2 i))) / 1024 : ℝ) : EReal) := by
  pointwise [val_main_v65, val_main_v64, val_main_v63, val_main_v60, val_main_v59, val_main_v58, val_main_cst_16, val_main_cst_17]
  simp only [v31_real hx, v57_real hx, v20_real hx, Cert.Ffn.ofBits_1024, ← EReal.coe_mul, sum_coe, div_coe' _ (show (1024 : ℝ) ≠ 0 by norm_num)]

/-- The gradient of the block's output. -/
theorem v71_real (i : Fin 4160) (j : Fin 1024) : val_main_v71 (F := Ideal) x0 x1 x2 x3 x4 x5 x6 x7 (ix2 i j) = ((d.B i j : ℝ) : EReal) := by
  pointwise [val_main_v71, val_main_v70, val_main_v69, val_main_v68, val_main_v67, val_main_v66, val_main_v62, val_main_v61, val_main_cst_18]
  simp only [v65_real hx, v57_real hx, v28_real hx, v20_real hx, ← EReal.coe_mul, sum_coe, ← EReal.coe_add, Fin.sum_univ_one]
  refine congrArg _ ?_
  unfold Data.B back
  rw [Cert.Ffn.inv_div]
  have e : ∑ k, d.E i k * (1 / 1024) * d.Gf k * (d.H2 i k * inv (d.H2 i)) = inv (d.H2 i) * ∑ k, d.H2 i k * (d.E i k * (1 / 1024) * d.Gf k) := by
    rw [Finset.mul_sum]
    exact Finset.sum_congr rfl fun k _ => by ring
  rw [e]
  ring

end Cert.FwdReferenceIdeal.Fw

end

end
-- ==== Proof.FwdPre.lean ====
/- The forward call's precondition read back: every entry of the eight arguments is a real number. -/
module

public import proofs.«01_k».proof.Defs
public import proofs.«01_k».proof.Proof.FfnPre
public import proofs.«01_k».proof.Proof.FwdKern
public import proofs.«01_k».proof.Proof.Gen.Pre_finite_fwd
public import Idealize.ShloMosaic.Lib.ReduceAll
public import Idealize.ShloMosaic.Lib.Pointwise

@[expose] public section

set_option maxRecDepth 16384

noncomputable section

namespace Cert.Pre_finite_fwd

open Cert.Pre_finite_fwd Cert.Pre_finite_fwd.Gen Idealize.ShloMosaic Idealize.ShloMosaic.TcCoe Idealize.SL.Sem

instance : Subsingleton S_.Idx := ⟨fun _ _ => funext fun k => k.elim0⟩

/-- All eight arguments are arrays of real numbers. -/
theorem real_args (x0 : FVec Ideal S4160x1024 .f32) (x1 : FVec Ideal S4160x1024 .f32) (x2 : FVec Ideal S1024x1024 .f32) (x3 : FVec Ideal S1x1024 .f32) (x4 : FVec Ideal S1024x5632 .f32) (x5 : FVec Ideal S2816x1024 .f32) (x6 : FVec Ideal S1x1024 .f32) (x7 : FVec Ideal S4096x1024 .f32)
    (h : fn (F := Ideal) x0 x1 x2 x3 x4 x5 x6 x7 = fun _ => 1#1) :
    (∀ i, x0 i = (((x0 i : EReal).toReal : ℝ) : EReal))
      ∧ (∀ i, x1 i = (((x1 i : EReal).toReal : ℝ) : EReal))
      ∧ (∀ i, x2 i = (((x2 i : EReal).toReal : ℝ) : EReal))
      ∧ (∀ i, x3 i = (((x3 i : EReal).toReal : ℝ) : EReal))
      ∧ (∀ i, x4 i = (((x4 i : EReal).toReal : ℝ) : EReal))
      ∧ (∀ i, x5 i = (((x5 i : EReal).toReal : ℝ) : EReal))
      ∧ (∀ i, x6 i = (((x6 i : EReal).toReal : ℝ) : EReal))
      ∧ (∀ i, x7 i = (((x7 i : EReal).toReal : ℝ) : EReal)) := by
  have h0 := congrFun h (default : S_.Idx)
  dsimp only [fn, fn_part1, fn_part2] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => Cert.Pre_finite.real_of_cmp x0 _ i (Host.reduce_andi_all _ _ _ _ _ h0 i),
    fun i => Cert.Pre_finite.real_of_cmp x1 _ i (Host.reduce_andi_all _ _ _ _ _ h1 i),
    fun i => Cert.Pre_finite.real_of_cmp x2 _ i (Host.reduce_andi_all _ _ _ _ _ h2 i),
    fun i => Cert.Pre_finite.real_of_cmp x3 _ i (Host.reduce_andi_all _ _ _ _ _ h3 i),
    fun i => Cert.Pre_finite.real_of_cmp x4 _ i (Host.reduce_andi_all _ _ _ _ _ h4 i),
    fun i => Cert.Pre_finite.real_of_cmp x5 _ i (Host.reduce_andi_all _ _ _ _ _ h5 i),
    fun i => Cert.Pre_finite.real_of_cmp x6 _ i (Host.reduce_andi_all _ _ _ _ _ h6 i),
    fun i => Cert.Pre_finite.real_of_cmp x7 _ i (Host.reduce_andi_all _ _ _ _ _ h7 i)⟩

end Cert.Pre_finite_fwd

namespace Cert.FwdKernelIdeal.Fw

open Cert.FwdKernelIdeal Cert.FwdKernelIdeal.Gen Idealize.ShloMosaic Idealize.ShloMosaic.TcCoe Idealize.SL.Sem

/-- The real arrays a memory's arguments are. -/
def data (m : (ℓ : Loc nD τ sig) → Buf (Elt Ideal) ℓ) (c : Dev nD) : Cert.Fwd.Data where
  H0 i k := (m ((c : Thread nD τ).loc main_arg0) (ix2 i k : S4160x1024.Idx) : EReal).toReal
  Y i k := (m ((c : Thread nD τ).loc main_arg1) (ix2 i k : S4160x1024.Idx) : EReal).toReal
  Wo i j := (m ((c : Thread nD τ).loc main_arg2) (ix2 i j : S1024x1024.Idx) : EReal).toReal
  G2 k := (m ((c : Thread nD τ).loc main_arg3) (ix2 (0 : Fin 1) k : S1x1024.Idx) : EReal).toReal
  Wgu j f := (m ((c : Thread nD τ).loc main_arg4) (ix2 j f : S1024x5632.Idx) : EReal).toReal
  Wd f j := (m ((c : Thread nD τ).loc main_arg5) (ix2 f j : S2816x1024.Idx) : EReal).toReal
  Gf k := (m ((c : Thread nD τ).loc main_arg6) (ix2 (0 : Fin 1) k : S1x1024.Idx) : EReal).toReal
  Tg i k := (m ((c : Thread nD τ).loc main_arg7) (ix2 i k : S4096x1024.Idx) : EReal).toReal

/-- Under the precondition the arguments are those arrays. -/
theorem data_holds (m : (ℓ : Loc nD τ sig) → Buf (Elt Ideal) ℓ) (hp : Cert.Pre_FwdKernelIdeal_finite_fwd m) (c : Dev nD) :
    Holds m c (data m c) := by
  obtain ⟨h0, h1, h2, h3, h4, h5, h6, h7⟩ := Cert.Pre_finite_fwd.real_args _ _ _ _ _ _ _ _ (hp c)
  exact
    { h := fun i k => h0 (ix2 i k)
      y := fun i k => h1 (ix2 i k)
      wo := fun i j => h2 (ix2 i j)
      g2 := fun l k => by
        rw [show l = 0 from Subsingleton.elim _ _]
        exact h3 (ix2 (0 : Fin 1) k)
      wgu := fun j f => h4 (ix2 j f)
      wd := fun f j => h5 (ix2 f j)
      gf := fun l k => by
        rw [show l = 0 from Subsingleton.elim _ _]
        exact h6 (ix2 (0 : Fin 1) k)
      tg := fun i k => h7 (ix2 i k) }

end Cert.FwdKernelIdeal.Fw

end
-- ==== Proof.FwdFrame.lean ====
/- The frame of the forward call over machine floats: its text is that of the reading over the extended reals, so one run serves both. -/
module

public import proofs.«01_k».proof.Defs
public import proofs.«01_k».proof.Proof.FwdRegion
public import proofs.«01_k».proof.Proof.Gen.FwdKernel
public import Idealize.ShloMosaic.Lib.Claim

@[expose] public section

set_option maxRecDepth 16384

noncomputable section

namespace Cert.Proof

open Idealize.ShloMosaic Idealize.SL.Sem

set_option maxHeartbeats 4000000 in
/-- The forward kernel's body is the ideal reading's. -/
theorem fwd_defs₀_eq : @Cert.FwdKernel.defs₀ Bits _ Cert.FwdKernel.Gen.facts = @Cert.FwdKernelIdeal.defs₀ Bits _ Cert.FwdKernelIdeal.Gen.facts := by
  refine congrArg (Defs.onTc (nD := Cert.FwdKernelIdeal.nD) (τ := Cert.FwdKernelIdeal.τ) (sig := Cert.FwdKernelIdeal.sig) (Val := Elt Bits) (Λ := Cert.FwdKernelIdeal.Λ₀)) (funext fun l => funext fun x => ?_)
  match l, x with
  | 0, (t, s) => rfl

set_option maxHeartbeats 4000000 in
theorem fwd_defs_eq : @Cert.FwdKernel.defs Bits _ Cert.FwdKernel.Gen.facts = @Cert.FwdKernelIdeal.defs Bits _ Cert.FwdKernelIdeal.Gen.facts :=
  congrArg (Pipeline.defs (@Cert.FwdKernelIdeal.pcfgs Bits _)) fwd_defs₀_eq

set_option maxHeartbeats 4000000 in
/-- The forward kernel leaves its arguments alone and ends with every semaphore counter at zero. -/
theorem frame_fwd_kernel : Cert.quiescent_FwdKernel (hFwdKernel := Cert.FwdKernel.Gen.facts) := fun m ρ _ => by
  rw [fwd_defs_eq]
  exact Cert.FwdKernelIdeal.Fw.frame (F := Bits) m ρ

end Cert.Proof

end
-- ==== Proof.FwdClaim.lean ====
/- The forward call: its frames, and that it leaves what the reference computes. -/
module

public import proofs.«01_k».proof.Defs
public import proofs.«01_k».proof.Proof.FwdArr
public import proofs.«01_k».proof.Proof.FwdRef
public import proofs.«01_k».proof.Proof.FwdPre
public import proofs.«01_k».proof.Proof.FwdFrame
public import Idealize.ShloMosaic.Lib.Claim

@[expose] public section

set_option maxRecDepth 16384

noncomputable section

namespace Cert.FwdKernelIdeal.Fw

open Cert.FwdKernelIdeal Cert.FwdKernelIdeal.Gen Idealize.ShloMosaic Idealize.ShloMosaic.TcCoe Idealize.SL.Sem

/-- Every run of the kernel leaves the nine outputs at what the points left, and the arguments as they were. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7_0) = (dats m 0 c).arrAt 8 cfg0.N
      ∧ r.2.mem ((c.tc : Thread nD τ).loc main_v7_1) = (dats m 0 c).arrAt 9 cfg0.N
      ∧ r.2.mem ((c.tc : Thread nD τ).loc main_v7_2) = (dats m 0 c).arrAt 10 cfg0.N
      ∧ r.2.mem ((c.tc : Thread nD τ).loc main_v7_3) = (dats m 0 c).arrAt 11 cfg0.N
      ∧ r.2.mem ((c.tc : Thread nD τ).loc main_v7_4) = (dats m 0 c).arrAt 12 cfg0.N
      ∧ r.2.mem ((c.tc : Thread nD τ).loc main_v7_5) = (dats m 0 c).arrAt 13 cfg0.N
      ∧ r.2.mem ((c.tc : Thread nD τ).loc main_v7_6) = (dats m 0 c).arrAt 14 cfg0.N
      ∧ r.2.mem ((c.tc : Thread nD τ).loc main_v7_7) = (dats m 0 c).arrAt 15 cfg0.N
      ∧ r.2.mem ((c.tc : Thread nD τ).loc main_v7_8) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and (run_main m ρ) (frame m ρ) |> (θ_run defs _ _).mono (fun r h c => ⟨(h.1 c).1 8, (h.1 c).1 9, (h.1 c).1 10, (h.1 c).1 11, (h.1 c).1 12, (h.1 c).1 13, (h.1 c).1 14, (h.1 c).1 15, (h.1 c).1 16, h.2.1 c⟩)

end Cert.FwdKernelIdeal.Fw

namespace Cert.Proof

open Idealize.ShloMosaic Idealize.ShloMosaic.TcCoe Idealize.SL.Sem

/-- The forward kernel's reading over the extended reals leaves its arguments alone and ends with every semaphore counter at zero. -/
theorem frame_fwd_ideal : Cert.quiescent_FwdKernelIdeal (hFwdKernelIdeal := Cert.FwdKernelIdeal.Gen.facts) :=
  fun m ρ _ => Cert.FwdKernelIdeal.Fw.frame (F := Ideal) m ρ

/-- The forward reference leaves its arguments alone; it has no semaphores. -/
theorem frame_fwd_reference : Cert.quiescent_FwdReferenceIdeal (hFwdReferenceIdeal := Cert.FwdReferenceIdeal.Gen.facts) := fun m ρ _ =>
  (θ_run _ _ _).mono (fun r h => ⟨fun c => (h c).2.2.2.2.2.2.2.2.2, sem_eq_zero_of_no_sems (by decide) r.2⟩)
    (Cert.FwdReferenceIdeal.Value.run (F := Ideal) m ρ)

section

open Cert.FwdReferenceIdeal Cert.FwdReferenceIdeal.Read Cert.FwdReferenceIdeal.Fw

variable {x0 x1 : (⟨S4160x1024, .f32⟩ : BufTy).Contents (Elt Ideal)} {x2 : (⟨S1024x1024, .f32⟩ : BufTy).Contents (Elt Ideal)}
  {x3 : (⟨S1x1024, .f32⟩ : BufTy).Contents (Elt Ideal)} {x4 : (⟨S1024x5632, .f32⟩ : BufTy).Contents (Elt Ideal)}
  {x5 : (⟨S2816x1024, .f32⟩ : BufTy).Contents (Elt Ideal)} {x6 : (⟨S1x1024, .f32⟩ : BufTy).Contents (Elt Ideal)}
  {x7 : (⟨S4096x1024, .f32⟩ : BufTy).Contents (Elt Ideal)} {d : Cert.Fwd.Data} (hx : Holds x0 x1 x2 x3 x4 x5 x6 x7 d)
include hx

/-- The forward reference's nine results as arrays of real numbers. -/
theorem fwd1 : val_main_v1 (F := Ideal) x0 x1 x2 = fun y : S4160x1024.Idx => ((d.H1 (y 0) (y 1) : ℝ) : EReal) := by
  funext y
  rw [eq_ix2 y]
  exact (v1_real hx (y 0) (y 1))

theorem fwd72 : val_main_v72 (F := Ideal) x0 x1 x2 x3 = fun y : S4160x1024.Idx => ((d.X (y 0) (y 1) : ℝ) : EReal) := by
  funext y
  rw [eq_ix2 y]
  exact (v13_real hx (y 0) (y 1))

theorem fwd73 : val_main_v73 (F := Ideal) x1 = fun y : S4160x1024.Idx => ((d.Y (y 0) (y 1) : ℝ) : EReal) := by
  funext y
  rw [eq_ix2 y]
  exact (hx.y (y 0) (y 1))

theorem fwd74 : val_main_v74 (F := Ideal) x0 x1 x2 x3 x4 = fun y : S4160x5632.Idx => ((d.P (y 0) (y 1) : ℝ) : EReal) := by
  funext y
  rw [eq_ix2 y]
  exact (v14_real hx (y 0) (y 1))

theorem fwd75 : val_main_v75 (F := Ideal) x0 x1 x2 x3 x4 = fun y : S4160x2816.Idx => ((d.A (y 0) (y 1) : ℝ) : EReal) := by
  funext y
  rw [eq_ix2 y]
  exact (v18_real hx (y 0) (y 1))

theorem fwd71 : val_main_v71 (F := Ideal) x0 x1 x2 x3 x4 x5 x6 x7 = fun y : S4160x1024.Idx => ((d.B (y 0) (y 1) : ℝ) : EReal) := by
  funext y
  rw [eq_ix2 y]
  exact (v71_real hx (y 0) (y 1))

theorem fwd76 : val_main_v76 (F := Ideal) x0 x1 x2 x3 x4 x5 x6 x7 = fun y : S4160x1024.Idx => ((d.B (y 0) (y 1) : ℝ) : EReal) := by
  funext y
  rw [eq_ix2 y]
  exact (v71_real hx (y 0) (y 1))

theorem fwd77 : val_main_v77 (F := Ideal) x0 x1 x2 x3 x4 x5 x6 x7 = fun _ : S1x1.Idx => ((d.L : ℝ) : EReal) := by
  funext y
  rw [eq_ix2 y]
  exact (v77_real hx (y 0) (y 1))

theorem fwd55 : val_main_v55 (F := Ideal) x0 x1 x2 x3 x4 x5 x6 x7 = fun y : S1x1024.Idx => ((d.N (y 1) : ℝ) : EReal) := by
  funext y
  rw [eq_ix2 y]
  exact (v55_real hx (y 0) (y 1))

end

/-- On arguments whose entries are real numbers the forward call and its reference leave the same nine arrays. -/
theorem fwd_value : Cert.algebraic_FwdKernelIdeal_FwdReferenceIdeal_pre_finite_fwd (hFwdKernelIdeal := Cert.FwdKernelIdeal.Gen.facts)
    (hFwdReferenceIdeal := Cert.FwdReferenceIdeal.Gen.facts) (hPre_finite_fwd := Cert.Pre_finite_fwd.Gen.facts) := by
  intro m g m' g' hp harg
  have hk := fun c : Dev Cert.FwdKernelIdeal.nD => Cert.FwdKernelIdeal.Fw.data_holds m hp c
  have hr : ∀ c : Dev Cert.FwdKernelIdeal.nD, Cert.FwdReferenceIdeal.Fw.Holds
      (m' ((c.tc : Thread Cert.FwdReferenceIdeal.nD Cert.FwdReferenceIdeal.τ).loc Cert.FwdReferenceIdeal.main_arg0))
      (m' ((c.tc : Thread Cert.FwdReferenceIdeal.nD Cert.FwdReferenceIdeal.τ).loc Cert.FwdReferenceIdeal.main_arg1))
      (m' ((c.tc : Thread Cert.FwdReferenceIdeal.nD Cert.FwdReferenceIdeal.τ).loc Cert.FwdReferenceIdeal.main_arg2))
      (m' ((c.tc : Thread Cert.FwdReferenceIdeal.nD Cert.FwdReferenceIdeal.τ).loc Cert.FwdReferenceIdeal.main_arg3))
      (m' ((c.tc : Thread Cert.FwdReferenceIdeal.nD Cert.FwdReferenceIdeal.τ).loc Cert.FwdReferenceIdeal.main_arg4))
      (m' ((c.tc : Thread Cert.FwdReferenceIdeal.nD Cert.FwdReferenceIdeal.τ).loc Cert.FwdReferenceIdeal.main_arg5))
      (m' ((c.tc : Thread Cert.FwdReferenceIdeal.nD Cert.FwdReferenceIdeal.τ).loc Cert.FwdReferenceIdeal.main_arg6))
      (m' ((c.tc : Thread Cert.FwdReferenceIdeal.nD Cert.FwdReferenceIdeal.τ).loc Cert.FwdReferenceIdeal.main_arg7))
      (Cert.FwdKernelIdeal.Fw.data m c) := fun c => by
    obtain ⟨e0, e1, e2, e3, e4, e5, e6, e7⟩ := harg c
    rw [e0, e1, e2, e3, e4, e5, e6, e7]
    exact ⟨(hk c).h, (hk c).y, (hk c).wo, (hk c).g2, (hk c).wgu, (hk c).wd, (hk c).gf, (hk c).tg⟩
  refine ⟨_, _, _, _, _, _, _, _, _, Cert.FwdKernelIdeal.Fw.run_arrays m g, ?_⟩
  refine (θ_run _ _ _).mono (fun r h c => ?_) (Cert.FwdReferenceIdeal.Value.run (F := Ideal) m' g')
  obtain ⟨h0, h1, h2, h3, h4, h5, h6, h7, h8, ha⟩ := h c
  refine ⟨h0.trans ?_, h1.trans ?_, h2.trans ?_, h3.trans ?_, h4.trans ?_, h5.trans ?_, h6.trans ?_, h7.trans ?_, h8.trans ?_, ha⟩
  · refine (Cert.FwdReferenceIdeal.Read.val_main_v1_eq _).trans ((fwd1 (hr c)).trans ?_)
    exact (Cert.FwdKernelIdeal.Fw.arr8 (hk c)).symm
  · refine (Cert.FwdReferenceIdeal.Read.val_main_v72_eq _).trans ((fwd72 (hr c)).trans ?_)
    exact (Cert.FwdKernelIdeal.Fw.arr9 (hk c)).symm
  · refine (Cert.FwdReferenceIdeal.Read.val_main_v73_eq _).trans ((fwd73 (hr c)).trans ?_)
    exact (Cert.FwdKernelIdeal.Fw.arr10 (hk c)).symm
  · refine (Cert.FwdReferenceIdeal.Read.val_main_v74_eq _).trans ((fwd74 (hr c)).trans ?_)
    exact (Cert.FwdKernelIdeal.Fw.arr11 (hk c)).symm
  · refine (Cert.FwdReferenceIdeal.Read.val_main_v75_eq _).trans ((fwd75 (hr c)).trans ?_)
    exact (Cert.FwdKernelIdeal.Fw.arr12 (hk c)).symm
  · refine (Cert.FwdReferenceIdeal.Read.val_main_v71_eq _).trans ((fwd71 (hr c)).trans ?_)
    exact (Cert.FwdKernelIdeal.Fw.arr13 (hk c)).symm
  · refine (Cert.FwdReferenceIdeal.Read.val_main_v76_eq _).trans ((fwd76 (hr c)).trans ?_)
    exact (Cert.FwdKernelIdeal.Fw.arr14 (hk c)).symm
  · refine (Cert.FwdReferenceIdeal.Read.val_main_v77_eq _).trans ((fwd77 (hr c)).trans ?_)
    exact (Cert.FwdKernelIdeal.Fw.arr15 (hk c)).symm
  · refine (Cert.FwdReferenceIdeal.Read.val_main_v55_eq _).trans ((fwd55 (hr c)).trans ?_)
    exact (Cert.FwdKernelIdeal.Fw.arr16 (hk c)).symm

end Cert.Proof

end
-- ==== Proof.lean ====
/- The claims together: the frames, that the named constants are kept, and that the feed-forward gradient call, the
   forward call and the two calls for weights' gradients leave what their references compute. -/
module

public import proofs.«01_k».proof.Defs
public import proofs.«01_k».proof.Proof.Frames
public import proofs.«01_k».proof.Proof.FfnArr
public import proofs.«01_k».proof.Proof.FfnRef
public import proofs.«01_k».proof.Proof.FfnPre
public import proofs.«01_k».proof.Proof.DownRef
public import proofs.«01_k».proof.Proof.OutRef
public import proofs.«01_k».proof.Proof.FwdClaim
public import proofs.«01_k».proof.Proof.Gen.FfnKernel.Frame
public import proofs.«01_k».proof.Proof.Gen.DownKernel.Frame
public import proofs.«01_k».proof.Proof.Gen.OutKernel.Frame
public import Idealize.ShloMosaic.Lib.Claim

@[expose] public section

set_option maxRecDepth 16384

noncomputable section

namespace Cert.Proof

open Idealize.ShloMosaic Idealize.ShloMosaic.TcCoe Idealize.SL.Sem

/-- The feed-forward reference leaves its arguments alone; it has no semaphores. -/
theorem frame_ffn_reference : Cert.quiescent_FfnReferenceIdeal (hFfnReferenceIdeal := Cert.FfnReferenceIdeal.Gen.facts) := fun m ρ _ =>
  (θ_run _ _ _).mono (fun r h => ⟨fun c => (h c).2.2.2.2.2, sem_eq_zero_of_no_sems (by decide) r.2⟩)
    (Cert.FfnReferenceIdeal.Value.run (F := Ideal) m ρ)

section

open Cert.FfnReferenceIdeal Cert.FfnReferenceIdeal.Read Cert.FfnReferenceIdeal.Ffn

variable {x0 : (⟨S4160x1024, .f32⟩ : BufTy).Contents (Elt Ideal)} {x1 : (⟨S1x1024, .f32⟩ : BufTy).Contents (Elt Ideal)}
  {x2 : (⟨S1024x5632, .f32⟩ : BufTy).Contents (Elt Ideal)} {x3 : (⟨S2816x1024, .f32⟩ : BufTy).Contents (Elt Ideal)}
  {x4 : (⟨S1024x1024, .f32⟩ : BufTy).Contents (Elt Ideal)} {x5 : (⟨S4160x1024, .f32⟩ : BufTy).Contents (Elt Ideal)}
  {d : Cert.Ffn.Data} (hx : Holds x0 x1 x2 x3 x4 x5 d)
include hx

/-- The reference's five results as arrays of real numbers. -/
theorem ref54 : val_main_v54 (F := Ideal) x0 x1 x2 x3 x5 = fun y : S4160x5632.Idx => ((d.Q (y 0) (y 1) : ℝ) : EReal) := by
  funext y
  rw [eq_ix2 y]
  exact (v29_real hx (y 0) (y 1))

theorem ref50 : val_main_v50 (F := Ideal) x0 x1 x2 x3 x5 = fun y : S4160x1024.Idx => ((d.E (y 0) (y 1) : ℝ) : EReal) := by
  funext y
  rw [eq_ix2 y]
  exact (v50_real hx (y 0) (y 1))

theorem ref55 : val_main_v55 (F := Ideal) x0 x1 x2 x3 x5 = fun y : S4160x1024.Idx => ((d.E (y 0) (y 1) : ℝ) : EReal) := by
  funext y
  rw [eq_ix2 y]
  exact (v50_real hx (y 0) (y 1))

theorem ref53 : val_main_v53 (F := Ideal) x0 x1 x2 x3 x4 x5 = fun y : S4160x1024.Idx => ((d.Y (y 0) (y 1) : ℝ) : EReal) := by
  funext y
  rw [eq_ix2 y]
  exact (v53_real hx (y 0) (y 1))

theorem ref33 : val_main_v33 (F := Ideal) x0 x1 x2 x3 x5 = fun y : S1x1024.Idx => ((d.N (y 1) : ℝ) : EReal) := by
  funext y
  rw [eq_ix2 y]
  exact (v33_real hx (y 0) (y 1))

end

/-- On arguments whose entries are real numbers the call and the reference leave the same five arrays. -/
theorem ffn_value : Cert.algebraic_FfnKernelIdeal_FfnReferenceIdeal_pre_finite (hFfnKernelIdeal := Cert.FfnKernelIdeal.Gen.facts)
    (hFfnReferenceIdeal := Cert.FfnReferenceIdeal.Gen.facts) (hPre_finite := Cert.Pre_finite.Gen.facts) := by
  intro m g m' g' hp harg
  have hk := fun c : Dev Cert.FfnKernelIdeal.nD => Cert.FfnKernelIdeal.Ffn.data_holds m hp c
  have hr : ∀ c : Dev Cert.FfnKernelIdeal.nD, Cert.FfnReferenceIdeal.Ffn.Holds
      (m' ((c.tc : Thread Cert.FfnReferenceIdeal.nD Cert.FfnReferenceIdeal.τ).loc Cert.FfnReferenceIdeal.main_arg0))
      (m' ((c.tc : Thread Cert.FfnReferenceIdeal.nD Cert.FfnReferenceIdeal.τ).loc Cert.FfnReferenceIdeal.main_arg1))
      (m' ((c.tc : Thread Cert.FfnReferenceIdeal.nD Cert.FfnReferenceIdeal.τ).loc Cert.FfnReferenceIdeal.main_arg2))
      (m' ((c.tc : Thread Cert.FfnReferenceIdeal.nD Cert.FfnReferenceIdeal.τ).loc Cert.FfnReferenceIdeal.main_arg3))
      (m' ((c.tc : Thread Cert.FfnReferenceIdeal.nD Cert.FfnReferenceIdeal.τ).loc Cert.FfnReferenceIdeal.main_arg4))
      (m' ((c.tc : Thread Cert.FfnReferenceIdeal.nD Cert.FfnReferenceIdeal.τ).loc Cert.FfnReferenceIdeal.main_arg5))
      (Cert.FfnKernelIdeal.Ffn.data m c) := fun c => by
    obtain ⟨e0, e1, e2, e3, e4, e5⟩ := harg c
    rw [e0, e1, e2, e3, e4, e5]
    exact ⟨(hk c).h, (hk c).g, (hk c).wgu, (hk c).wd, (hk c).wo, (hk c).d⟩
  refine ⟨_, _, _, _, _, Cert.FfnKernelIdeal.Value.run_blocks m g, ?_⟩
  refine (θ_run _ _ _).mono (fun r h c => ?_) (Cert.FfnReferenceIdeal.Value.run (F := Ideal) m' g')
  obtain ⟨h0, h1, h2, h3, h4, ha⟩ := h c
  refine ⟨h0.trans ?_, h1.trans ?_, h2.trans ?_, h3.trans ?_, h4.trans ?_, ha⟩
  · rw [Cert.FfnReferenceIdeal.Read.val_main_v54_eq, ref54 (hr c)]
    exact (Cert.FfnKernelIdeal.Ffn.arr8 (hk c)).symm
  · rw [Cert.FfnReferenceIdeal.Read.val_main_v50_eq, ref50 (hr c)]
    exact (Cert.FfnKernelIdeal.Ffn.arr9 (hk c)).symm
  · rw [Cert.FfnReferenceIdeal.Read.val_main_v55_eq, ref55 (hr c)]
    exact (Cert.FfnKernelIdeal.Ffn.arr10 (hk c)).symm
  · rw [Cert.FfnReferenceIdeal.Read.val_main_v53_eq, ref53 (hr c)]
    exact (Cert.FfnKernelIdeal.Ffn.arr11 (hk c)).symm
  · rw [Cert.FfnReferenceIdeal.Read.val_main_v33_eq, ref33 (hr c)]
    exact (Cert.FfnKernelIdeal.Ffn.arr12 (hk c)).symm

/-- The reference of the gradient of the down projection's weights leaves its arguments alone; it has no semaphores. -/
theorem frame_down_reference : Cert.quiescent_DownReferenceIdeal (hDownReferenceIdeal := Cert.DownReferenceIdeal.Gen.facts) := fun m ρ _ =>
  (θ_run _ _ _).mono (fun r h => ⟨fun c => (h c).2.2, sem_eq_zero_of_no_sems (by decide) r.2⟩)
    (Cert.DownReferenceIdeal.Value.run (F := Ideal) m ρ)

/-- On all arguments the call for the down projection's weights and its reference leave the same two arrays. -/
theorem down_value : Cert.algebraic_DownKernelIdeal_DownReferenceIdeal (hDownKernelIdeal := Cert.DownKernelIdeal.Gen.facts)
    (hDownReferenceIdeal := Cert.DownReferenceIdeal.Gen.facts) := by
  intro m g m' g' _ harg
  refine ⟨_, _, Cert.DownKernelIdeal.Value.run_blocks m g, ?_⟩
  refine (θ_run _ _ _).mono (fun r h c => ?_) (Cert.DownReferenceIdeal.Value.run (F := Ideal) m' g')
  obtain ⟨h0, h1, ha⟩ := h c
  obtain ⟨e0, e1⟩ := harg c
  refine ⟨h0.trans ?_, h1.trans ?_, ha⟩
  · rw [Cert.DownReferenceIdeal.Read.val_main_v7_eq, Cert.DownReferenceIdeal.Down.ref7, e0, e1]
    exact (Cert.DownKernelIdeal.Down.arr2 m c).symm
  · rw [Cert.DownReferenceIdeal.Read.val_main_v8_eq, Cert.DownReferenceIdeal.Down.ref8, e0, e1]
    exact (Cert.DownKernelIdeal.Down.arr3 m c).symm

/-- The reference of the gradient of the output projection's weights leaves its arguments alone; it has no semaphores. -/
theorem frame_out_reference : Cert.quiescent_OutReferenceIdeal (hOutReferenceIdeal := Cert.OutReferenceIdeal.Gen.facts) := fun m ρ _ =>
  (θ_run _ _ _).mono (fun r h => ⟨fun c => (h c).2.2, sem_eq_zero_of_no_sems (by decide) r.2⟩)
    (Cert.OutReferenceIdeal.Value.run (F := Ideal) m ρ)

/-- On all arguments the call for the output projection's weights and its reference leave the same two arrays. -/
theorem out_value : Cert.algebraic_OutKernelIdeal_OutReferenceIdeal (hOutKernelIdeal := Cert.OutKernelIdeal.Gen.facts)
    (hOutReferenceIdeal := Cert.OutReferenceIdeal.Gen.facts) := by
  intro m g m' g' _ harg
  refine ⟨_, _, Cert.OutKernelIdeal.Value.run_blocks m g, ?_⟩
  refine (θ_run _ _ _).mono (fun r h c => ?_) (Cert.OutReferenceIdeal.Value.run (F := Ideal) m' g')
  obtain ⟨h0, h1, ha⟩ := h c
  obtain ⟨e0, e1⟩ := harg c
  refine ⟨h0.trans ?_, h1.trans ?_, ha⟩
  · rw [Cert.OutReferenceIdeal.Read.val_main_v3_eq, Cert.OutReferenceIdeal.Out.ref3, e0, e1]
    exact (Cert.OutKernelIdeal.Out.arr2 m c).symm
  · rw [Cert.OutReferenceIdeal.Read.val_main_v4_eq, Cert.OutReferenceIdeal.Out.ref4, e0, e1]
    exact (Cert.OutKernelIdeal.Out.arr3 m c).symm

/-- All the claims. -/
theorem claim : Cert.Claim :=
  ⟨Cert.FfnKernel.Gen.facts, Cert.FfnKernelIdeal.Gen.facts, Cert.FfnReferenceIdeal.Gen.facts, Cert.Kernel.Gen.facts,
    Cert.KernelIdeal.Gen.facts, Cert.DownKernel.Gen.facts, Cert.DownKernelIdeal.Gen.facts, Cert.DownReferenceIdeal.Gen.facts,
    Cert.OutKernel.Gen.facts, Cert.OutKernelIdeal.Gen.facts, Cert.OutReferenceIdeal.Gen.facts, Cert.FwdKernel.Gen.facts,
    Cert.FwdKernelIdeal.Gen.facts, Cert.FwdReferenceIdeal.Gen.facts, Cert.Pre_finite.Gen.facts, Cert.Pre_finite_fwd.Gen.facts,
    fun m ρ _ => Cert.FfnKernel.Gen.frame m ρ, fun m ρ _ => Cert.FfnKernelIdeal.Gen.frame m ρ,
    fun m ρ _ => Cert.FfnKernelIdeal.Gen.frame m ρ, frame_ffn_reference, fun m ρ _ => frame_ffn_reference m ρ trivial,
    frame_kernel, frame_ideal,
    fun m ρ _ => Cert.DownKernel.Gen.frame m ρ, fun m ρ _ => Cert.DownKernelIdeal.Gen.frame m ρ, frame_down_reference,
    fun m ρ _ => Cert.OutKernel.Gen.frame m ρ, fun m ρ _ => Cert.OutKernelIdeal.Gen.frame m ρ, frame_out_reference,
    frame_fwd_kernel, frame_fwd_ideal, fun m ρ _ => frame_fwd_ideal m ρ trivial, frame_fwd_reference, fun m ρ _ => frame_fwd_reference m ρ trivial,
    trivial, ffn_value, named_kept, trivial, down_value, trivial, out_value, trivial, fwd_value⟩

end Cert.Proof

end
